-- ==== Defs.lean ====
def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_forget_finite [hPre_forget_finite : Cert.Pre_forget_finite.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_forget_finite.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)) (m ((c.tc : Thread Cert.ForgetIdeal.nD Cert.ForgetIdeal.τ).loc Cert.ForgetIdeal.main_arg3))) = (fun _ => 1#1)

def Pre_ForgetRefIdeal (m : (ℓ : Loc Cert.ForgetRefIdeal.nD Cert.ForgetRefIdeal.τ Cert.ForgetRefIdeal.sig) → Buf (Elt Ideal) ℓ) : Prop :=
  True

def Pre_ForgetRefIdeal_forget_finite [hPre_forget_finite : Cert.Pre_forget_finite.Facts] (m : (ℓ : Loc Cert.ForgetRefIdeal.nD Cert.ForgetRefIdeal.τ Cert.ForgetRefIdeal.sig) → Buf (Elt Ideal) ℓ) : Prop :=
  ∀ c : Dev Cert.ForgetRefIdeal.nD,
    (Cert.Pre_forget_finite.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2)) (m ((c.tc : Thread Cert.ForgetRefIdeal.nD Cert.ForgetRefIdeal.τ).loc Cert.ForgetRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DInput (m : (ℓ : Loc Cert.DInput.nD Cert.DInput.τ Cert.DInput.sig) → Buf (Elt Bits) ℓ) : Prop :=
  True

def Pre_DInputIdeal (m : (ℓ : Loc Cert.DInputIdeal.nD Cert.DInputIdeal.τ Cert.DInputIdeal.sig) → Buf (Elt Ideal) ℓ) : Prop :=
  True

def Pre_DInputRefIdeal (m : (ℓ : Loc Cert.DInputRefIdeal.nD Cert.DInputRefIdeal.τ Cert.DInputRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_DwGates (m : (ℓ : Loc Cert.DwGates.nD Cert.DwGates.τ Cert.DwGates.sig) → Buf (Elt Bits) ℓ) : Prop :=
  True

def Pre_DwGatesIdeal (m : (ℓ : Loc Cert.DwGatesIdeal.nD Cert.DwGatesIdeal.τ Cert.DwGatesIdeal.sig) → Buf (Elt Ideal) ℓ) : Prop :=
  True

def Pre_DwGatesRefIdeal (m : (ℓ : Loc Cert.DwGatesRefIdeal.nD Cert.DwGatesRefIdeal.τ Cert.DwGatesRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwBranchRefIdeal (m : (ℓ : Loc Cert.AdamwBranchRefIdeal.nD Cert.AdamwBranchRefIdeal.τ Cert.AdamwBranchRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwGain (m : (ℓ : Loc Cert.AdamwGain.nD Cert.AdamwGain.τ Cert.AdamwGain.sig) → Buf (Elt Bits) ℓ) : Prop :=
  True

def Pre_AdamwGainIdeal (m : (ℓ : Loc Cert.AdamwGainIdeal.nD Cert.AdamwGainIdeal.τ Cert.AdamwGainIdeal.sig) → Buf (Elt Ideal) ℓ) : Prop :=
  True

def Pre_AdamwGainRefIdeal (m : (ℓ : Loc Cert.AdamwGainRefIdeal.nD Cert.AdamwGainRefIdeal.τ Cert.AdamwGainRefIdeal.sig) → Buf (Elt Ideal) ℓ) : Prop :=
  True

def Pre_AdamwForget (m : (ℓ : Loc Cert.AdamwForget.nD Cert.AdamwForget.τ Cert.AdamwForget.sig) → Buf (Elt Bits) ℓ) : Prop :=
  True

def Pre_AdamwForgetIdeal (m : (ℓ : Loc Cert.AdamwForgetIdeal.nD Cert.AdamwForgetIdeal.τ Cert.AdamwForgetIdeal.sig) → Buf (Elt Ideal) ℓ) : Prop :=
  True

def Pre_AdamwForgetRefIdeal (m : (ℓ : Loc Cert.AdamwForgetRefIdeal.nD Cert.AdamwForgetRefIdeal.τ Cert.AdamwForgetRefIdeal.sig) → Buf (Elt Ideal) ℓ) : Prop :=
  True

def Pre_AdamwSgu (m : (ℓ : Loc Cert.AdamwSgu.nD Cert.AdamwSgu.τ Cert.AdamwSgu.sig) → Buf (Elt Bits) ℓ) : Prop :=
  True

def Pre_AdamwSguIdeal (m : (ℓ : Loc Cert.AdamwSguIdeal.nD Cert.AdamwSguIdeal.τ Cert.AdamwSguIdeal.sig) → Buf (Elt Ideal) ℓ) : Prop :=
  True

def Pre_AdamwSguRefIdeal (m : (ℓ : Loc Cert.AdamwSguRefIdeal.nD Cert.AdamwSguRefIdeal.τ Cert.AdamwSguRefIdeal.sig) → Buf (Elt Ideal) ℓ) : Prop :=
  True

def Pre_AdamwSpatial (m : (ℓ : Loc Cert.AdamwSpatial.nD Cert.AdamwSpatial.τ Cert.AdamwSpatial.sig) → Buf (Elt Bits) ℓ) : Prop :=
  True

def Pre_AdamwSpatialIdeal (m : (ℓ : Loc Cert.AdamwSpatialIdeal.nD Cert.AdamwSpatialIdeal.τ Cert.AdamwSpatialIdeal.sig) → Buf (Elt Ideal) ℓ) : Prop :=
  True

def Pre_AdamwSpatialRefIdeal (m : (ℓ : Loc Cert.AdamwSpatialRefIdeal.nD Cert.AdamwSpatialRefIdeal.τ Cert.AdamwSpatialRefIdeal.sig) → Buf (Elt Ideal) ℓ) : Prop :=
  True

def Pre_AdamwBias (m : (ℓ : Loc Cert.AdamwBias.nD Cert.AdamwBias.τ Cert.AdamwBias.sig) → Buf (Elt Bits) ℓ) : Prop :=
  True

def Pre_AdamwBiasIdeal (m : (ℓ : Loc Cert.AdamwBiasIdeal.nD Cert.AdamwBiasIdeal.τ Cert.AdamwBiasIdeal.sig) → Buf (Elt Ideal) ℓ) : Prop :=
  True

def Pre_AdamwBiasRefIdeal (m : (ℓ : Loc Cert.AdamwBiasRefIdeal.nD Cert.AdamwBiasRefIdeal.τ Cert.AdamwBiasRefIdeal.sig) → Buf (Elt Ideal) ℓ) : Prop :=
  True

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetIdeal_pre_forget_finite [hForgetIdeal : Cert.ForgetIdeal.Facts] [hPre_forget_finite : Cert.Pre_forget_finite.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_forget_finite m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_ForgetRefIdeal_pre_forget_finite [hForgetRefIdeal : Cert.ForgetRefIdeal.Facts] [hPre_forget_finite : Cert.Pre_forget_finite.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal_forget_finite m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2)
      ∧ r.2.mem ((c.tc : Thread Cert.Relu2.nD Cert.Relu2.τ).loc Cert.Relu2.main_arg3) = m ((c.tc : Thread Cert.Relu2.nD Cert.Relu2.τ).loc Cert.Relu2.main_arg3))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2)
      ∧ r.2.mem ((c.tc : Thread Cert.Relu2Ideal.nD Cert.Relu2Ideal.τ).loc Cert.Relu2Ideal.main_arg3) = m ((c.tc : Thread Cert.Relu2Ideal.nD Cert.Relu2Ideal.τ).loc Cert.Relu2Ideal.main_arg3))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2)
      ∧ r.2.mem ((c.tc : Thread Cert.Relu2RefIdeal.nD Cert.Relu2RefIdeal.τ).loc Cert.Relu2RefIdeal.main_arg3) = m ((c.tc : Thread Cert.Relu2RefIdeal.nD Cert.Relu2RefIdeal.τ).loc Cert.Relu2RefIdeal.main_arg3))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5)
      ∧ r.2.mem ((c.tc : Thread Cert.Norms.nD Cert.Norms.τ).loc Cert.Norms.main_arg6) = m ((c.tc : Thread Cert.Norms.nD Cert.Norms.τ).loc Cert.Norms.main_arg6))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5)
      ∧ r.2.mem ((c.tc : Thread Cert.NormsRefIdeal.nD Cert.NormsRefIdeal.τ).loc Cert.NormsRefIdeal.main_arg6) = m ((c.tc : Thread Cert.NormsRefIdeal.nD Cert.NormsRefIdeal.τ).loc Cert.NormsRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_DInput [hDInput : Cert.DInput.Facts] : Prop :=
  ∀ (m : (ℓ : Loc Cert.DInput.nD Cert.DInput.τ Cert.DInput.sig) → Buf (Elt Bits) ℓ) (g : Dev Cert.DInput.nD → PrngReg), Pre_DInput m →
    θ_run (Cert.DInput.defs (F := Bits)) (onTc (τ := Cert.DInput.τ) (Cert.DInput.main (F := Bits))) ⟨m, fun _ => 0, g⟩ (fun r => (∀ c : Dev Cert.DInput.nD,
      r.2.mem ((c.tc : Thread Cert.DInput.nD Cert.DInput.τ).loc Cert.DInput.main_arg0) = m ((c.tc : Thread Cert.DInput.nD Cert.DInput.τ).loc Cert.DInput.main_arg0)
      ∧ r.2.mem ((c.tc : Thread Cert.DInput.nD Cert.DInput.τ).loc Cert.DInput.main_arg1) = m ((c.tc : Thread Cert.DInput.nD Cert.DInput.τ).loc Cert.DInput.main_arg1)
      ∧ r.2.mem ((c.tc : Thread Cert.DInput.nD Cert.DInput.τ).loc Cert.DInput.main_arg2) = m ((c.tc : Thread Cert.DInput.nD Cert.DInput.τ).loc Cert.DInput.main_arg2)
      ∧ r.2.mem ((c.tc : Thread Cert.DInput.nD Cert.DInput.τ).loc Cert.DInput.main_arg3) = m ((c.tc : Thread Cert.DInput.nD Cert.DInput.τ).loc Cert.DInput.main_arg3)
      ∧ r.2.mem ((c.tc : Thread Cert.DInput.nD Cert.DInput.τ).loc Cert.DInput.main_arg4) = m ((c.tc : Thread Cert.DInput.nD Cert.DInput.τ).loc Cert.DInput.main_arg4)
      ∧ r.2.mem ((c.tc : Thread Cert.DInput.nD Cert.DInput.τ).loc Cert.DInput.main_arg5) = m ((c.tc : Thread Cert.DInput.nD Cert.DInput.τ).loc Cert.DInput.main_arg5)
      ∧ r.2.mem ((c.tc : Thread Cert.DInput.nD Cert.DInput.τ).loc Cert.DInput.main_arg6) = m ((c.tc : Thread Cert.DInput.nD Cert.DInput.τ).loc Cert.DInput.main_arg6)
      ∧ r.2.mem ((c.tc : Thread Cert.DInput.nD Cert.DInput.τ).loc Cert.DInput.main_arg7) = m ((c.tc : Thread Cert.DInput.nD Cert.DInput.τ).loc Cert.DInput.main_arg7)
      ∧ r.2.mem ((c.tc : Thread Cert.DInput.nD Cert.DInput.τ).loc Cert.DInput.main_arg8) = m ((c.tc : Thread Cert.DInput.nD Cert.DInput.τ).loc Cert.DInput.main_arg8)
      ∧ r.2.mem ((c.tc : Thread Cert.DInput.nD Cert.DInput.τ).loc Cert.DInput.main_arg9) = m ((c.tc : Thread Cert.DInput.nD Cert.DInput.τ).loc Cert.DInput.main_arg9)
      ∧ r.2.mem ((c.tc : Thread Cert.DInput.nD Cert.DInput.τ).loc Cert.DInput.main_arg10) = m ((c.tc : Thread Cert.DInput.nD Cert.DInput.τ).loc Cert.DInput.main_arg10))
      ∧ r.2.sem = fun _ => 0)

def quiescent_DInputIdeal [hDInputIdeal : Cert.DInputIdeal.Facts] : Prop :=
  ∀ (m : (ℓ : Loc Cert.DInputIdeal.nD Cert.DInputIdeal.τ Cert.DInputIdeal.sig) → Buf (Elt Ideal) ℓ) (g : Dev Cert.DInputIdeal.nD → PrngReg), Pre_DInputIdeal m →
    θ_run (Cert.DInputIdeal.defs (F := Ideal)) (onTc (τ := Cert.DInputIdeal.τ) (Cert.DInputIdeal.main (F := Ideal))) ⟨m, fun _ => 0, g⟩ (fun r => (∀ c : Dev Cert.DInputIdeal.nD,
      r.2.mem ((c.tc : Thread Cert.DInputIdeal.nD Cert.DInputIdeal.τ).loc Cert.DInputIdeal.main_arg0) = m ((c.tc : Thread Cert.DInputIdeal.nD Cert.DInputIdeal.τ).loc Cert.DInputIdeal.main_arg0)
      ∧ r.2.mem ((c.tc : Thread Cert.DInputIdeal.nD Cert.DInputIdeal.τ).loc Cert.DInputIdeal.main_arg1) = m ((c.tc : Thread Cert.DInputIdeal.nD Cert.DInputIdeal.τ).loc Cert.DInputIdeal.main_arg1)
      ∧ r.2.mem ((c.tc : Thread Cert.DInputIdeal.nD Cert.DInputIdeal.τ).loc Cert.DInputIdeal.main_arg2) = m ((c.tc : Thread Cert.DInputIdeal.nD Cert.DInputIdeal.τ).loc Cert.DInputIdeal.main_arg2)
      ∧ r.2.mem ((c.tc : Thread Cert.DInputIdeal.nD Cert.DInputIdeal.τ).loc Cert.DInputIdeal.main_arg3) = m ((c.tc : Thread Cert.DInputIdeal.nD Cert.DInputIdeal.τ).loc Cert.DInputIdeal.main_arg3)
      ∧ r.2.mem ((c.tc : Thread Cert.DInputIdeal.nD Cert.DInputIdeal.τ).loc Cert.DInputIdeal.main_arg4) = m ((c.tc : Thread Cert.DInputIdeal.nD Cert.DInputIdeal.τ).loc Cert.DInputIdeal.main_arg4)
      ∧ r.2.mem ((c.tc : Thread Cert.DInputIdeal.nD Cert.DInputIdeal.τ).loc Cert.DInputIdeal.main_arg5) = m ((c.tc : Thread Cert.DInputIdeal.nD Cert.DInputIdeal.τ).loc Cert.DInputIdeal.main_arg5)
      ∧ r.2.mem ((c.tc : Thread Cert.DInputIdeal.nD Cert.DInputIdeal.τ).loc Cert.DInputIdeal.main_arg6) = m ((c.tc : Thread Cert.DInputIdeal.nD Cert.DInputIdeal.τ).loc Cert.DInputIdeal.main_arg6)
      ∧ r.2.mem ((c.tc : Thread Cert.DInputIdeal.nD Cert.DInputIdeal.τ).loc Cert.DInputIdeal.main_arg7) = m ((c.tc : Thread Cert.DInputIdeal.nD Cert.DInputIdeal.τ).loc Cert.DInputIdeal.main_arg7)
      ∧ r.2.mem ((c.tc : Thread Cert.DInputIdeal.nD Cert.DInputIdeal.τ).loc Cert.DInputIdeal.main_arg8) = m ((c.tc : Thread Cert.DInputIdeal.nD Cert.DInputIdeal.τ).loc Cert.DInputIdeal.main_arg8)
      ∧ r.2.mem ((c.tc : Thread Cert.DInputIdeal.nD Cert.DInputIdeal.τ).loc Cert.DInputIdeal.main_arg9) = m ((c.tc : Thread Cert.DInputIdeal.nD Cert.DInputIdeal.τ).loc Cert.DInputIdeal.main_arg9)
      ∧ r.2.mem ((c.tc : Thread Cert.DInputIdeal.nD Cert.DInputIdeal.τ).loc Cert.DInputIdeal.main_arg10) = m ((c.tc : Thread Cert.DInputIdeal.nD Cert.DInputIdeal.τ).loc Cert.DInputIdeal.main_arg10))
      ∧ r.2.sem = fun _ => 0)

def quiescent_DInputRefIdeal [hDInputRefIdeal : Cert.DInputRefIdeal.Facts] : Prop :=
  ∀ (m : (ℓ : Loc Cert.DInputRefIdeal.nD Cert.DInputRefIdeal.τ Cert.DInputRefIdeal.sig) → Buf (Elt Ideal) ℓ) (g : Dev Cert.DInputRefIdeal.nD → PrngReg), Pre_DInputRefIdeal m →
    θ_run (Cert.DInputRefIdeal.defs (F := Ideal)) (onTc (τ := Cert.DInputRefIdeal.τ) (Cert.DInputRefIdeal.main (F := Ideal))) ⟨m, fun _ => 0, g⟩ (fun r => (∀ c : Dev Cert.DInputRefIdeal.nD,
      r.2.mem ((c.tc : Thread Cert.DInputRefIdeal.nD Cert.DInputRefIdeal.τ).loc Cert.DInputRefIdeal.main_arg0) = m ((c.tc : Thread Cert.DInputRefIdeal.nD Cert.DInputRefIdeal.τ).loc Cert.DInputRefIdeal.main_arg0)
      ∧ r.2.mem ((c.tc : Thread Cert.DInputRefIdeal.nD Cert.DInputRefIdeal.τ).loc Cert.DInputRefIdeal.main_arg1) = m ((c.tc : Thread Cert.DInputRefIdeal.nD Cert.DInputRefIdeal.τ).loc Cert.DInputRefIdeal.main_arg1)
      ∧ r.2.mem ((c.tc : Thread Cert.DInputRefIdeal.nD Cert.DInputRefIdeal.τ).loc Cert.DInputRefIdeal.main_arg2) = m ((c.tc : Thread Cert.DInputRefIdeal.nD Cert.DInputRefIdeal.τ).loc Cert.DInputRefIdeal.main_arg2)
      ∧ r.2.mem ((c.tc : Thread Cert.DInputRefIdeal.nD Cert.DInputRefIdeal.τ).loc Cert.DInputRefIdeal.main_arg3) = m ((c.tc : Thread Cert.DInputRefIdeal.nD Cert.DInputRefIdeal.τ).loc Cert.DInputRefIdeal.main_arg3)
      ∧ r.2.mem ((c.tc : Thread Cert.DInputRefIdeal.nD Cert.DInputRefIdeal.τ).loc Cert.DInputRefIdeal.main_arg4) = m ((c.tc : Thread Cert.DInputRefIdeal.nD Cert.DInputRefIdeal.τ).loc Cert.DInputRefIdeal.main_arg4)
      ∧ r.2.mem ((c.tc : Thread Cert.DInputRefIdeal.nD Cert.DInputRefIdeal.τ).loc Cert.DInputRefIdeal.main_arg5) = m ((c.tc : Thread Cert.DInputRefIdeal.nD Cert.DInputRefIdeal.τ).loc Cert.DInputRefIdeal.main_arg5)
      ∧ r.2.mem ((c.tc : Thread Cert.DInputRefIdeal.nD Cert.DInputRefIdeal.τ).loc Cert.DInputRefIdeal.main_arg6) = m ((c.tc : Thread Cert.DInputRefIdeal.nD Cert.DInputRefIdeal.τ).loc Cert.DInputRefIdeal.main_arg6)
      ∧ r.2.mem ((c.tc : Thread Cert.DInputRefIdeal.nD Cert.DInputRefIdeal.τ).loc Cert.DInputRefIdeal.main_arg7) = m ((c.tc : Thread Cert.DInputRefIdeal.nD Cert.DInputRefIdeal.τ).loc Cert.DInputRefIdeal.main_arg7)
      ∧ r.2.mem ((c.tc : Thread Cert.DInputRefIdeal.nD Cert.DInputRefIdeal.τ).loc Cert.DInputRefIdeal.main_arg8) = m ((c.tc : Thread Cert.DInputRefIdeal.nD Cert.DInputRefIdeal.τ).loc Cert.DInputRefIdeal.main_arg8)
      ∧ r.2.mem ((c.tc : Thread Cert.DInputRefIdeal.nD Cert.DInputRefIdeal.τ).loc Cert.DInputRefIdeal.main_arg9) = m ((c.tc : Thread Cert.DInputRefIdeal.nD Cert.DInputRefIdeal.τ).loc Cert.DInputRefIdeal.main_arg9)
      ∧ r.2.mem ((c.tc : Thread Cert.DInputRefIdeal.nD Cert.DInputRefIdeal.τ).loc Cert.DInputRefIdeal.main_arg10) = m ((c.tc : Thread Cert.DInputRefIdeal.nD Cert.DInputRefIdeal.τ).loc Cert.DInputRefIdeal.main_arg10))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1)
      ∧ r.2.mem ((c.tc : Thread Cert.DwMix.nD Cert.DwMix.τ).loc Cert.DwMix.main_arg2) = m ((c.tc : Thread Cert.DwMix.nD Cert.DwMix.τ).loc Cert.DwMix.main_arg2)
      ∧ r.2.mem ((c.tc : Thread Cert.DwMix.nD Cert.DwMix.τ).loc Cert.DwMix.main_arg3) = m ((c.tc : Thread Cert.DwMix.nD Cert.DwMix.τ).loc Cert.DwMix.main_arg3)
      ∧ r.2.mem ((c.tc : Thread Cert.DwMix.nD Cert.DwMix.τ).loc Cert.DwMix.main_arg4) = m ((c.tc : Thread Cert.DwMix.nD Cert.DwMix.τ).loc Cert.DwMix.main_arg4)
      ∧ r.2.mem ((c.tc : Thread Cert.DwMix.nD Cert.DwMix.τ).loc Cert.DwMix.main_arg5) = m ((c.tc : Thread Cert.DwMix.nD Cert.DwMix.τ).loc Cert.DwMix.main_arg5))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1)
      ∧ r.2.mem ((c.tc : Thread Cert.DwMixIdeal.nD Cert.DwMixIdeal.τ).loc Cert.DwMixIdeal.main_arg2) = m ((c.tc : Thread Cert.DwMixIdeal.nD Cert.DwMixIdeal.τ).loc Cert.DwMixIdeal.main_arg2)
      ∧ r.2.mem ((c.tc : Thread Cert.DwMixIdeal.nD Cert.DwMixIdeal.τ).loc Cert.DwMixIdeal.main_arg3) = m ((c.tc : Thread Cert.DwMixIdeal.nD Cert.DwMixIdeal.τ).loc Cert.DwMixIdeal.main_arg3)
      ∧ r.2.mem ((c.tc : Thread Cert.DwMixIdeal.nD Cert.DwMixIdeal.τ).loc Cert.DwMixIdeal.main_arg4) = m ((c.tc : Thread Cert.DwMixIdeal.nD Cert.DwMixIdeal.τ).loc Cert.DwMixIdeal.main_arg4)
      ∧ r.2.mem ((c.tc : Thread Cert.DwMixIdeal.nD Cert.DwMixIdeal.τ).loc Cert.DwMixIdeal.main_arg5) = m ((c.tc : Thread Cert.DwMixIdeal.nD Cert.DwMixIdeal.τ).loc Cert.DwMixIdeal.main_arg5))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1)
      ∧ r.2.mem ((c.tc : Thread Cert.DwMixRefIdeal.nD Cert.DwMixRefIdeal.τ).loc Cert.DwMixRefIdeal.main_arg2) = m ((c.tc : Thread Cert.DwMixRefIdeal.nD Cert.DwMixRefIdeal.τ).loc Cert.DwMixRefIdeal.main_arg2)
      ∧ r.2.mem ((c.tc : Thread Cert.DwMixRefIdeal.nD Cert.DwMixRefIdeal.τ).loc Cert.DwMixRefIdeal.main_arg3) = m ((c.tc : Thread Cert.DwMixRefIdeal.nD Cert.DwMixRefIdeal.τ).loc Cert.DwMixRefIdeal.main_arg3)
      ∧ r.2.mem ((c.tc : Thread Cert.DwMixRefIdeal.nD Cert.DwMixRefIdeal.τ).loc Cert.DwMixRefIdeal.main_arg4) = m ((c.tc : Thread Cert.DwMixRefIdeal.nD Cert.DwMixRefIdeal.τ).loc Cert.DwMixRefIdeal.main_arg4)
      ∧ r.2.mem ((c.tc : Thread Cert.DwMixRefIdeal.nD Cert.DwMixRefIdeal.τ).loc Cert.DwMixRefIdeal.main_arg5) = m ((c.tc : Thread Cert.DwMixRefIdeal.nD Cert.DwMixRefIdeal.τ).loc Cert.DwMixRefIdeal.main_arg5))
      ∧ r.2.sem = fun _ => 0)

def quiescent_DwGates [hDwGates : Cert.DwGates.Facts] : Prop :=
  ∀ (m : (ℓ : Loc Cert.DwGates.nD Cert.DwGates.τ Cert.DwGates.sig) → Buf (Elt Bits) ℓ) (g : Dev Cert.DwGates.nD → PrngReg), Pre_DwGates m →
    θ_run (Cert.DwGates.defs (F := Bits)) (onTc (τ := Cert.DwGates.τ) (Cert.DwGates.main (F := Bits))) ⟨m, fun _ => 0, g⟩ (fun r => (∀ c : Dev Cert.DwGates.nD,
      r.2.mem ((c.tc : Thread Cert.DwGates.nD Cert.DwGates.τ).loc Cert.DwGates.main_arg0) = m ((c.tc : Thread Cert.DwGates.nD Cert.DwGates.τ).loc Cert.DwGates.main_arg0)
      ∧ r.2.mem ((c.tc : Thread Cert.DwGates.nD Cert.DwGates.τ).loc Cert.DwGates.main_arg1) = m ((c.tc : Thread Cert.DwGates.nD Cert.DwGates.τ).loc Cert.DwGates.main_arg1)
      ∧ r.2.mem ((c.tc : Thread Cert.DwGates.nD Cert.DwGates.τ).loc Cert.DwGates.main_arg2) = m ((c.tc : Thread Cert.DwGates.nD Cert.DwGates.τ).loc Cert.DwGates.main_arg2))
      ∧ r.2.sem = fun _ => 0)

def quiescent_DwGatesIdeal [hDwGatesIdeal : Cert.DwGatesIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg), Pre_DwGatesIdeal m →
    θ_run (Cert.DwGatesIdeal.defs (F := Ideal)) (onTc (τ := Cert.DwGatesIdeal.τ) (Cert.DwGatesIdeal.main (F := Ideal))) ⟨m, fun _ => 0, g⟩ (fun r => (∀ c : Dev Cert.DwGatesIdeal.nD,
      r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
      ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1)
      ∧ r.2.mem ((c.tc : Thread Cert.DwGatesIdeal.nD Cert.DwGatesIdeal.τ).loc Cert.DwGatesIdeal.main_arg2) = m ((c.tc : Thread Cert.DwGatesIdeal.nD Cert.DwGatesIdeal.τ).loc Cert.DwGatesIdeal.main_arg2))
      ∧ r.2.sem = fun _ => 0)

def quiescent_DwGatesRefIdeal [hDwGatesRefIdeal : Cert.DwGatesRefIdeal.Facts] : Prop :=
  ∀ (m : (ℓ : Loc Cert.DwGatesRefIdeal.nD Cert.DwGatesRefIdeal.τ Cert.DwGatesRefIdeal.sig) → Buf (Elt Ideal) ℓ) (g : Dev Cert.DwGatesRefIdeal.nD → PrngReg), Pre_DwGatesRefIdeal m →
    θ_run (Cert.DwGatesRefIdeal.defs (F := Ideal)) (onTc (τ := Cert.DwGatesRefIdeal.τ) (Cert.DwGatesRefIdeal.main (F := Ideal))) ⟨m, fun _ => 0, g⟩ (fun r => (∀ c : Dev Cert.DwGatesRefIdeal.nD,
      r.2.mem ((c.tc : Thread Cert.DwGatesRefIdeal.nD Cert.DwGatesRefIdeal.τ).loc Cert.DwGatesRefIdeal.main_arg0) = m ((c.tc : Thread Cert.DwGatesRefIdeal.nD Cert.DwGatesRefIdeal.τ).loc Cert.DwGatesRefIdeal.main_arg0)
      ∧ r.2.mem ((c.tc : Thread Cert.DwGatesRefIdeal.nD Cert.DwGatesRefIdeal.τ).loc Cert.DwGatesRefIdeal.main_arg1) = m ((c.tc : Thread Cert.DwGatesRefIdeal.nD Cert.DwGatesRefIdeal.τ).loc Cert.DwGatesRefIdeal.main_arg1)
      ∧ r.2.mem ((c.tc : Thread Cert.DwGatesRefIdeal.nD Cert.DwGatesRefIdeal.τ).loc Cert.DwGatesRefIdeal.main_arg2) = m ((c.tc : Thread Cert.DwGatesRefIdeal.nD Cert.DwGatesRefIdeal.τ).loc Cert.DwGatesRefIdeal.main_arg2))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ r.2.sem = fun _ => 0)

def quiescent_AdamwBranchRefIdeal [hAdamwBranchRefIdeal : Cert.AdamwBranchRefIdeal.Facts] : Prop :=
  ∀ (m : (ℓ : Loc Cert.AdamwBranchRefIdeal.nD Cert.AdamwBranchRefIdeal.τ Cert.AdamwBranchRefIdeal.sig) → Buf (Elt Ideal) ℓ) (g : Dev Cert.AdamwBranchRefIdeal.nD → PrngReg), Pre_AdamwBranchRefIdeal m →
    θ_run (Cert.AdamwBranchRefIdeal.defs (F := Ideal)) (onTc (τ := Cert.AdamwBranchRefIdeal.τ) (Cert.AdamwBranchRefIdeal.main (F := Ideal))) ⟨m, fun _ => 0, g⟩ (fun r => (∀ c : Dev Cert.AdamwBranchRefIdeal.nD,
      r.2.mem ((c.tc : Thread Cert.AdamwBranchRefIdeal.nD Cert.AdamwBranchRefIdeal.τ).loc Cert.AdamwBranchRefIdeal.main_arg0) = m ((c.tc : Thread Cert.AdamwBranchRefIdeal.nD Cert.AdamwBranchRefIdeal.τ).loc Cert.AdamwBranchRefIdeal.main_arg0)
      ∧ r.2.mem ((c.tc : Thread Cert.AdamwBranchRefIdeal.nD Cert.AdamwBranchRefIdeal.τ).loc Cert.AdamwBranchRefIdeal.main_arg1) = m ((c.tc : Thread Cert.AdamwBranchRefIdeal.nD Cert.AdamwBranchRefIdeal.τ).loc Cert.AdamwBranchRefIdeal.main_arg1)
      ∧ r.2.mem ((c.tc : Thread Cert.AdamwBranchRefIdeal.nD Cert.AdamwBranchRefIdeal.τ).loc Cert.AdamwBranchRefIdeal.main_arg2) = m ((c.tc : Thread Cert.AdamwBranchRefIdeal.nD Cert.AdamwBranchRefIdeal.τ).loc Cert.AdamwBranchRefIdeal.main_arg2)
      ∧ r.2.mem ((c.tc : Thread Cert.AdamwBranchRefIdeal.nD Cert.AdamwBranchRefIdeal.τ).loc Cert.AdamwBranchRefIdeal.main_arg3) = m ((c.tc : Thread Cert.AdamwBranchRefIdeal.nD Cert.AdamwBranchRefIdeal.τ).loc Cert.AdamwBranchRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwGain [hAdamwGain : Cert.AdamwGain.Facts] : Prop :=
  ∀ (m : (ℓ : Loc Cert.AdamwGain.nD Cert.AdamwGain.τ Cert.AdamwGain.sig) → Buf (Elt Bits) ℓ) (g : Dev Cert.AdamwGain.nD → PrngReg), Pre_AdamwGain m →
    θ_run (Cert.AdamwGain.defs (F := Bits)) (onTc (τ := Cert.AdamwGain.τ) (Cert.AdamwGain.main (F := Bits))) ⟨m, fun _ => 0, g⟩ (fun r => (∀ c : Dev Cert.AdamwGain.nD,
      r.2.mem ((c.tc : Thread Cert.AdamwGain.nD Cert.AdamwGain.τ).loc Cert.AdamwGain.main_arg0) = m ((c.tc : Thread Cert.AdamwGain.nD Cert.AdamwGain.τ).loc Cert.AdamwGain.main_arg0)
      ∧ r.2.mem ((c.tc : Thread Cert.AdamwGain.nD Cert.AdamwGain.τ).loc Cert.AdamwGain.main_arg1) = m ((c.tc : Thread Cert.AdamwGain.nD Cert.AdamwGain.τ).loc Cert.AdamwGain.main_arg1)
      ∧ r.2.mem ((c.tc : Thread Cert.AdamwGain.nD Cert.AdamwGain.τ).loc Cert.AdamwGain.main_arg2) = m ((c.tc : Thread Cert.AdamwGain.nD Cert.AdamwGain.τ).loc Cert.AdamwGain.main_arg2)
      ∧ r.2.mem ((c.tc : Thread Cert.AdamwGain.nD Cert.AdamwGain.τ).loc Cert.AdamwGain.main_arg3) = m ((c.tc : Thread Cert.AdamwGain.nD Cert.AdamwGain.τ).loc Cert.AdamwGain.main_arg3))
      ∧ r.2.sem = fun _ => 0)

def quiescent_AdamwGainIdeal [hAdamwGainIdeal : Cert.AdamwGainIdeal.Facts] : Prop :=
  ∀ (m : (ℓ : Loc Cert.AdamwGainIdeal.nD Cert.AdamwGainIdeal.τ Cert.AdamwGainIdeal.sig) → Buf (Elt Ideal) ℓ) (g : Dev Cert.AdamwGainIdeal.nD → PrngReg), Pre_AdamwGainIdeal m →
    θ_run (Cert.AdamwGainIdeal.defs (F := Ideal)) (onTc (τ := Cert.AdamwGainIdeal.τ) (Cert.AdamwGainIdeal.main (F := Ideal))) ⟨m, fun _ => 0, g⟩ (fun r => (∀ c : Dev Cert.AdamwGainIdeal.nD,
      r.2.mem ((c.tc : Thread Cert.AdamwGainIdeal.nD Cert.AdamwGainIdeal.τ).loc Cert.AdamwGainIdeal.main_arg0) = m ((c.tc : Thread Cert.AdamwGainIdeal.nD Cert.AdamwGainIdeal.τ).loc Cert.AdamwGainIdeal.main_arg0)
      ∧ r.2.mem ((c.tc : Thread Cert.AdamwGainIdeal.nD Cert.AdamwGainIdeal.τ).loc Cert.AdamwGainIdeal.main_arg1) = m ((c.tc : Thread Cert.AdamwGainIdeal.nD Cert.AdamwGainIdeal.τ).loc Cert.AdamwGainIdeal.main_arg1)
      ∧ r.2.mem ((c.tc : Thread Cert.AdamwGainIdeal.nD Cert.AdamwGainIdeal.τ).loc Cert.AdamwGainIdeal.main_arg2) = m ((c.tc : Thread Cert.AdamwGainIdeal.nD Cert.AdamwGainIdeal.τ).loc Cert.AdamwGainIdeal.main_arg2)
      ∧ r.2.mem ((c.tc : Thread Cert.AdamwGainIdeal.nD Cert.AdamwGainIdeal.τ).loc Cert.AdamwGainIdeal.main_arg3) = m ((c.tc : Thread Cert.AdamwGainIdeal.nD Cert.AdamwGainIdeal.τ).loc Cert.AdamwGainIdeal.main_arg3))
      ∧ r.2.sem = fun _ => 0)

def quiescent_AdamwGainRefIdeal [hAdamwGainRefIdeal : Cert.AdamwGainRefIdeal.Facts] : Prop :=
  ∀ (m : (ℓ : Loc Cert.AdamwGainRefIdeal.nD Cert.AdamwGainRefIdeal.τ Cert.AdamwGainRefIdeal.sig) → Buf (Elt Ideal) ℓ) (g : Dev Cert.AdamwGainRefIdeal.nD → PrngReg), Pre_AdamwGainRefIdeal m →
    θ_run (Cert.AdamwGainRefIdeal.defs (F := Ideal)) (onTc (τ := Cert.AdamwGainRefIdeal.τ) (Cert.AdamwGainRefIdeal.main (F := Ideal))) ⟨m, fun _ => 0, g⟩ (fun r => (∀ c : Dev Cert.AdamwGainRefIdeal.nD,
      r.2.mem ((c.tc : Thread Cert.AdamwGainRefIdeal.nD Cert.AdamwGainRefIdeal.τ).loc Cert.AdamwGainRefIdeal.main_arg0) = m ((c.tc : Thread Cert.AdamwGainRefIdeal.nD Cert.AdamwGainRefIdeal.τ).loc Cert.AdamwGainRefIdeal.main_arg0)
      ∧ r.2.mem ((c.tc : Thread Cert.AdamwGainRefIdeal.nD Cert.AdamwGainRefIdeal.τ).loc Cert.AdamwGainRefIdeal.main_arg1) = m ((c.tc : Thread Cert.AdamwGainRefIdeal.nD Cert.AdamwGainRefIdeal.τ).loc Cert.AdamwGainRefIdeal.main_arg1)
      ∧ r.2.mem ((c.tc : Thread Cert.AdamwGainRefIdeal.nD Cert.AdamwGainRefIdeal.τ).loc Cert.AdamwGainRefIdeal.main_arg2) = m ((c.tc : Thread Cert.AdamwGainRefIdeal.nD Cert.AdamwGainRefIdeal.τ).loc Cert.AdamwGainRefIdeal.main_arg2)
      ∧ r.2.mem ((c.tc : Thread Cert.AdamwGainRefIdeal.nD Cert.AdamwGainRefIdeal.τ).loc Cert.AdamwGainRefIdeal.main_arg3) = m ((c.tc : Thread Cert.AdamwGainRefIdeal.nD Cert.AdamwGainRefIdeal.τ).loc Cert.AdamwGainRefIdeal.main_arg3))
      ∧ r.2.sem = fun _ => 0)

def quiescent_AdamwForget [hAdamwForget : Cert.AdamwForget.Facts] : Prop :=
  ∀ (m : (ℓ : Loc Cert.AdamwForget.nD Cert.AdamwForget.τ Cert.AdamwForget.sig) → Buf (Elt Bits) ℓ) (g : Dev Cert.AdamwForget.nD → PrngReg), Pre_AdamwForget m →
    θ_run (Cert.AdamwForget.defs (F := Bits)) (onTc (τ := Cert.AdamwForget.τ) (Cert.AdamwForget.main (F := Bits))) ⟨m, fun _ => 0, g⟩ (fun r => (∀ c : Dev Cert.AdamwForget.nD,
      r.2.mem ((c.tc : Thread Cert.AdamwForget.nD Cert.AdamwForget.τ).loc Cert.AdamwForget.main_arg0) = m ((c.tc : Thread Cert.AdamwForget.nD Cert.AdamwForget.τ).loc Cert.AdamwForget.main_arg0)
      ∧ r.2.mem ((c.tc : Thread Cert.AdamwForget.nD Cert.AdamwForget.τ).loc Cert.AdamwForget.main_arg1) = m ((c.tc : Thread Cert.AdamwForget.nD Cert.AdamwForget.τ).loc Cert.AdamwForget.main_arg1)
      ∧ r.2.mem ((c.tc : Thread Cert.AdamwForget.nD Cert.AdamwForget.τ).loc Cert.AdamwForget.main_arg2) = m ((c.tc : Thread Cert.AdamwForget.nD Cert.AdamwForget.τ).loc Cert.AdamwForget.main_arg2)
      ∧ r.2.mem ((c.tc : Thread Cert.AdamwForget.nD Cert.AdamwForget.τ).loc Cert.AdamwForget.main_arg3) = m ((c.tc : Thread Cert.AdamwForget.nD Cert.AdamwForget.τ).loc Cert.AdamwForget.main_arg3))
      ∧ r.2.sem = fun _ => 0)

def quiescent_AdamwForgetIdeal [hAdamwForgetIdeal : Cert.AdamwForgetIdeal.Facts] : Prop :=
  ∀ (m : (ℓ : Loc Cert.AdamwForgetIdeal.nD Cert.AdamwForgetIdeal.τ Cert.AdamwForgetIdeal.sig) → Buf (Elt Ideal) ℓ) (g : Dev Cert.AdamwForgetIdeal.nD → PrngReg), Pre_AdamwForgetIdeal m →
    θ_run (Cert.AdamwForgetIdeal.defs (F := Ideal)) (onTc (τ := Cert.AdamwForgetIdeal.τ) (Cert.AdamwForgetIdeal.main (F := Ideal))) ⟨m, fun _ => 0, g⟩ (fun r => (∀ c : Dev Cert.AdamwForgetIdeal.nD,
      r.2.mem ((c.tc : Thread Cert.AdamwForgetIdeal.nD Cert.AdamwForgetIdeal.τ).loc Cert.AdamwForgetIdeal.main_arg0) = m ((c.tc : Thread Cert.AdamwForgetIdeal.nD Cert.AdamwForgetIdeal.τ).loc Cert.AdamwForgetIdeal.main_arg0)
      ∧ r.2.mem ((c.tc : Thread Cert.AdamwForgetIdeal.nD Cert.AdamwForgetIdeal.τ).loc Cert.AdamwForgetIdeal.main_arg1) = m ((c.tc : Thread Cert.AdamwForgetIdeal.nD Cert.AdamwForgetIdeal.τ).loc Cert.AdamwForgetIdeal.main_arg1)
      ∧ r.2.mem ((c.tc : Thread Cert.AdamwForgetIdeal.nD Cert.AdamwForgetIdeal.τ).loc Cert.AdamwForgetIdeal.main_arg2) = m ((c.tc : Thread Cert.AdamwForgetIdeal.nD Cert.AdamwForgetIdeal.τ).loc Cert.AdamwForgetIdeal.main_arg2)
      ∧ r.2.mem ((c.tc : Thread Cert.AdamwForgetIdeal.nD Cert.AdamwForgetIdeal.τ).loc Cert.AdamwForgetIdeal.main_arg3) = m ((c.tc : Thread Cert.AdamwForgetIdeal.nD Cert.AdamwForgetIdeal.τ).loc Cert.AdamwForgetIdeal.main_arg3))
      ∧ r.2.sem = fun _ => 0)

def quiescent_AdamwForgetRefIdeal [hAdamwForgetRefIdeal : Cert.AdamwForgetRefIdeal.Facts] : Prop :=
  ∀ (m : (ℓ : Loc Cert.AdamwForgetRefIdeal.nD Cert.AdamwForgetRefIdeal.τ Cert.AdamwForgetRefIdeal.sig) → Buf (Elt Ideal) ℓ) (g : Dev Cert.AdamwForgetRefIdeal.nD → PrngReg), Pre_AdamwForgetRefIdeal m →
    θ_run (Cert.AdamwForgetRefIdeal.defs (F := Ideal)) (onTc (τ := Cert.AdamwForgetRefIdeal.τ) (Cert.AdamwForgetRefIdeal.main (F := Ideal))) ⟨m, fun _ => 0, g⟩ (fun r => (∀ c : Dev Cert.AdamwForgetRefIdeal.nD,
      r.2.mem ((c.tc : Thread Cert.AdamwForgetRefIdeal.nD Cert.AdamwForgetRefIdeal.τ).loc Cert.AdamwForgetRefIdeal.main_arg0) = m ((c.tc : Thread Cert.AdamwForgetRefIdeal.nD Cert.AdamwForgetRefIdeal.τ).loc Cert.AdamwForgetRefIdeal.main_arg0)
      ∧ r.2.mem ((c.tc : Thread Cert.AdamwForgetRefIdeal.nD Cert.AdamwForgetRefIdeal.τ).loc Cert.AdamwForgetRefIdeal.main_arg1) = m ((c.tc : Thread Cert.AdamwForgetRefIdeal.nD Cert.AdamwForgetRefIdeal.τ).loc Cert.AdamwForgetRefIdeal.main_arg1)
      ∧ r.2.mem ((c.tc : Thread Cert.AdamwForgetRefIdeal.nD Cert.AdamwForgetRefIdeal.τ).loc Cert.AdamwForgetRefIdeal.main_arg2) = m ((c.tc : Thread Cert.AdamwForgetRefIdeal.nD Cert.AdamwForgetRefIdeal.τ).loc Cert.AdamwForgetRefIdeal.main_arg2)
      ∧ r.2.mem ((c.tc : Thread Cert.AdamwForgetRefIdeal.nD Cert.AdamwForgetRefIdeal.τ).loc Cert.AdamwForgetRefIdeal.main_arg3) = m ((c.tc : Thread Cert.AdamwForgetRefIdeal.nD Cert.AdamwForgetRefIdeal.τ).loc Cert.AdamwForgetRefIdeal.main_arg3))
      ∧ r.2.sem = fun _ => 0)

def quiescent_AdamwSgu [hAdamwSgu : Cert.AdamwSgu.Facts] : Prop :=
  ∀ (m : (ℓ : Loc Cert.AdamwSgu.nD Cert.AdamwSgu.τ Cert.AdamwSgu.sig) → Buf (Elt Bits) ℓ) (g : Dev Cert.AdamwSgu.nD → PrngReg), Pre_AdamwSgu m →
    θ_run (Cert.AdamwSgu.defs (F := Bits)) (onTc (τ := Cert.AdamwSgu.τ) (Cert.AdamwSgu.main (F := Bits))) ⟨m, fun _ => 0, g⟩ (fun r => (∀ c : Dev Cert.AdamwSgu.nD,
      r.2.mem ((c.tc : Thread Cert.AdamwSgu.nD Cert.AdamwSgu.τ).loc Cert.AdamwSgu.main_arg0) = m ((c.tc : Thread Cert.AdamwSgu.nD Cert.AdamwSgu.τ).loc Cert.AdamwSgu.main_arg0)
      ∧ r.2.mem ((c.tc : Thread Cert.AdamwSgu.nD Cert.AdamwSgu.τ).loc Cert.AdamwSgu.main_arg1) = m ((c.tc : Thread Cert.AdamwSgu.nD Cert.AdamwSgu.τ).loc Cert.AdamwSgu.main_arg1)
      ∧ r.2.mem ((c.tc : Thread Cert.AdamwSgu.nD Cert.AdamwSgu.τ).loc Cert.AdamwSgu.main_arg2) = m ((c.tc : Thread Cert.AdamwSgu.nD Cert.AdamwSgu.τ).loc Cert.AdamwSgu.main_arg2)
      ∧ r.2.mem ((c.tc : Thread Cert.AdamwSgu.nD Cert.AdamwSgu.τ).loc Cert.AdamwSgu.main_arg3) = m ((c.tc : Thread Cert.AdamwSgu.nD Cert.AdamwSgu.τ).loc Cert.AdamwSgu.main_arg3))
      ∧ r.2.sem = fun _ => 0)

def quiescent_AdamwSguIdeal [hAdamwSguIdeal : Cert.AdamwSguIdeal.Facts] : Prop :=
  ∀ (m : (ℓ : Loc Cert.AdamwSguIdeal.nD Cert.AdamwSguIdeal.τ Cert.AdamwSguIdeal.sig) → Buf (Elt Ideal) ℓ) (g : Dev Cert.AdamwSguIdeal.nD → PrngReg), Pre_AdamwSguIdeal m →
    θ_run (Cert.AdamwSguIdeal.defs (F := Ideal)) (onTc (τ := Cert.AdamwSguIdeal.τ) (Cert.AdamwSguIdeal.main (F := Ideal))) ⟨m, fun _ => 0, g⟩ (fun r => (∀ c : Dev Cert.AdamwSguIdeal.nD,
      r.2.mem ((c.tc : Thread Cert.AdamwSguIdeal.nD Cert.AdamwSguIdeal.τ).loc Cert.AdamwSguIdeal.main_arg0) = m ((c.tc : Thread Cert.AdamwSguIdeal.nD Cert.AdamwSguIdeal.τ).loc Cert.AdamwSguIdeal.main_arg0)
      ∧ r.2.mem ((c.tc : Thread Cert.AdamwSguIdeal.nD Cert.AdamwSguIdeal.τ).loc Cert.AdamwSguIdeal.main_arg1) = m ((c.tc : Thread Cert.AdamwSguIdeal.nD Cert.AdamwSguIdeal.τ).loc Cert.AdamwSguIdeal.main_arg1)
      ∧ r.2.mem ((c.tc : Thread Cert.AdamwSguIdeal.nD Cert.AdamwSguIdeal.τ).loc Cert.AdamwSguIdeal.main_arg2) = m ((c.tc : Thread Cert.AdamwSguIdeal.nD Cert.AdamwSguIdeal.τ).loc Cert.AdamwSguIdeal.main_arg2)
      ∧ r.2.mem ((c.tc : Thread Cert.AdamwSguIdeal.nD Cert.AdamwSguIdeal.τ).loc Cert.AdamwSguIdeal.main_arg3) = m ((c.tc : Thread Cert.AdamwSguIdeal.nD Cert.AdamwSguIdeal.τ).loc Cert.AdamwSguIdeal.main_arg3))
      ∧ r.2.sem = fun _ => 0)

def quiescent_AdamwSguRefIdeal [hAdamwSguRefIdeal : Cert.AdamwSguRefIdeal.Facts] : Prop :=
  ∀ (m : (ℓ : Loc Cert.AdamwSguRefIdeal.nD Cert.AdamwSguRefIdeal.τ Cert.AdamwSguRefIdeal.sig) → Buf (Elt Ideal) ℓ) (g : Dev Cert.AdamwSguRefIdeal.nD → PrngReg), Pre_AdamwSguRefIdeal m →
    θ_run (Cert.AdamwSguRefIdeal.defs (F := Ideal)) (onTc (τ := Cert.AdamwSguRefIdeal.τ) (Cert.AdamwSguRefIdeal.main (F := Ideal))) ⟨m, fun _ => 0, g⟩ (fun r => (∀ c : Dev Cert.AdamwSguRefIdeal.nD,
      r.2.mem ((c.tc : Thread Cert.AdamwSguRefIdeal.nD Cert.AdamwSguRefIdeal.τ).loc Cert.AdamwSguRefIdeal.main_arg0) = m ((c.tc : Thread Cert.AdamwSguRefIdeal.nD Cert.AdamwSguRefIdeal.τ).loc Cert.AdamwSguRefIdeal.main_arg0)
      ∧ r.2.mem ((c.tc : Thread Cert.AdamwSguRefIdeal.nD Cert.AdamwSguRefIdeal.τ).loc Cert.AdamwSguRefIdeal.main_arg1) = m ((c.tc : Thread Cert.AdamwSguRefIdeal.nD Cert.AdamwSguRefIdeal.τ).loc Cert.AdamwSguRefIdeal.main_arg1)
      ∧ r.2.mem ((c.tc : Thread Cert.AdamwSguRefIdeal.nD Cert.AdamwSguRefIdeal.τ).loc Cert.AdamwSguRefIdeal.main_arg2) = m ((c.tc : Thread Cert.AdamwSguRefIdeal.nD Cert.AdamwSguRefIdeal.τ).loc Cert.AdamwSguRefIdeal.main_arg2)
      ∧ r.2.mem ((c.tc : Thread Cert.AdamwSguRefIdeal.nD Cert.AdamwSguRefIdeal.τ).loc Cert.AdamwSguRefIdeal.main_arg3) = m ((c.tc : Thread Cert.AdamwSguRefIdeal.nD Cert.AdamwSguRefIdeal.τ).loc Cert.AdamwSguRefIdeal.main_arg3))
      ∧ r.2.sem = fun _ => 0)

def quiescent_AdamwSpatial [hAdamwSpatial : Cert.AdamwSpatial.Facts] : Prop :=
  ∀ (m : (ℓ : Loc Cert.AdamwSpatial.nD Cert.AdamwSpatial.τ Cert.AdamwSpatial.sig) → Buf (Elt Bits) ℓ) (g : Dev Cert.AdamwSpatial.nD → PrngReg), Pre_AdamwSpatial m →
    θ_run (Cert.AdamwSpatial.defs (F := Bits)) (onTc (τ := Cert.AdamwSpatial.τ) (Cert.AdamwSpatial.main (F := Bits))) ⟨m, fun _ => 0, g⟩ (fun r => (∀ c : Dev Cert.AdamwSpatial.nD,
      r.2.mem ((c.tc : Thread Cert.AdamwSpatial.nD Cert.AdamwSpatial.τ).loc Cert.AdamwSpatial.main_arg0) = m ((c.tc : Thread Cert.AdamwSpatial.nD Cert.AdamwSpatial.τ).loc Cert.AdamwSpatial.main_arg0)
      ∧ r.2.mem ((c.tc : Thread Cert.AdamwSpatial.nD Cert.AdamwSpatial.τ).loc Cert.AdamwSpatial.main_arg1) = m ((c.tc : Thread Cert.AdamwSpatial.nD Cert.AdamwSpatial.τ).loc Cert.AdamwSpatial.main_arg1)
      ∧ r.2.mem ((c.tc : Thread Cert.AdamwSpatial.nD Cert.AdamwSpatial.τ).loc Cert.AdamwSpatial.main_arg2) = m ((c.tc : Thread Cert.AdamwSpatial.nD Cert.AdamwSpatial.τ).loc Cert.AdamwSpatial.main_arg2)
      ∧ r.2.mem ((c.tc : Thread Cert.AdamwSpatial.nD Cert.AdamwSpatial.τ).loc Cert.AdamwSpatial.main_arg3) = m ((c.tc : Thread Cert.AdamwSpatial.nD Cert.AdamwSpatial.τ).loc Cert.AdamwSpatial.main_arg3))
      ∧ r.2.sem = fun _ => 0)

def quiescent_AdamwSpatialIdeal [hAdamwSpatialIdeal : Cert.AdamwSpatialIdeal.Facts] : Prop :=
  ∀ (m : (ℓ : Loc Cert.AdamwSpatialIdeal.nD Cert.AdamwSpatialIdeal.τ Cert.AdamwSpatialIdeal.sig) → Buf (Elt Ideal) ℓ) (g : Dev Cert.AdamwSpatialIdeal.nD → PrngReg), Pre_AdamwSpatialIdeal m →
    θ_run (Cert.AdamwSpatialIdeal.defs (F := Ideal)) (onTc (τ := Cert.AdamwSpatialIdeal.τ) (Cert.AdamwSpatialIdeal.main (F := Ideal))) ⟨m, fun _ => 0, g⟩ (fun r => (∀ c : Dev Cert.AdamwSpatialIdeal.nD,
      r.2.mem ((c.tc : Thread Cert.AdamwSpatialIdeal.nD Cert.AdamwSpatialIdeal.τ).loc Cert.AdamwSpatialIdeal.main_arg0) = m ((c.tc : Thread Cert.AdamwSpatialIdeal.nD Cert.AdamwSpatialIdeal.τ).loc Cert.AdamwSpatialIdeal.main_arg0)
      ∧ r.2.mem ((c.tc : Thread Cert.AdamwSpatialIdeal.nD Cert.AdamwSpatialIdeal.τ).loc Cert.AdamwSpatialIdeal.main_arg1) = m ((c.tc : Thread Cert.AdamwSpatialIdeal.nD Cert.AdamwSpatialIdeal.τ).loc Cert.AdamwSpatialIdeal.main_arg1)
      ∧ r.2.mem ((c.tc : Thread Cert.AdamwSpatialIdeal.nD Cert.AdamwSpatialIdeal.τ).loc Cert.AdamwSpatialIdeal.main_arg2) = m ((c.tc : Thread Cert.AdamwSpatialIdeal.nD Cert.AdamwSpatialIdeal.τ).loc Cert.AdamwSpatialIdeal.main_arg2)
      ∧ r.2.mem ((c.tc : Thread Cert.AdamwSpatialIdeal.nD Cert.AdamwSpatialIdeal.τ).loc Cert.AdamwSpatialIdeal.main_arg3) = m ((c.tc : Thread Cert.AdamwSpatialIdeal.nD Cert.AdamwSpatialIdeal.τ).loc Cert.AdamwSpatialIdeal.main_arg3))
      ∧ r.2.sem = fun _ => 0)

def quiescent_AdamwSpatialRefIdeal [hAdamwSpatialRefIdeal : Cert.AdamwSpatialRefIdeal.Facts] : Prop :=
  ∀ (m : (ℓ : Loc Cert.AdamwSpatialRefIdeal.nD Cert.AdamwSpatialRefIdeal.τ Cert.AdamwSpatialRefIdeal.sig) → Buf (Elt Ideal) ℓ) (g : Dev Cert.AdamwSpatialRefIdeal.nD → PrngReg), Pre_AdamwSpatialRefIdeal m →
    θ_run (Cert.AdamwSpatialRefIdeal.defs (F := Ideal)) (onTc (τ := Cert.AdamwSpatialRefIdeal.τ) (Cert.AdamwSpatialRefIdeal.main (F := Ideal))) ⟨m, fun _ => 0, g⟩ (fun r => (∀ c : Dev Cert.AdamwSpatialRefIdeal.nD,
      r.2.mem ((c.tc : Thread Cert.AdamwSpatialRefIdeal.nD Cert.AdamwSpatialRefIdeal.τ).loc Cert.AdamwSpatialRefIdeal.main_arg0) = m ((c.tc : Thread Cert.AdamwSpatialRefIdeal.nD Cert.AdamwSpatialRefIdeal.τ).loc Cert.AdamwSpatialRefIdeal.main_arg0)
      ∧ r.2.mem ((c.tc : Thread Cert.AdamwSpatialRefIdeal.nD Cert.AdamwSpatialRefIdeal.τ).loc Cert.AdamwSpatialRefIdeal.main_arg1) = m ((c.tc : Thread Cert.AdamwSpatialRefIdeal.nD Cert.AdamwSpatialRefIdeal.τ).loc Cert.AdamwSpatialRefIdeal.main_arg1)
      ∧ r.2.mem ((c.tc : Thread Cert.AdamwSpatialRefIdeal.nD Cert.AdamwSpatialRefIdeal.τ).loc Cert.AdamwSpatialRefIdeal.main_arg2) = m ((c.tc : Thread Cert.AdamwSpatialRefIdeal.nD Cert.AdamwSpatialRefIdeal.τ).loc Cert.AdamwSpatialRefIdeal.main_arg2)
      ∧ r.2.mem ((c.tc : Thread Cert.AdamwSpatialRefIdeal.nD Cert.AdamwSpatialRefIdeal.τ).loc Cert.AdamwSpatialRefIdeal.main_arg3) = m ((c.tc : Thread Cert.AdamwSpatialRefIdeal.nD Cert.AdamwSpatialRefIdeal.τ).loc Cert.AdamwSpatialRefIdeal.main_arg3))
      ∧ r.2.sem = fun _ => 0)

def quiescent_AdamwBias [hAdamwBias : Cert.AdamwBias.Facts] : Prop :=
  ∀ (m : (ℓ : Loc Cert.AdamwBias.nD Cert.AdamwBias.τ Cert.AdamwBias.sig) → Buf (Elt Bits) ℓ) (g : Dev Cert.AdamwBias.nD → PrngReg), Pre_AdamwBias m →
    θ_run (Cert.AdamwBias.defs (F := Bits)) (onTc (τ := Cert.AdamwBias.τ) (Cert.AdamwBias.main (F := Bits))) ⟨m, fun _ => 0, g⟩ (fun r => (∀ c : Dev Cert.AdamwBias.nD,
      r.2.mem ((c.tc : Thread Cert.AdamwBias.nD Cert.AdamwBias.τ).loc Cert.AdamwBias.main_arg0) = m ((c.tc : Thread Cert.AdamwBias.nD Cert.AdamwBias.τ).loc Cert.AdamwBias.main_arg0)
      ∧ r.2.mem ((c.tc : Thread Cert.AdamwBias.nD Cert.AdamwBias.τ).loc Cert.AdamwBias.main_arg1) = m ((c.tc : Thread Cert.AdamwBias.nD Cert.AdamwBias.τ).loc Cert.AdamwBias.main_arg1)
      ∧ r.2.mem ((c.tc : Thread Cert.AdamwBias.nD Cert.AdamwBias.τ).loc Cert.AdamwBias.main_arg2) = m ((c.tc : Thread Cert.AdamwBias.nD Cert.AdamwBias.τ).loc Cert.AdamwBias.main_arg2)
      ∧ r.2.mem ((c.tc : Thread Cert.AdamwBias.nD Cert.AdamwBias.τ).loc Cert.AdamwBias.main_arg3) = m ((c.tc : Thread Cert.AdamwBias.nD Cert.AdamwBias.τ).loc Cert.AdamwBias.main_arg3))
      ∧ r.2.sem = fun _ => 0)

def quiescent_AdamwBiasIdeal [hAdamwBiasIdeal : Cert.AdamwBiasIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg), Pre_AdamwBiasIdeal m →
    θ_run (Cert.AdamwBiasIdeal.defs (F := Ideal)) (onTc (τ := Cert.AdamwBiasIdeal.τ) (Cert.AdamwBiasIdeal.main (F := Ideal))) ⟨m, fun _ => 0, g⟩ (fun r => (∀ c : Dev Cert.AdamwBiasIdeal.nD,
      r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
      ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
      ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
      ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ r.2.sem = fun _ => 0)

def quiescent_AdamwBiasRefIdeal [hAdamwBiasRefIdeal : Cert.AdamwBiasRefIdeal.Facts] : Prop :=
  ∀ (m : (ℓ : Loc Cert.AdamwBiasRefIdeal.nD Cert.AdamwBiasRefIdeal.τ Cert.AdamwBiasRefIdeal.sig) → Buf (Elt Ideal) ℓ) (g : Dev Cert.AdamwBiasRefIdeal.nD → PrngReg), Pre_AdamwBiasRefIdeal m →
    θ_run (Cert.AdamwBiasRefIdeal.defs (F := Ideal)) (onTc (τ := Cert.AdamwBiasRefIdeal.τ) (Cert.AdamwBiasRefIdeal.main (F := Ideal))) ⟨m, fun _ => 0, g⟩ (fun r => (∀ c : Dev Cert.AdamwBiasRefIdeal.nD,
      r.2.mem ((c.tc : Thread Cert.AdamwBiasRefIdeal.nD Cert.AdamwBiasRefIdeal.τ).loc Cert.AdamwBiasRefIdeal.main_arg0) = m ((c.tc : Thread Cert.AdamwBiasRefIdeal.nD Cert.AdamwBiasRefIdeal.τ).loc Cert.AdamwBiasRefIdeal.main_arg0)
      ∧ r.2.mem ((c.tc : Thread Cert.AdamwBiasRefIdeal.nD Cert.AdamwBiasRefIdeal.τ).loc Cert.AdamwBiasRefIdeal.main_arg1) = m ((c.tc : Thread Cert.AdamwBiasRefIdeal.nD Cert.AdamwBiasRefIdeal.τ).loc Cert.AdamwBiasRefIdeal.main_arg1)
      ∧ r.2.mem ((c.tc : Thread Cert.AdamwBiasRefIdeal.nD Cert.AdamwBiasRefIdeal.τ).loc Cert.AdamwBiasRefIdeal.main_arg2) = m ((c.tc : Thread Cert.AdamwBiasRefIdeal.nD Cert.AdamwBiasRefIdeal.τ).loc Cert.AdamwBiasRefIdeal.main_arg2)
      ∧ r.2.mem ((c.tc : Thread Cert.AdamwBiasRefIdeal.nD Cert.AdamwBiasRefIdeal.τ).loc Cert.AdamwBiasRefIdeal.main_arg3) = m ((c.tc : Thread Cert.AdamwBiasRefIdeal.nD Cert.AdamwBiasRefIdeal.τ).loc Cert.AdamwBiasRefIdeal.main_arg3))
      ∧ r.2.sem = fun _ => 0)

def preserves_Forget_ForgetIdeal : Prop :=
  True

def algebraic_ForgetIdeal_ForgetRefIdeal_pre_forget_finite [hForgetIdeal : Cert.ForgetIdeal.Facts] [hForgetRefIdeal : Cert.ForgetRefIdeal.Facts] [hPre_forget_finite : Cert.Pre_forget_finite.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal_forget_finite m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v2_0)) (v1 : (c : Dev Cert.ForgetIdeal.nD) → Buf (Elt Ideal) ((c.tc : Thread Cert.ForgetIdeal.nD Cert.ForgetIdeal.τ).loc Cert.ForgetIdeal.main_v2_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v2_0) = v0 c
          ∧ r.2.mem ((c.tc : Thread Cert.ForgetIdeal.nD Cert.ForgetIdeal.τ).loc Cert.ForgetIdeal.main_v2_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v18) = v0 c
          ∧ r.2.mem ((c.tc : Thread Cert.ForgetRefIdeal.nD Cert.ForgetRefIdeal.τ).loc Cert.ForgetRefIdeal.main_v19) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)) (v2 : (c : Dev Cert.GateIdeal.nD) → Buf (Elt Ideal) ((c.tc : Thread Cert.GateIdeal.nD Cert.GateIdeal.τ).loc Cert.GateIdeal.main_v5_2)) (v3 : (c : Dev Cert.GateIdeal.nD) → Buf (Elt Ideal) ((c.tc : Thread Cert.GateIdeal.nD Cert.GateIdeal.τ).loc Cert.GateIdeal.main_v5_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_v5_2) = v2 c
          ∧ r.2.mem ((c.tc : Thread Cert.GateIdeal.nD Cert.GateIdeal.τ).loc Cert.GateIdeal.main_v5_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v26) = v0 c
          ∧ r.2.mem ((c.tc : Thread Cert.GateRefIdeal.nD Cert.GateRefIdeal.τ).loc Cert.GateRefIdeal.main_v27) = v1 c
          ∧ r.2.mem ((c.tc : Thread Cert.GateRefIdeal.nD Cert.GateRefIdeal.τ).loc Cert.GateRefIdeal.main_v28) = v2 c
          ∧ r.2.mem ((c.tc : Thread Cert.GateRefIdeal.nD Cert.GateRefIdeal.τ).loc Cert.GateRefIdeal.main_v29) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)
      ∧ m' ((c.tc : Thread Cert.Relu2RefIdeal.nD Cert.Relu2RefIdeal.τ).loc Cert.Relu2RefIdeal.main_arg3) = m ((c.tc : Thread Cert.Relu2Ideal.nD Cert.Relu2Ideal.τ).loc Cert.Relu2Ideal.main_arg3)) →
    ∃ (v0 : (c : Dev Cert.Relu2Ideal.nD) → Buf (Elt Ideal) ((c.tc : Thread Cert.Relu2Ideal.nD Cert.Relu2Ideal.τ).loc Cert.Relu2Ideal.main_v6)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v6) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2)
          ∧ r.2.mem ((c.tc : Thread Cert.Relu2Ideal.nD Cert.Relu2Ideal.τ).loc Cert.Relu2Ideal.main_arg3) = m ((c.tc : Thread Cert.Relu2Ideal.nD Cert.Relu2Ideal.τ).loc Cert.Relu2Ideal.main_arg3))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v13) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2)
          ∧ r.2.mem ((c.tc : Thread Cert.Relu2RefIdeal.nD Cert.Relu2RefIdeal.τ).loc Cert.Relu2RefIdeal.main_arg3) = m' ((c.tc : Thread Cert.Relu2RefIdeal.nD Cert.Relu2RefIdeal.τ).loc Cert.Relu2RefIdeal.main_arg3))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)
      ∧ m' ((c.tc : Thread Cert.NormsRefIdeal.nD Cert.NormsRefIdeal.τ).loc Cert.NormsRefIdeal.main_arg6) = m ((c.tc : Thread Cert.NormsIdeal.nD Cert.NormsIdeal.τ).loc Cert.NormsIdeal.main_arg6)) →
    ∃ (v0 : (c : Dev Cert.NormsIdeal.nD) → Buf (Elt Ideal) ((c.tc : Thread Cert.NormsIdeal.nD Cert.NormsIdeal.τ).loc Cert.NormsIdeal.main_v15_0)) (v1 : (c : Dev Cert.NormsIdeal.nD) → Buf (Elt Ideal) ((c.tc : Thread Cert.NormsIdeal.nD Cert.NormsIdeal.τ).loc Cert.NormsIdeal.main_v15_1)) (v2 : (c : Dev Cert.NormsIdeal.nD) → Buf (Elt Ideal) ((c.tc : Thread Cert.NormsIdeal.nD Cert.NormsIdeal.τ).loc Cert.NormsIdeal.main_v15_2)) (v3 : (c : Dev Cert.NormsIdeal.nD) → Buf (Elt Ideal) ((c.tc : Thread Cert.NormsIdeal.nD Cert.NormsIdeal.τ).loc Cert.NormsIdeal.main_v15_3)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v15_0) = v0 c
          ∧ r.2.mem ((c.tc : Thread Cert.NormsIdeal.nD Cert.NormsIdeal.τ).loc Cert.NormsIdeal.main_v15_1) = v1 c
          ∧ r.2.mem ((c.tc : Thread Cert.NormsIdeal.nD Cert.NormsIdeal.τ).loc Cert.NormsIdeal.main_v15_2) = v2 c
          ∧ r.2.mem ((c.tc : Thread Cert.NormsIdeal.nD Cert.NormsIdeal.τ).loc Cert.NormsIdeal.main_v15_3) = v3 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
          ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v52) = v0 c
          ∧ r.2.mem ((c.tc : Thread Cert.NormsRefIdeal.nD Cert.NormsRefIdeal.τ).loc Cert.NormsRefIdeal.main_v73) = v1 c
          ∧ r.2.mem ((c.tc : Thread Cert.NormsRefIdeal.nD Cert.NormsRefIdeal.τ).loc Cert.NormsRefIdeal.main_v35) = v2 c
          ∧ r.2.mem ((c.tc : Thread Cert.NormsRefIdeal.nD Cert.NormsRefIdeal.τ).loc Cert.NormsRefIdeal.main_v56) = v3 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5)
          ∧ r.2.mem ((c.tc : Thread Cert.NormsRefIdeal.nD Cert.NormsRefIdeal.τ).loc Cert.NormsRefIdeal.main_arg6) = m' ((c.tc : Thread Cert.NormsRefIdeal.nD Cert.NormsRefIdeal.τ).loc Cert.NormsRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_2)) (v1 : (c : Dev Cert.LossIdeal.nD) → Buf (Elt Ideal) ((c.tc : Thread Cert.LossIdeal.nD Cert.LossIdeal.τ).loc Cert.LossIdeal.main_v2_0)) (v2 : (c : Dev Cert.LossIdeal.nD) → Buf (Elt Ideal) ((c.tc : Thread Cert.LossIdeal.nD Cert.LossIdeal.τ).loc Cert.LossIdeal.main_v2_1)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_2) = v0 c
          ∧ r.2.mem ((c.tc : Thread Cert.LossIdeal.nD Cert.LossIdeal.τ).loc Cert.LossIdeal.main_v2_0) = v1 c
          ∧ r.2.mem ((c.tc : Thread Cert.LossIdeal.nD Cert.LossIdeal.τ).loc Cert.LossIdeal.main_v2_1) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v30) = v0 c
          ∧ r.2.mem ((c.tc : Thread Cert.LossRefIdeal.nD Cert.LossRefIdeal.τ).loc Cert.LossRefIdeal.main_v36) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_v39) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_DInput_DInputIdeal : Prop :=
  True

def algebraic_DInputIdeal_DInputRefIdeal [hDInputIdeal : Cert.DInputIdeal.Facts] [hDInputRefIdeal : Cert.DInputRefIdeal.Facts] : Prop :=
  ∀ (m : (ℓ : Loc Cert.DInputIdeal.nD Cert.DInputIdeal.τ Cert.DInputIdeal.sig) → Buf (Elt Ideal) ℓ) (g : Dev Cert.DInputIdeal.nD → PrngReg)
    (m' : (ℓ : Loc Cert.DInputRefIdeal.nD Cert.DInputRefIdeal.τ Cert.DInputRefIdeal.sig) → Buf (Elt Ideal) ℓ) (g' : Dev Cert.DInputRefIdeal.nD → PrngReg), Pre_DInputIdeal m →
    (∀ c : Dev Cert.DInputIdeal.nD,
      m' ((c.tc : Thread Cert.DInputRefIdeal.nD Cert.DInputRefIdeal.τ).loc Cert.DInputRefIdeal.main_arg0) = m ((c.tc : Thread Cert.DInputIdeal.nD Cert.DInputIdeal.τ).loc Cert.DInputIdeal.main_arg0)
      ∧ m' ((c.tc : Thread Cert.DInputRefIdeal.nD Cert.DInputRefIdeal.τ).loc Cert.DInputRefIdeal.main_arg1) = m ((c.tc : Thread Cert.DInputIdeal.nD Cert.DInputIdeal.τ).loc Cert.DInputIdeal.main_arg1)
      ∧ m' ((c.tc : Thread Cert.DInputRefIdeal.nD Cert.DInputRefIdeal.τ).loc Cert.DInputRefIdeal.main_arg2) = m ((c.tc : Thread Cert.DInputIdeal.nD Cert.DInputIdeal.τ).loc Cert.DInputIdeal.main_arg2)
      ∧ m' ((c.tc : Thread Cert.DInputRefIdeal.nD Cert.DInputRefIdeal.τ).loc Cert.DInputRefIdeal.main_arg3) = m ((c.tc : Thread Cert.DInputIdeal.nD Cert.DInputIdeal.τ).loc Cert.DInputIdeal.main_arg3)
      ∧ m' ((c.tc : Thread Cert.DInputRefIdeal.nD Cert.DInputRefIdeal.τ).loc Cert.DInputRefIdeal.main_arg4) = m ((c.tc : Thread Cert.DInputIdeal.nD Cert.DInputIdeal.τ).loc Cert.DInputIdeal.main_arg4)
      ∧ m' ((c.tc : Thread Cert.DInputRefIdeal.nD Cert.DInputRefIdeal.τ).loc Cert.DInputRefIdeal.main_arg5) = m ((c.tc : Thread Cert.DInputIdeal.nD Cert.DInputIdeal.τ).loc Cert.DInputIdeal.main_arg5)
      ∧ m' ((c.tc : Thread Cert.DInputRefIdeal.nD Cert.DInputRefIdeal.τ).loc Cert.DInputRefIdeal.main_arg6) = m ((c.tc : Thread Cert.DInputIdeal.nD Cert.DInputIdeal.τ).loc Cert.DInputIdeal.main_arg6)
      ∧ m' ((c.tc : Thread Cert.DInputRefIdeal.nD Cert.DInputRefIdeal.τ).loc Cert.DInputRefIdeal.main_arg7) = m ((c.tc : Thread Cert.DInputIdeal.nD Cert.DInputIdeal.τ).loc Cert.DInputIdeal.main_arg7)
      ∧ m' ((c.tc : Thread Cert.DInputRefIdeal.nD Cert.DInputRefIdeal.τ).loc Cert.DInputRefIdeal.main_arg8) = m ((c.tc : Thread Cert.DInputIdeal.nD Cert.DInputIdeal.τ).loc Cert.DInputIdeal.main_arg8)
      ∧ m' ((c.tc : Thread Cert.DInputRefIdeal.nD Cert.DInputRefIdeal.τ).loc Cert.DInputRefIdeal.main_arg9) = m ((c.tc : Thread Cert.DInputIdeal.nD Cert.DInputIdeal.τ).loc Cert.DInputIdeal.main_arg9)
      ∧ m' ((c.tc : Thread Cert.DInputRefIdeal.nD Cert.DInputRefIdeal.τ).loc Cert.DInputRefIdeal.main_arg10) = m ((c.tc : Thread Cert.DInputIdeal.nD Cert.DInputIdeal.τ).loc Cert.DInputIdeal.main_arg10)) →
    ∃ (v0 : (c : Dev Cert.DInputIdeal.nD) → Buf (Elt Ideal) ((c.tc : Thread Cert.DInputIdeal.nD Cert.DInputIdeal.τ).loc Cert.DInputIdeal.main_v16_0)) (v1 : (c : Dev Cert.DInputIdeal.nD) → Buf (Elt Ideal) ((c.tc : Thread Cert.DInputIdeal.nD Cert.DInputIdeal.τ).loc Cert.DInputIdeal.main_v16_1)),
      θ_run (Cert.DInputIdeal.defs (F := Ideal)) (onTc (τ := Cert.DInputIdeal.τ) (Cert.DInputIdeal.main (F := Ideal))) ⟨m, fun _ => 0, g⟩ (fun r => ∀ c : Dev Cert.DInputIdeal.nD,
          r.2.mem ((c.tc : Thread Cert.DInputIdeal.nD Cert.DInputIdeal.τ).loc Cert.DInputIdeal.main_v16_0) = v0 c
          ∧ r.2.mem ((c.tc : Thread Cert.DInputIdeal.nD Cert.DInputIdeal.τ).loc Cert.DInputIdeal.main_v16_1) = v1 c
          ∧ r.2.mem ((c.tc : Thread Cert.DInputIdeal.nD Cert.DInputIdeal.τ).loc Cert.DInputIdeal.main_arg0) = m ((c.tc : Thread Cert.DInputIdeal.nD Cert.DInputIdeal.τ).loc Cert.DInputIdeal.main_arg0)
          ∧ r.2.mem ((c.tc : Thread Cert.DInputIdeal.nD Cert.DInputIdeal.τ).loc Cert.DInputIdeal.main_arg1) = m ((c.tc : Thread Cert.DInputIdeal.nD Cert.DInputIdeal.τ).loc Cert.DInputIdeal.main_arg1)
          ∧ r.2.mem ((c.tc : Thread Cert.DInputIdeal.nD Cert.DInputIdeal.τ).loc Cert.DInputIdeal.main_arg2) = m ((c.tc : Thread Cert.DInputIdeal.nD Cert.DInputIdeal.τ).loc Cert.DInputIdeal.main_arg2)
          ∧ r.2.mem ((c.tc : Thread Cert.DInputIdeal.nD Cert.DInputIdeal.τ).loc Cert.DInputIdeal.main_arg3) = m ((c.tc : Thread Cert.DInputIdeal.nD Cert.DInputIdeal.τ).loc Cert.DInputIdeal.main_arg3)
          ∧ r.2.mem ((c.tc : Thread Cert.DInputIdeal.nD Cert.DInputIdeal.τ).loc Cert.DInputIdeal.main_arg4) = m ((c.tc : Thread Cert.DInputIdeal.nD Cert.DInputIdeal.τ).loc Cert.DInputIdeal.main_arg4)
          ∧ r.2.mem ((c.tc : Thread Cert.DInputIdeal.nD Cert.DInputIdeal.τ).loc Cert.DInputIdeal.main_arg5) = m ((c.tc : Thread Cert.DInputIdeal.nD Cert.DInputIdeal.τ).loc Cert.DInputIdeal.main_arg5)
          ∧ r.2.mem ((c.tc : Thread Cert.DInputIdeal.nD Cert.DInputIdeal.τ).loc Cert.DInputIdeal.main_arg6) = m ((c.tc : Thread Cert.DInputIdeal.nD Cert.DInputIdeal.τ).loc Cert.DInputIdeal.main_arg6)
          ∧ r.2.mem ((c.tc : Thread Cert.DInputIdeal.nD Cert.DInputIdeal.τ).loc Cert.DInputIdeal.main_arg7) = m ((c.tc : Thread Cert.DInputIdeal.nD Cert.DInputIdeal.τ).loc Cert.DInputIdeal.main_arg7)
          ∧ r.2.mem ((c.tc : Thread Cert.DInputIdeal.nD Cert.DInputIdeal.τ).loc Cert.DInputIdeal.main_arg8) = m ((c.tc : Thread Cert.DInputIdeal.nD Cert.DInputIdeal.τ).loc Cert.DInputIdeal.main_arg8)
          ∧ r.2.mem ((c.tc : Thread Cert.DInputIdeal.nD Cert.DInputIdeal.τ).loc Cert.DInputIdeal.main_arg9) = m ((c.tc : Thread Cert.DInputIdeal.nD Cert.DInputIdeal.τ).loc Cert.DInputIdeal.main_arg9)
          ∧ r.2.mem ((c.tc : Thread Cert.DInputIdeal.nD Cert.DInputIdeal.τ).loc Cert.DInputIdeal.main_arg10) = m ((c.tc : Thread Cert.DInputIdeal.nD Cert.DInputIdeal.τ).loc Cert.DInputIdeal.main_arg10))
      ∧ θ_run (Cert.DInputRefIdeal.defs (F := Ideal)) (onTc (τ := Cert.DInputRefIdeal.τ) (Cert.DInputRefIdeal.main (F := Ideal))) ⟨m', fun _ => 0, g'⟩ (fun r => ∀ c : Dev Cert.DInputRefIdeal.nD,
          r.2.mem ((c.tc : Thread Cert.DInputRefIdeal.nD Cert.DInputRefIdeal.τ).loc Cert.DInputRefIdeal.main_v45) = v0 c
          ∧ r.2.mem ((c.tc : Thread Cert.DInputRefIdeal.nD Cert.DInputRefIdeal.τ).loc Cert.DInputRefIdeal.main_v28) = v1 c
          ∧ r.2.mem ((c.tc : Thread Cert.DInputRefIdeal.nD Cert.DInputRefIdeal.τ).loc Cert.DInputRefIdeal.main_arg0) = m' ((c.tc : Thread Cert.DInputRefIdeal.nD Cert.DInputRefIdeal.τ).loc Cert.DInputRefIdeal.main_arg0)
          ∧ r.2.mem ((c.tc : Thread Cert.DInputRefIdeal.nD Cert.DInputRefIdeal.τ).loc Cert.DInputRefIdeal.main_arg1) = m' ((c.tc : Thread Cert.DInputRefIdeal.nD Cert.DInputRefIdeal.τ).loc Cert.DInputRefIdeal.main_arg1)
          ∧ r.2.mem ((c.tc : Thread Cert.DInputRefIdeal.nD Cert.DInputRefIdeal.τ).loc Cert.DInputRefIdeal.main_arg2) = m' ((c.tc : Thread Cert.DInputRefIdeal.nD Cert.DInputRefIdeal.τ).loc Cert.DInputRefIdeal.main_arg2)
          ∧ r.2.mem ((c.tc : Thread Cert.DInputRefIdeal.nD Cert.DInputRefIdeal.τ).loc Cert.DInputRefIdeal.main_arg3) = m' ((c.tc : Thread Cert.DInputRefIdeal.nD Cert.DInputRefIdeal.τ).loc Cert.DInputRefIdeal.main_arg3)
          ∧ r.2.mem ((c.tc : Thread Cert.DInputRefIdeal.nD Cert.DInputRefIdeal.τ).loc Cert.DInputRefIdeal.main_arg4) = m' ((c.tc : Thread Cert.DInputRefIdeal.nD Cert.DInputRefIdeal.τ).loc Cert.DInputRefIdeal.main_arg4)
          ∧ r.2.mem ((c.tc : Thread Cert.DInputRefIdeal.nD Cert.DInputRefIdeal.τ).loc Cert.DInputRefIdeal.main_arg5) = m' ((c.tc : Thread Cert.DInputRefIdeal.nD Cert.DInputRefIdeal.τ).loc Cert.DInputRefIdeal.main_arg5)
          ∧ r.2.mem ((c.tc : Thread Cert.DInputRefIdeal.nD Cert.DInputRefIdeal.τ).loc Cert.DInputRefIdeal.main_arg6) = m' ((c.tc : Thread Cert.DInputRefIdeal.nD Cert.DInputRefIdeal.τ).loc Cert.DInputRefIdeal.main_arg6)
          ∧ r.2.mem ((c.tc : Thread Cert.DInputRefIdeal.nD Cert.DInputRefIdeal.τ).loc Cert.DInputRefIdeal.main_arg7) = m' ((c.tc : Thread Cert.DInputRefIdeal.nD Cert.DInputRefIdeal.τ).loc Cert.DInputRefIdeal.main_arg7)
          ∧ r.2.mem ((c.tc : Thread Cert.DInputRefIdeal.nD Cert.DInputRefIdeal.τ).loc Cert.DInputRefIdeal.main_arg8) = m' ((c.tc : Thread Cert.DInputRefIdeal.nD Cert.DInputRefIdeal.τ).loc Cert.DInputRefIdeal.main_arg8)
          ∧ r.2.mem ((c.tc : Thread Cert.DInputRefIdeal.nD Cert.DInputRefIdeal.τ).loc Cert.DInputRefIdeal.main_arg9) = m' ((c.tc : Thread Cert.DInputRefIdeal.nD Cert.DInputRefIdeal.τ).loc Cert.DInputRefIdeal.main_arg9)
          ∧ r.2.mem ((c.tc : Thread Cert.DInputRefIdeal.nD Cert.DInputRefIdeal.τ).loc Cert.DInputRefIdeal.main_arg10) = m' ((c.tc : Thread Cert.DInputRefIdeal.nD Cert.DInputRefIdeal.τ).loc Cert.DInputRefIdeal.main_arg10))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v2)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v2) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v3) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)
      ∧ m' ((c.tc : Thread Cert.DwMixRefIdeal.nD Cert.DwMixRefIdeal.τ).loc Cert.DwMixRefIdeal.main_arg2) = m ((c.tc : Thread Cert.DwMixIdeal.nD Cert.DwMixIdeal.τ).loc Cert.DwMixIdeal.main_arg2)
      ∧ m' ((c.tc : Thread Cert.DwMixRefIdeal.nD Cert.DwMixRefIdeal.τ).loc Cert.DwMixRefIdeal.main_arg3) = m ((c.tc : Thread Cert.DwMixIdeal.nD Cert.DwMixIdeal.τ).loc Cert.DwMixIdeal.main_arg3)
      ∧ m' ((c.tc : Thread Cert.DwMixRefIdeal.nD Cert.DwMixRefIdeal.τ).loc Cert.DwMixRefIdeal.main_arg4) = m ((c.tc : Thread Cert.DwMixIdeal.nD Cert.DwMixIdeal.τ).loc Cert.DwMixIdeal.main_arg4)
      ∧ m' ((c.tc : Thread Cert.DwMixRefIdeal.nD Cert.DwMixRefIdeal.τ).loc Cert.DwMixRefIdeal.main_arg5) = m ((c.tc : Thread Cert.DwMixIdeal.nD Cert.DwMixIdeal.τ).loc Cert.DwMixIdeal.main_arg5)) →
    ∃ (v0 : (c : Dev Cert.DwMixIdeal.nD) → Buf (Elt Ideal) ((c.tc : Thread Cert.DwMixIdeal.nD Cert.DwMixIdeal.τ).loc Cert.DwMixIdeal.main_v6_0)) (v1 : (c : Dev Cert.DwMixIdeal.nD) → Buf (Elt Ideal) ((c.tc : Thread Cert.DwMixIdeal.nD Cert.DwMixIdeal.τ).loc Cert.DwMixIdeal.main_v6_1)) (v2 : (c : Dev Cert.DwMixIdeal.nD) → Buf (Elt Ideal) ((c.tc : Thread Cert.DwMixIdeal.nD Cert.DwMixIdeal.τ).loc Cert.DwMixIdeal.main_v6_2)) (v3 : (c : Dev Cert.DwMixIdeal.nD) → Buf (Elt Ideal) ((c.tc : Thread Cert.DwMixIdeal.nD Cert.DwMixIdeal.τ).loc Cert.DwMixIdeal.main_v6_3)) (v4 : (c : Dev Cert.DwMixIdeal.nD) → Buf (Elt Ideal) ((c.tc : Thread Cert.DwMixIdeal.nD Cert.DwMixIdeal.τ).loc Cert.DwMixIdeal.main_v6_4)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v6_0) = v0 c
          ∧ r.2.mem ((c.tc : Thread Cert.DwMixIdeal.nD Cert.DwMixIdeal.τ).loc Cert.DwMixIdeal.main_v6_1) = v1 c
          ∧ r.2.mem ((c.tc : Thread Cert.DwMixIdeal.nD Cert.DwMixIdeal.τ).loc Cert.DwMixIdeal.main_v6_2) = v2 c
          ∧ r.2.mem ((c.tc : Thread Cert.DwMixIdeal.nD Cert.DwMixIdeal.τ).loc Cert.DwMixIdeal.main_v6_3) = v3 c
          ∧ r.2.mem ((c.tc : Thread Cert.DwMixIdeal.nD Cert.DwMixIdeal.τ).loc Cert.DwMixIdeal.main_v6_4) = v4 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1)
          ∧ r.2.mem ((c.tc : Thread Cert.DwMixIdeal.nD Cert.DwMixIdeal.τ).loc Cert.DwMixIdeal.main_arg2) = m ((c.tc : Thread Cert.DwMixIdeal.nD Cert.DwMixIdeal.τ).loc Cert.DwMixIdeal.main_arg2)
          ∧ r.2.mem ((c.tc : Thread Cert.DwMixIdeal.nD Cert.DwMixIdeal.τ).loc Cert.DwMixIdeal.main_arg3) = m ((c.tc : Thread Cert.DwMixIdeal.nD Cert.DwMixIdeal.τ).loc Cert.DwMixIdeal.main_arg3)
          ∧ r.2.mem ((c.tc : Thread Cert.DwMixIdeal.nD Cert.DwMixIdeal.τ).loc Cert.DwMixIdeal.main_arg4) = m ((c.tc : Thread Cert.DwMixIdeal.nD Cert.DwMixIdeal.τ).loc Cert.DwMixIdeal.main_arg4)
          ∧ r.2.mem ((c.tc : Thread Cert.DwMixIdeal.nD Cert.DwMixIdeal.τ).loc Cert.DwMixIdeal.main_arg5) = m ((c.tc : Thread Cert.DwMixIdeal.nD Cert.DwMixIdeal.τ).loc Cert.DwMixIdeal.main_arg5))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v3) = v0 c
          ∧ r.2.mem ((c.tc : Thread Cert.DwMixRefIdeal.nD Cert.DwMixRefIdeal.τ).loc Cert.DwMixRefIdeal.main_v7) = v1 c
          ∧ r.2.mem ((c.tc : Thread Cert.DwMixRefIdeal.nD Cert.DwMixRefIdeal.τ).loc Cert.DwMixRefIdeal.main_v11) = v2 c
          ∧ r.2.mem ((c.tc : Thread Cert.DwMixRefIdeal.nD Cert.DwMixRefIdeal.τ).loc Cert.DwMixRefIdeal.main_v15) = v3 c
          ∧ r.2.mem ((c.tc : Thread Cert.DwMixRefIdeal.nD Cert.DwMixRefIdeal.τ).loc Cert.DwMixRefIdeal.main_v19) = v4 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1)
          ∧ r.2.mem ((c.tc : Thread Cert.DwMixRefIdeal.nD Cert.DwMixRefIdeal.τ).loc Cert.DwMixRefIdeal.main_arg2) = m' ((c.tc : Thread Cert.DwMixRefIdeal.nD Cert.DwMixRefIdeal.τ).loc Cert.DwMixRefIdeal.main_arg2)
          ∧ r.2.mem ((c.tc : Thread Cert.DwMixRefIdeal.nD Cert.DwMixRefIdeal.τ).loc Cert.DwMixRefIdeal.main_arg3) = m' ((c.tc : Thread Cert.DwMixRefIdeal.nD Cert.DwMixRefIdeal.τ).loc Cert.DwMixRefIdeal.main_arg3)
          ∧ r.2.mem ((c.tc : Thread Cert.DwMixRefIdeal.nD Cert.DwMixRefIdeal.τ).loc Cert.DwMixRefIdeal.main_arg4) = m' ((c.tc : Thread Cert.DwMixRefIdeal.nD Cert.DwMixRefIdeal.τ).loc Cert.DwMixRefIdeal.main_arg4)
          ∧ r.2.mem ((c.tc : Thread Cert.DwMixRefIdeal.nD Cert.DwMixRefIdeal.τ).loc Cert.DwMixRefIdeal.main_arg5) = m' ((c.tc : Thread Cert.DwMixRefIdeal.nD Cert.DwMixRefIdeal.τ).loc Cert.DwMixRefIdeal.main_arg5))

def preserves_DwGates_DwGatesIdeal : Prop :=
  True

def algebraic_DwGatesIdeal_DwGatesRefIdeal [hDwGatesIdeal : Cert.DwGatesIdeal.Facts] [hDwGatesRefIdeal : Cert.DwGatesRefIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg)
    (m' : (ℓ : Loc Cert.DwGatesRefIdeal.nD Cert.DwGatesRefIdeal.τ Cert.DwGatesRefIdeal.sig) → Buf (Elt Ideal) ℓ) (g' : Dev Cert.DwGatesRefIdeal.nD → PrngReg), Pre_DwGatesIdeal m →
    (∀ c : Dev Cert.DwGatesIdeal.nD,
      m' ((c.tc : Thread Cert.DwGatesRefIdeal.nD Cert.DwGatesRefIdeal.τ).loc Cert.DwGatesRefIdeal.main_arg0) = m ((c.tc : Thread Cert.DwGatesIdeal.nD Cert.DwGatesIdeal.τ).loc Cert.DwGatesIdeal.main_arg0)
      ∧ m' ((c.tc : Thread Cert.DwGatesRefIdeal.nD Cert.DwGatesRefIdeal.τ).loc Cert.DwGatesRefIdeal.main_arg1) = m ((c.tc : Thread Cert.DwGatesIdeal.nD Cert.DwGatesIdeal.τ).loc Cert.DwGatesIdeal.main_arg1)
      ∧ m' ((c.tc : Thread Cert.DwGatesRefIdeal.nD Cert.DwGatesRefIdeal.τ).loc Cert.DwGatesRefIdeal.main_arg2) = m ((c.tc : Thread Cert.DwGatesIdeal.nD Cert.DwGatesIdeal.τ).loc Cert.DwGatesIdeal.main_arg2)) →
    ∃ (v0 : (c : Dev Cert.DwGatesIdeal.nD) → Buf (Elt Ideal) ((c.tc : Thread Cert.DwGatesIdeal.nD Cert.DwGatesIdeal.τ).loc Cert.DwGatesIdeal.main_v3_0)) (v1 : (c : Dev Cert.DwGatesIdeal.nD) → Buf (Elt Ideal) ((c.tc : Thread Cert.DwGatesIdeal.nD Cert.DwGatesIdeal.τ).loc Cert.DwGatesIdeal.main_v3_1)),
      θ_run (Cert.DwGatesIdeal.defs (F := Ideal)) (onTc (τ := Cert.DwGatesIdeal.τ) (Cert.DwGatesIdeal.main (F := Ideal))) ⟨m, fun _ => 0, g⟩ (fun r => ∀ c : Dev Cert.DwGatesIdeal.nD,
          r.2.mem ((c.tc : Thread Cert.DwGatesIdeal.nD Cert.DwGatesIdeal.τ).loc Cert.DwGatesIdeal.main_v3_0) = v0 c
          ∧ r.2.mem ((c.tc : Thread Cert.DwGatesIdeal.nD Cert.DwGatesIdeal.τ).loc Cert.DwGatesIdeal.main_v3_1) = v1 c
          ∧ r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
          ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1)
          ∧ r.2.mem ((c.tc : Thread Cert.DwGatesIdeal.nD Cert.DwGatesIdeal.τ).loc Cert.DwGatesIdeal.main_arg2) = m ((c.tc : Thread Cert.DwGatesIdeal.nD Cert.DwGatesIdeal.τ).loc Cert.DwGatesIdeal.main_arg2))
      ∧ θ_run (Cert.DwGatesRefIdeal.defs (F := Ideal)) (onTc (τ := Cert.DwGatesRefIdeal.τ) (Cert.DwGatesRefIdeal.main (F := Ideal))) ⟨m', fun _ => 0, g'⟩ (fun r => ∀ c : Dev Cert.DwGatesRefIdeal.nD,
          r.2.mem ((c.tc : Thread Cert.DwGatesRefIdeal.nD Cert.DwGatesRefIdeal.τ).loc Cert.DwGatesRefIdeal.main_v3) = v0 c
          ∧ r.2.mem ((c.tc : Thread Cert.DwGatesRefIdeal.nD Cert.DwGatesRefIdeal.τ).loc Cert.DwGatesRefIdeal.main_v7) = v1 c
          ∧ r.2.mem ((c.tc : Thread Cert.DwGatesRefIdeal.nD Cert.DwGatesRefIdeal.τ).loc Cert.DwGatesRefIdeal.main_arg0) = m' ((c.tc : Thread Cert.DwGatesRefIdeal.nD Cert.DwGatesRefIdeal.τ).loc Cert.DwGatesRefIdeal.main_arg0)
          ∧ r.2.mem ((c.tc : Thread Cert.DwGatesRefIdeal.nD Cert.DwGatesRefIdeal.τ).loc Cert.DwGatesRefIdeal.main_arg1) = m' ((c.tc : Thread Cert.DwGatesRefIdeal.nD Cert.DwGatesRefIdeal.τ).loc Cert.DwGatesRefIdeal.main_arg1)
          ∧ r.2.mem ((c.tc : Thread Cert.DwGatesRefIdeal.nD Cert.DwGatesRefIdeal.τ).loc Cert.DwGatesRefIdeal.main_arg2) = m' ((c.tc : Thread Cert.DwGatesRefIdeal.nD Cert.DwGatesRefIdeal.τ).loc Cert.DwGatesRefIdeal.main_arg2))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v2)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v2) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v2) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v6) = v2 c
          ∧ r.2.mem ((c.tc : Thread Cert.ProjRefIdeal.nD Cert.ProjRefIdeal.τ).loc Cert.ProjRefIdeal.main_v7) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)) (v2 : (c : Dev Cert.MergeIdeal.nD) → Buf (Elt Ideal) ((c.tc : Thread Cert.MergeIdeal.nD Cert.MergeIdeal.τ).loc Cert.MergeIdeal.main_v5_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_v5_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v13) = v0 c
          ∧ r.2.mem ((c.tc : Thread Cert.MergeRefIdeal.nD Cert.MergeRefIdeal.τ).loc Cert.MergeRefIdeal.main_v14) = v1 c
          ∧ r.2.mem ((c.tc : Thread Cert.MergeRefIdeal.nD Cert.MergeRefIdeal.τ).loc Cert.MergeRefIdeal.main_v15) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_v13) = v1 c
          ∧ r.2.mem ((c.tc : Thread Cert.OutRefIdeal.nD Cert.OutRefIdeal.τ).loc Cert.OutRefIdeal.main_v26) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v8)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v8) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v49) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v26) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v5) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v26) = v0 c
          ∧ r.2.mem ((c.tc : Thread Cert.AdamwInRefIdeal.nD Cert.AdamwInRefIdeal.τ).loc Cert.AdamwInRefIdeal.main_v25) = v1 c
          ∧ r.2.mem ((c.tc : Thread Cert.AdamwInRefIdeal.nD Cert.AdamwInRefIdeal.τ).loc Cert.AdamwInRefIdeal.main_v5) = v2 c
          ∧ r.2.mem ((c.tc : Thread Cert.AdamwInRefIdeal.nD Cert.AdamwInRefIdeal.τ).loc Cert.AdamwInRefIdeal.main_v12) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwBranch_AdamwBranchIdeal : Prop :=
  True

def algebraic_AdamwBranchIdeal_AdamwBranchRefIdeal [hAdamwBranchIdeal : Cert.AdamwBranchIdeal.Facts] [hAdamwBranchRefIdeal : Cert.AdamwBranchRefIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwBranchRefIdeal.nD Cert.AdamwBranchRefIdeal.τ Cert.AdamwBranchRefIdeal.sig) → Buf (Elt Ideal) ℓ) (g' : Dev Cert.AdamwBranchRefIdeal.nD → PrngReg), Pre_AdamwBranchIdeal m →
    (∀ c : Dev Cert.AdamwBranchIdeal.nD,
      m' ((c.tc : Thread Cert.AdamwBranchRefIdeal.nD Cert.AdamwBranchRefIdeal.τ).loc Cert.AdamwBranchRefIdeal.main_arg0) = m ((c.tc : Thread Cert.AdamwBranchIdeal.nD Cert.AdamwBranchIdeal.τ).loc Cert.AdamwBranchIdeal.main_arg0)
      ∧ m' ((c.tc : Thread Cert.AdamwBranchRefIdeal.nD Cert.AdamwBranchRefIdeal.τ).loc Cert.AdamwBranchRefIdeal.main_arg1) = m ((c.tc : Thread Cert.AdamwBranchIdeal.nD Cert.AdamwBranchIdeal.τ).loc Cert.AdamwBranchIdeal.main_arg1)
      ∧ m' ((c.tc : Thread Cert.AdamwBranchRefIdeal.nD Cert.AdamwBranchRefIdeal.τ).loc Cert.AdamwBranchRefIdeal.main_arg2) = m ((c.tc : Thread Cert.AdamwBranchIdeal.nD Cert.AdamwBranchIdeal.τ).loc Cert.AdamwBranchIdeal.main_arg2)
      ∧ m' ((c.tc : Thread Cert.AdamwBranchRefIdeal.nD Cert.AdamwBranchRefIdeal.τ).loc Cert.AdamwBranchRefIdeal.main_arg3) = m ((c.tc : Thread Cert.AdamwBranchIdeal.nD Cert.AdamwBranchIdeal.τ).loc Cert.AdamwBranchIdeal.main_arg3)) →
    ∃ (v0 : (c : Dev Cert.AdamwBranchIdeal.nD) → Buf (Elt Ideal) ((c.tc : Thread Cert.AdamwBranchIdeal.nD Cert.AdamwBranchIdeal.τ).loc Cert.AdamwBranchIdeal.main_v0_0)) (v1 : (c : Dev Cert.AdamwBranchIdeal.nD) → Buf (Elt Ideal) ((c.tc : Thread Cert.AdamwBranchIdeal.nD Cert.AdamwBranchIdeal.τ).loc Cert.AdamwBranchIdeal.main_v0_1)) (v2 : (c : Dev Cert.AdamwBranchIdeal.nD) → Buf (Elt Ideal) ((c.tc : Thread Cert.AdamwBranchIdeal.nD Cert.AdamwBranchIdeal.τ).loc Cert.AdamwBranchIdeal.main_v0_2)) (v3 : (c : Dev Cert.AdamwBranchIdeal.nD) → Buf (Elt Ideal) ((c.tc : Thread Cert.AdamwBranchIdeal.nD Cert.AdamwBranchIdeal.τ).loc Cert.AdamwBranchIdeal.main_v0_3)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v0_0) = v0 c
          ∧ r.2.mem ((c.tc : Thread Cert.AdamwBranchIdeal.nD Cert.AdamwBranchIdeal.τ).loc Cert.AdamwBranchIdeal.main_v0_1) = v1 c
          ∧ r.2.mem ((c.tc : Thread Cert.AdamwBranchIdeal.nD Cert.AdamwBranchIdeal.τ).loc Cert.AdamwBranchIdeal.main_v0_2) = v2 c
          ∧ r.2.mem ((c.tc : Thread Cert.AdamwBranchIdeal.nD Cert.AdamwBranchIdeal.τ).loc Cert.AdamwBranchIdeal.main_v0_3) = v3 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ θ_run (Cert.AdamwBranchRefIdeal.defs (F := Ideal)) (onTc (τ := Cert.AdamwBranchRefIdeal.τ) (Cert.AdamwBranchRefIdeal.main (F := Ideal))) ⟨m', fun _ => 0, g'⟩ (fun r => ∀ c : Dev Cert.AdamwBranchRefIdeal.nD,
          r.2.mem ((c.tc : Thread Cert.AdamwBranchRefIdeal.nD Cert.AdamwBranchRefIdeal.τ).loc Cert.AdamwBranchRefIdeal.main_v26) = v0 c
          ∧ r.2.mem ((c.tc : Thread Cert.AdamwBranchRefIdeal.nD Cert.AdamwBranchRefIdeal.τ).loc Cert.AdamwBranchRefIdeal.main_v25) = v1 c
          ∧ r.2.mem ((c.tc : Thread Cert.AdamwBranchRefIdeal.nD Cert.AdamwBranchRefIdeal.τ).loc Cert.AdamwBranchRefIdeal.main_v5) = v2 c
          ∧ r.2.mem ((c.tc : Thread Cert.AdamwBranchRefIdeal.nD Cert.AdamwBranchRefIdeal.τ).loc Cert.AdamwBranchRefIdeal.main_v12) = v3 c
          ∧ r.2.mem ((c.tc : Thread Cert.AdamwBranchRefIdeal.nD Cert.AdamwBranchRefIdeal.τ).loc Cert.AdamwBranchRefIdeal.main_arg0) = m' ((c.tc : Thread Cert.AdamwBranchRefIdeal.nD Cert.AdamwBranchRefIdeal.τ).loc Cert.AdamwBranchRefIdeal.main_arg0)
          ∧ r.2.mem ((c.tc : Thread Cert.AdamwBranchRefIdeal.nD Cert.AdamwBranchRefIdeal.τ).loc Cert.AdamwBranchRefIdeal.main_arg1) = m' ((c.tc : Thread Cert.AdamwBranchRefIdeal.nD Cert.AdamwBranchRefIdeal.τ).loc Cert.AdamwBranchRefIdeal.main_arg1)
          ∧ r.2.mem ((c.tc : Thread Cert.AdamwBranchRefIdeal.nD Cert.AdamwBranchRefIdeal.τ).loc Cert.AdamwBranchRefIdeal.main_arg2) = m' ((c.tc : Thread Cert.AdamwBranchRefIdeal.nD Cert.AdamwBranchRefIdeal.τ).loc Cert.AdamwBranchRefIdeal.main_arg2)
          ∧ r.2.mem ((c.tc : Thread Cert.AdamwBranchRefIdeal.nD Cert.AdamwBranchRefIdeal.τ).loc Cert.AdamwBranchRefIdeal.main_arg3) = m' ((c.tc : Thread Cert.AdamwBranchRefIdeal.nD Cert.AdamwBranchRefIdeal.τ).loc Cert.AdamwBranchRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v26) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v5) = v2 c
          ∧ r.2.mem ((c.tc : Thread Cert.AdamwOutRefIdeal.nD Cert.AdamwOutRefIdeal.τ).loc Cert.AdamwOutRefIdeal.main_v12) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwGain_AdamwGainIdeal : Prop :=
  True

def algebraic_AdamwGainIdeal_AdamwGainRefIdeal [hAdamwGainIdeal : Cert.AdamwGainIdeal.Facts] [hAdamwGainRefIdeal : Cert.AdamwGainRefIdeal.Facts] : Prop :=
  ∀ (m : (ℓ : Loc Cert.AdamwGainIdeal.nD Cert.AdamwGainIdeal.τ Cert.AdamwGainIdeal.sig) → Buf (Elt Ideal) ℓ) (g : Dev Cert.AdamwGainIdeal.nD → PrngReg)
    (m' : (ℓ : Loc Cert.AdamwGainRefIdeal.nD Cert.AdamwGainRefIdeal.τ Cert.AdamwGainRefIdeal.sig) → Buf (Elt Ideal) ℓ) (g' : Dev Cert.AdamwGainRefIdeal.nD → PrngReg), Pre_AdamwGainIdeal m →
    (∀ c : Dev Cert.AdamwGainIdeal.nD,
      m' ((c.tc : Thread Cert.AdamwGainRefIdeal.nD Cert.AdamwGainRefIdeal.τ).loc Cert.AdamwGainRefIdeal.main_arg0) = m ((c.tc : Thread Cert.AdamwGainIdeal.nD Cert.AdamwGainIdeal.τ).loc Cert.AdamwGainIdeal.main_arg0)
      ∧ m' ((c.tc : Thread Cert.AdamwGainRefIdeal.nD Cert.AdamwGainRefIdeal.τ).loc Cert.AdamwGainRefIdeal.main_arg1) = m ((c.tc : Thread Cert.AdamwGainIdeal.nD Cert.AdamwGainIdeal.τ).loc Cert.AdamwGainIdeal.main_arg1)
      ∧ m' ((c.tc : Thread Cert.AdamwGainRefIdeal.nD Cert.AdamwGainRefIdeal.τ).loc Cert.AdamwGainRefIdeal.main_arg2) = m ((c.tc : Thread Cert.AdamwGainIdeal.nD Cert.AdamwGainIdeal.τ).loc Cert.AdamwGainIdeal.main_arg2)
      ∧ m' ((c.tc : Thread Cert.AdamwGainRefIdeal.nD Cert.AdamwGainRefIdeal.τ).loc Cert.AdamwGainRefIdeal.main_arg3) = m ((c.tc : Thread Cert.AdamwGainIdeal.nD Cert.AdamwGainIdeal.τ).loc Cert.AdamwGainIdeal.main_arg3)) →
    ∃ (v0 : (c : Dev Cert.AdamwGainIdeal.nD) → Buf (Elt Ideal) ((c.tc : Thread Cert.AdamwGainIdeal.nD Cert.AdamwGainIdeal.τ).loc Cert.AdamwGainIdeal.main_v0_0)) (v1 : (c : Dev Cert.AdamwGainIdeal.nD) → Buf (Elt Ideal) ((c.tc : Thread Cert.AdamwGainIdeal.nD Cert.AdamwGainIdeal.τ).loc Cert.AdamwGainIdeal.main_v0_1)) (v2 : (c : Dev Cert.AdamwGainIdeal.nD) → Buf (Elt Ideal) ((c.tc : Thread Cert.AdamwGainIdeal.nD Cert.AdamwGainIdeal.τ).loc Cert.AdamwGainIdeal.main_v0_2)) (v3 : (c : Dev Cert.AdamwGainIdeal.nD) → Buf (Elt Ideal) ((c.tc : Thread Cert.AdamwGainIdeal.nD Cert.AdamwGainIdeal.τ).loc Cert.AdamwGainIdeal.main_v0_3)),
      θ_run (Cert.AdamwGainIdeal.defs (F := Ideal)) (onTc (τ := Cert.AdamwGainIdeal.τ) (Cert.AdamwGainIdeal.main (F := Ideal))) ⟨m, fun _ => 0, g⟩ (fun r => ∀ c : Dev Cert.AdamwGainIdeal.nD,
          r.2.mem ((c.tc : Thread Cert.AdamwGainIdeal.nD Cert.AdamwGainIdeal.τ).loc Cert.AdamwGainIdeal.main_v0_0) = v0 c
          ∧ r.2.mem ((c.tc : Thread Cert.AdamwGainIdeal.nD Cert.AdamwGainIdeal.τ).loc Cert.AdamwGainIdeal.main_v0_1) = v1 c
          ∧ r.2.mem ((c.tc : Thread Cert.AdamwGainIdeal.nD Cert.AdamwGainIdeal.τ).loc Cert.AdamwGainIdeal.main_v0_2) = v2 c
          ∧ r.2.mem ((c.tc : Thread Cert.AdamwGainIdeal.nD Cert.AdamwGainIdeal.τ).loc Cert.AdamwGainIdeal.main_v0_3) = v3 c
          ∧ r.2.mem ((c.tc : Thread Cert.AdamwGainIdeal.nD Cert.AdamwGainIdeal.τ).loc Cert.AdamwGainIdeal.main_arg0) = m ((c.tc : Thread Cert.AdamwGainIdeal.nD Cert.AdamwGainIdeal.τ).loc Cert.AdamwGainIdeal.main_arg0)
          ∧ r.2.mem ((c.tc : Thread Cert.AdamwGainIdeal.nD Cert.AdamwGainIdeal.τ).loc Cert.AdamwGainIdeal.main_arg1) = m ((c.tc : Thread Cert.AdamwGainIdeal.nD Cert.AdamwGainIdeal.τ).loc Cert.AdamwGainIdeal.main_arg1)
          ∧ r.2.mem ((c.tc : Thread Cert.AdamwGainIdeal.nD Cert.AdamwGainIdeal.τ).loc Cert.AdamwGainIdeal.main_arg2) = m ((c.tc : Thread Cert.AdamwGainIdeal.nD Cert.AdamwGainIdeal.τ).loc Cert.AdamwGainIdeal.main_arg2)
          ∧ r.2.mem ((c.tc : Thread Cert.AdamwGainIdeal.nD Cert.AdamwGainIdeal.τ).loc Cert.AdamwGainIdeal.main_arg3) = m ((c.tc : Thread Cert.AdamwGainIdeal.nD Cert.AdamwGainIdeal.τ).loc Cert.AdamwGainIdeal.main_arg3))
      ∧ θ_run (Cert.AdamwGainRefIdeal.defs (F := Ideal)) (onTc (τ := Cert.AdamwGainRefIdeal.τ) (Cert.AdamwGainRefIdeal.main (F := Ideal))) ⟨m', fun _ => 0, g'⟩ (fun r => ∀ c : Dev Cert.AdamwGainRefIdeal.nD,
          r.2.mem ((c.tc : Thread Cert.AdamwGainRefIdeal.nD Cert.AdamwGainRefIdeal.τ).loc Cert.AdamwGainRefIdeal.main_v26) = v0 c
          ∧ r.2.mem ((c.tc : Thread Cert.AdamwGainRefIdeal.nD Cert.AdamwGainRefIdeal.τ).loc Cert.AdamwGainRefIdeal.main_v25) = v1 c
          ∧ r.2.mem ((c.tc : Thread Cert.AdamwGainRefIdeal.nD Cert.AdamwGainRefIdeal.τ).loc Cert.AdamwGainRefIdeal.main_v5) = v2 c
          ∧ r.2.mem ((c.tc : Thread Cert.AdamwGainRefIdeal.nD Cert.AdamwGainRefIdeal.τ).loc Cert.AdamwGainRefIdeal.main_v12) = v3 c
          ∧ r.2.mem ((c.tc : Thread Cert.AdamwGainRefIdeal.nD Cert.AdamwGainRefIdeal.τ).loc Cert.AdamwGainRefIdeal.main_arg0) = m' ((c.tc : Thread Cert.AdamwGainRefIdeal.nD Cert.AdamwGainRefIdeal.τ).loc Cert.AdamwGainRefIdeal.main_arg0)
          ∧ r.2.mem ((c.tc : Thread Cert.AdamwGainRefIdeal.nD Cert.AdamwGainRefIdeal.τ).loc Cert.AdamwGainRefIdeal.main_arg1) = m' ((c.tc : Thread Cert.AdamwGainRefIdeal.nD Cert.AdamwGainRefIdeal.τ).loc Cert.AdamwGainRefIdeal.main_arg1)
          ∧ r.2.mem ((c.tc : Thread Cert.AdamwGainRefIdeal.nD Cert.AdamwGainRefIdeal.τ).loc Cert.AdamwGainRefIdeal.main_arg2) = m' ((c.tc : Thread Cert.AdamwGainRefIdeal.nD Cert.AdamwGainRefIdeal.τ).loc Cert.AdamwGainRefIdeal.main_arg2)
          ∧ r.2.mem ((c.tc : Thread Cert.AdamwGainRefIdeal.nD Cert.AdamwGainRefIdeal.τ).loc Cert.AdamwGainRefIdeal.main_arg3) = m' ((c.tc : Thread Cert.AdamwGainRefIdeal.nD Cert.AdamwGainRefIdeal.τ).loc Cert.AdamwGainRefIdeal.main_arg3))

def preserves_AdamwForget_AdamwForgetIdeal : Prop :=
  True

def algebraic_AdamwForgetIdeal_AdamwForgetRefIdeal [hAdamwForgetIdeal : Cert.AdamwForgetIdeal.Facts] [hAdamwForgetRefIdeal : Cert.AdamwForgetRefIdeal.Facts] : Prop :=
  ∀ (m : (ℓ : Loc Cert.AdamwForgetIdeal.nD Cert.AdamwForgetIdeal.τ Cert.AdamwForgetIdeal.sig) → Buf (Elt Ideal) ℓ) (g : Dev Cert.AdamwForgetIdeal.nD → PrngReg)
    (m' : (ℓ : Loc Cert.AdamwForgetRefIdeal.nD Cert.AdamwForgetRefIdeal.τ Cert.AdamwForgetRefIdeal.sig) → Buf (Elt Ideal) ℓ) (g' : Dev Cert.AdamwForgetRefIdeal.nD → PrngReg), Pre_AdamwForgetIdeal m →
    (∀ c : Dev Cert.AdamwForgetIdeal.nD,
      m' ((c.tc : Thread Cert.AdamwForgetRefIdeal.nD Cert.AdamwForgetRefIdeal.τ).loc Cert.AdamwForgetRefIdeal.main_arg0) = m ((c.tc : Thread Cert.AdamwForgetIdeal.nD Cert.AdamwForgetIdeal.τ).loc Cert.AdamwForgetIdeal.main_arg0)
      ∧ m' ((c.tc : Thread Cert.AdamwForgetRefIdeal.nD Cert.AdamwForgetRefIdeal.τ).loc Cert.AdamwForgetRefIdeal.main_arg1) = m ((c.tc : Thread Cert.AdamwForgetIdeal.nD Cert.AdamwForgetIdeal.τ).loc Cert.AdamwForgetIdeal.main_arg1)
      ∧ m' ((c.tc : Thread Cert.AdamwForgetRefIdeal.nD Cert.AdamwForgetRefIdeal.τ).loc Cert.AdamwForgetRefIdeal.main_arg2) = m ((c.tc : Thread Cert.AdamwForgetIdeal.nD Cert.AdamwForgetIdeal.τ).loc Cert.AdamwForgetIdeal.main_arg2)
      ∧ m' ((c.tc : Thread Cert.AdamwForgetRefIdeal.nD Cert.AdamwForgetRefIdeal.τ).loc Cert.AdamwForgetRefIdeal.main_arg3) = m ((c.tc : Thread Cert.AdamwForgetIdeal.nD Cert.AdamwForgetIdeal.τ).loc Cert.AdamwForgetIdeal.main_arg3)) →
    ∃ (v0 : (c : Dev Cert.AdamwForgetIdeal.nD) → Buf (Elt Ideal) ((c.tc : Thread Cert.AdamwForgetIdeal.nD Cert.AdamwForgetIdeal.τ).loc Cert.AdamwForgetIdeal.main_v0_0)) (v1 : (c : Dev Cert.AdamwForgetIdeal.nD) → Buf (Elt Ideal) ((c.tc : Thread Cert.AdamwForgetIdeal.nD Cert.AdamwForgetIdeal.τ).loc Cert.AdamwForgetIdeal.main_v0_1)) (v2 : (c : Dev Cert.AdamwForgetIdeal.nD) → Buf (Elt Ideal) ((c.tc : Thread Cert.AdamwForgetIdeal.nD Cert.AdamwForgetIdeal.τ).loc Cert.AdamwForgetIdeal.main_v0_2)) (v3 : (c : Dev Cert.AdamwForgetIdeal.nD) → Buf (Elt Ideal) ((c.tc : Thread Cert.AdamwForgetIdeal.nD Cert.AdamwForgetIdeal.τ).loc Cert.AdamwForgetIdeal.main_v0_3)),
      θ_run (Cert.AdamwForgetIdeal.defs (F := Ideal)) (onTc (τ := Cert.AdamwForgetIdeal.τ) (Cert.AdamwForgetIdeal.main (F := Ideal))) ⟨m, fun _ => 0, g⟩ (fun r => ∀ c : Dev Cert.AdamwForgetIdeal.nD,
          r.2.mem ((c.tc : Thread Cert.AdamwForgetIdeal.nD Cert.AdamwForgetIdeal.τ).loc Cert.AdamwForgetIdeal.main_v0_0) = v0 c
          ∧ r.2.mem ((c.tc : Thread Cert.AdamwForgetIdeal.nD Cert.AdamwForgetIdeal.τ).loc Cert.AdamwForgetIdeal.main_v0_1) = v1 c
          ∧ r.2.mem ((c.tc : Thread Cert.AdamwForgetIdeal.nD Cert.AdamwForgetIdeal.τ).loc Cert.AdamwForgetIdeal.main_v0_2) = v2 c
          ∧ r.2.mem ((c.tc : Thread Cert.AdamwForgetIdeal.nD Cert.AdamwForgetIdeal.τ).loc Cert.AdamwForgetIdeal.main_v0_3) = v3 c
          ∧ r.2.mem ((c.tc : Thread Cert.AdamwForgetIdeal.nD Cert.AdamwForgetIdeal.τ).loc Cert.AdamwForgetIdeal.main_arg0) = m ((c.tc : Thread Cert.AdamwForgetIdeal.nD Cert.AdamwForgetIdeal.τ).loc Cert.AdamwForgetIdeal.main_arg0)
          ∧ r.2.mem ((c.tc : Thread Cert.AdamwForgetIdeal.nD Cert.AdamwForgetIdeal.τ).loc Cert.AdamwForgetIdeal.main_arg1) = m ((c.tc : Thread Cert.AdamwForgetIdeal.nD Cert.AdamwForgetIdeal.τ).loc Cert.AdamwForgetIdeal.main_arg1)
          ∧ r.2.mem ((c.tc : Thread Cert.AdamwForgetIdeal.nD Cert.AdamwForgetIdeal.τ).loc Cert.AdamwForgetIdeal.main_arg2) = m ((c.tc : Thread Cert.AdamwForgetIdeal.nD Cert.AdamwForgetIdeal.τ).loc Cert.AdamwForgetIdeal.main_arg2)
          ∧ r.2.mem ((c.tc : Thread Cert.AdamwForgetIdeal.nD Cert.AdamwForgetIdeal.τ).loc Cert.AdamwForgetIdeal.main_arg3) = m ((c.tc : Thread Cert.AdamwForgetIdeal.nD Cert.AdamwForgetIdeal.τ).loc Cert.AdamwForgetIdeal.main_arg3))
      ∧ θ_run (Cert.AdamwForgetRefIdeal.defs (F := Ideal)) (onTc (τ := Cert.AdamwForgetRefIdeal.τ) (Cert.AdamwForgetRefIdeal.main (F := Ideal))) ⟨m', fun _ => 0, g'⟩ (fun r => ∀ c : Dev Cert.AdamwForgetRefIdeal.nD,
          r.2.mem ((c.tc : Thread Cert.AdamwForgetRefIdeal.nD Cert.AdamwForgetRefIdeal.τ).loc Cert.AdamwForgetRefIdeal.main_v26) = v0 c
          ∧ r.2.mem ((c.tc : Thread Cert.AdamwForgetRefIdeal.nD Cert.AdamwForgetRefIdeal.τ).loc Cert.AdamwForgetRefIdeal.main_v25) = v1 c
          ∧ r.2.mem ((c.tc : Thread Cert.AdamwForgetRefIdeal.nD Cert.AdamwForgetRefIdeal.τ).loc Cert.AdamwForgetRefIdeal.main_v5) = v2 c
          ∧ r.2.mem ((c.tc : Thread Cert.AdamwForgetRefIdeal.nD Cert.AdamwForgetRefIdeal.τ).loc Cert.AdamwForgetRefIdeal.main_v12) = v3 c
          ∧ r.2.mem ((c.tc : Thread Cert.AdamwForgetRefIdeal.nD Cert.AdamwForgetRefIdeal.τ).loc Cert.AdamwForgetRefIdeal.main_arg0) = m' ((c.tc : Thread Cert.AdamwForgetRefIdeal.nD Cert.AdamwForgetRefIdeal.τ).loc Cert.AdamwForgetRefIdeal.main_arg0)
          ∧ r.2.mem ((c.tc : Thread Cert.AdamwForgetRefIdeal.nD Cert.AdamwForgetRefIdeal.τ).loc Cert.AdamwForgetRefIdeal.main_arg1) = m' ((c.tc : Thread Cert.AdamwForgetRefIdeal.nD Cert.AdamwForgetRefIdeal.τ).loc Cert.AdamwForgetRefIdeal.main_arg1)
          ∧ r.2.mem ((c.tc : Thread Cert.AdamwForgetRefIdeal.nD Cert.AdamwForgetRefIdeal.τ).loc Cert.AdamwForgetRefIdeal.main_arg2) = m' ((c.tc : Thread Cert.AdamwForgetRefIdeal.nD Cert.AdamwForgetRefIdeal.τ).loc Cert.AdamwForgetRefIdeal.main_arg2)
          ∧ r.2.mem ((c.tc : Thread Cert.AdamwForgetRefIdeal.nD Cert.AdamwForgetRefIdeal.τ).loc Cert.AdamwForgetRefIdeal.main_arg3) = m' ((c.tc : Thread Cert.AdamwForgetRefIdeal.nD Cert.AdamwForgetRefIdeal.τ).loc Cert.AdamwForgetRefIdeal.main_arg3))

def preserves_AdamwSgu_AdamwSguIdeal : Prop :=
  True

def algebraic_AdamwSguIdeal_AdamwSguRefIdeal [hAdamwSguIdeal : Cert.AdamwSguIdeal.Facts] [hAdamwSguRefIdeal : Cert.AdamwSguRefIdeal.Facts] : Prop :=
  ∀ (m : (ℓ : Loc Cert.AdamwSguIdeal.nD Cert.AdamwSguIdeal.τ Cert.AdamwSguIdeal.sig) → Buf (Elt Ideal) ℓ) (g : Dev Cert.AdamwSguIdeal.nD → PrngReg)
    (m' : (ℓ : Loc Cert.AdamwSguRefIdeal.nD Cert.AdamwSguRefIdeal.τ Cert.AdamwSguRefIdeal.sig) → Buf (Elt Ideal) ℓ) (g' : Dev Cert.AdamwSguRefIdeal.nD → PrngReg), Pre_AdamwSguIdeal m →
    (∀ c : Dev Cert.AdamwSguIdeal.nD,
      m' ((c.tc : Thread Cert.AdamwSguRefIdeal.nD Cert.AdamwSguRefIdeal.τ).loc Cert.AdamwSguRefIdeal.main_arg0) = m ((c.tc : Thread Cert.AdamwSguIdeal.nD Cert.AdamwSguIdeal.τ).loc Cert.AdamwSguIdeal.main_arg0)
      ∧ m' ((c.tc : Thread Cert.AdamwSguRefIdeal.nD Cert.AdamwSguRefIdeal.τ).loc Cert.AdamwSguRefIdeal.main_arg1) = m ((c.tc : Thread Cert.AdamwSguIdeal.nD Cert.AdamwSguIdeal.τ).loc Cert.AdamwSguIdeal.main_arg1)
      ∧ m' ((c.tc : Thread Cert.AdamwSguRefIdeal.nD Cert.AdamwSguRefIdeal.τ).loc Cert.AdamwSguRefIdeal.main_arg2) = m ((c.tc : Thread Cert.AdamwSguIdeal.nD Cert.AdamwSguIdeal.τ).loc Cert.AdamwSguIdeal.main_arg2)
      ∧ m' ((c.tc : Thread Cert.AdamwSguRefIdeal.nD Cert.AdamwSguRefIdeal.τ).loc Cert.AdamwSguRefIdeal.main_arg3) = m ((c.tc : Thread Cert.AdamwSguIdeal.nD Cert.AdamwSguIdeal.τ).loc Cert.AdamwSguIdeal.main_arg3)) →
    ∃ (v0 : (c : Dev Cert.AdamwSguIdeal.nD) → Buf (Elt Ideal) ((c.tc : Thread Cert.AdamwSguIdeal.nD Cert.AdamwSguIdeal.τ).loc Cert.AdamwSguIdeal.main_v0_0)) (v1 : (c : Dev Cert.AdamwSguIdeal.nD) → Buf (Elt Ideal) ((c.tc : Thread Cert.AdamwSguIdeal.nD Cert.AdamwSguIdeal.τ).loc Cert.AdamwSguIdeal.main_v0_1)) (v2 : (c : Dev Cert.AdamwSguIdeal.nD) → Buf (Elt Ideal) ((c.tc : Thread Cert.AdamwSguIdeal.nD Cert.AdamwSguIdeal.τ).loc Cert.AdamwSguIdeal.main_v0_2)) (v3 : (c : Dev Cert.AdamwSguIdeal.nD) → Buf (Elt Ideal) ((c.tc : Thread Cert.AdamwSguIdeal.nD Cert.AdamwSguIdeal.τ).loc Cert.AdamwSguIdeal.main_v0_3)),
      θ_run (Cert.AdamwSguIdeal.defs (F := Ideal)) (onTc (τ := Cert.AdamwSguIdeal.τ) (Cert.AdamwSguIdeal.main (F := Ideal))) ⟨m, fun _ => 0, g⟩ (fun r => ∀ c : Dev Cert.AdamwSguIdeal.nD,
          r.2.mem ((c.tc : Thread Cert.AdamwSguIdeal.nD Cert.AdamwSguIdeal.τ).loc Cert.AdamwSguIdeal.main_v0_0) = v0 c
          ∧ r.2.mem ((c.tc : Thread Cert.AdamwSguIdeal.nD Cert.AdamwSguIdeal.τ).loc Cert.AdamwSguIdeal.main_v0_1) = v1 c
          ∧ r.2.mem ((c.tc : Thread Cert.AdamwSguIdeal.nD Cert.AdamwSguIdeal.τ).loc Cert.AdamwSguIdeal.main_v0_2) = v2 c
          ∧ r.2.mem ((c.tc : Thread Cert.AdamwSguIdeal.nD Cert.AdamwSguIdeal.τ).loc Cert.AdamwSguIdeal.main_v0_3) = v3 c
          ∧ r.2.mem ((c.tc : Thread Cert.AdamwSguIdeal.nD Cert.AdamwSguIdeal.τ).loc Cert.AdamwSguIdeal.main_arg0) = m ((c.tc : Thread Cert.AdamwSguIdeal.nD Cert.AdamwSguIdeal.τ).loc Cert.AdamwSguIdeal.main_arg0)
          ∧ r.2.mem ((c.tc : Thread Cert.AdamwSguIdeal.nD Cert.AdamwSguIdeal.τ).loc Cert.AdamwSguIdeal.main_arg1) = m ((c.tc : Thread Cert.AdamwSguIdeal.nD Cert.AdamwSguIdeal.τ).loc Cert.AdamwSguIdeal.main_arg1)
          ∧ r.2.mem ((c.tc : Thread Cert.AdamwSguIdeal.nD Cert.AdamwSguIdeal.τ).loc Cert.AdamwSguIdeal.main_arg2) = m ((c.tc : Thread Cert.AdamwSguIdeal.nD Cert.AdamwSguIdeal.τ).loc Cert.AdamwSguIdeal.main_arg2)
          ∧ r.2.mem ((c.tc : Thread Cert.AdamwSguIdeal.nD Cert.AdamwSguIdeal.τ).loc Cert.AdamwSguIdeal.main_arg3) = m ((c.tc : Thread Cert.AdamwSguIdeal.nD Cert.AdamwSguIdeal.τ).loc Cert.AdamwSguIdeal.main_arg3))
      ∧ θ_run (Cert.AdamwSguRefIdeal.defs (F := Ideal)) (onTc (τ := Cert.AdamwSguRefIdeal.τ) (Cert.AdamwSguRefIdeal.main (F := Ideal))) ⟨m', fun _ => 0, g'⟩ (fun r => ∀ c : Dev Cert.AdamwSguRefIdeal.nD,
          r.2.mem ((c.tc : Thread Cert.AdamwSguRefIdeal.nD Cert.AdamwSguRefIdeal.τ).loc Cert.AdamwSguRefIdeal.main_v26) = v0 c
          ∧ r.2.mem ((c.tc : Thread Cert.AdamwSguRefIdeal.nD Cert.AdamwSguRefIdeal.τ).loc Cert.AdamwSguRefIdeal.main_v25) = v1 c
          ∧ r.2.mem ((c.tc : Thread Cert.AdamwSguRefIdeal.nD Cert.AdamwSguRefIdeal.τ).loc Cert.AdamwSguRefIdeal.main_v5) = v2 c
          ∧ r.2.mem ((c.tc : Thread Cert.AdamwSguRefIdeal.nD Cert.AdamwSguRefIdeal.τ).loc Cert.AdamwSguRefIdeal.main_v12) = v3 c
          ∧ r.2.mem ((c.tc : Thread Cert.AdamwSguRefIdeal.nD Cert.AdamwSguRefIdeal.τ).loc Cert.AdamwSguRefIdeal.main_arg0) = m' ((c.tc : Thread Cert.AdamwSguRefIdeal.nD Cert.AdamwSguRefIdeal.τ).loc Cert.AdamwSguRefIdeal.main_arg0)
          ∧ r.2.mem ((c.tc : Thread Cert.AdamwSguRefIdeal.nD Cert.AdamwSguRefIdeal.τ).loc Cert.AdamwSguRefIdeal.main_arg1) = m' ((c.tc : Thread Cert.AdamwSguRefIdeal.nD Cert.AdamwSguRefIdeal.τ).loc Cert.AdamwSguRefIdeal.main_arg1)
          ∧ r.2.mem ((c.tc : Thread Cert.AdamwSguRefIdeal.nD Cert.AdamwSguRefIdeal.τ).loc Cert.AdamwSguRefIdeal.main_arg2) = m' ((c.tc : Thread Cert.AdamwSguRefIdeal.nD Cert.AdamwSguRefIdeal.τ).loc Cert.AdamwSguRefIdeal.main_arg2)
          ∧ r.2.mem ((c.tc : Thread Cert.AdamwSguRefIdeal.nD Cert.AdamwSguRefIdeal.τ).loc Cert.AdamwSguRefIdeal.main_arg3) = m' ((c.tc : Thread Cert.AdamwSguRefIdeal.nD Cert.AdamwSguRefIdeal.τ).loc Cert.AdamwSguRefIdeal.main_arg3))

def preserves_AdamwSpatial_AdamwSpatialIdeal : Prop :=
  True

def algebraic_AdamwSpatialIdeal_AdamwSpatialRefIdeal [hAdamwSpatialIdeal : Cert.AdamwSpatialIdeal.Facts] [hAdamwSpatialRefIdeal : Cert.AdamwSpatialRefIdeal.Facts] : Prop :=
  ∀ (m : (ℓ : Loc Cert.AdamwSpatialIdeal.nD Cert.AdamwSpatialIdeal.τ Cert.AdamwSpatialIdeal.sig) → Buf (Elt Ideal) ℓ) (g : Dev Cert.AdamwSpatialIdeal.nD → PrngReg)
    (m' : (ℓ : Loc Cert.AdamwSpatialRefIdeal.nD Cert.AdamwSpatialRefIdeal.τ Cert.AdamwSpatialRefIdeal.sig) → Buf (Elt Ideal) ℓ) (g' : Dev Cert.AdamwSpatialRefIdeal.nD → PrngReg), Pre_AdamwSpatialIdeal m →
    (∀ c : Dev Cert.AdamwSpatialIdeal.nD,
      m' ((c.tc : Thread Cert.AdamwSpatialRefIdeal.nD Cert.AdamwSpatialRefIdeal.τ).loc Cert.AdamwSpatialRefIdeal.main_arg0) = m ((c.tc : Thread Cert.AdamwSpatialIdeal.nD Cert.AdamwSpatialIdeal.τ).loc Cert.AdamwSpatialIdeal.main_arg0)
      ∧ m' ((c.tc : Thread Cert.AdamwSpatialRefIdeal.nD Cert.AdamwSpatialRefIdeal.τ).loc Cert.AdamwSpatialRefIdeal.main_arg1) = m ((c.tc : Thread Cert.AdamwSpatialIdeal.nD Cert.AdamwSpatialIdeal.τ).loc Cert.AdamwSpatialIdeal.main_arg1)
      ∧ m' ((c.tc : Thread Cert.AdamwSpatialRefIdeal.nD Cert.AdamwSpatialRefIdeal.τ).loc Cert.AdamwSpatialRefIdeal.main_arg2) = m ((c.tc : Thread Cert.AdamwSpatialIdeal.nD Cert.AdamwSpatialIdeal.τ).loc Cert.AdamwSpatialIdeal.main_arg2)
      ∧ m' ((c.tc : Thread Cert.AdamwSpatialRefIdeal.nD Cert.AdamwSpatialRefIdeal.τ).loc Cert.AdamwSpatialRefIdeal.main_arg3) = m ((c.tc : Thread Cert.AdamwSpatialIdeal.nD Cert.AdamwSpatialIdeal.τ).loc Cert.AdamwSpatialIdeal.main_arg3)) →
    ∃ (v0 : (c : Dev Cert.AdamwSpatialIdeal.nD) → Buf (Elt Ideal) ((c.tc : Thread Cert.AdamwSpatialIdeal.nD Cert.AdamwSpatialIdeal.τ).loc Cert.AdamwSpatialIdeal.main_v0_0)) (v1 : (c : Dev Cert.AdamwSpatialIdeal.nD) → Buf (Elt Ideal) ((c.tc : Thread Cert.AdamwSpatialIdeal.nD Cert.AdamwSpatialIdeal.τ).loc Cert.AdamwSpatialIdeal.main_v0_1)) (v2 : (c : Dev Cert.AdamwSpatialIdeal.nD) → Buf (Elt Ideal) ((c.tc : Thread Cert.AdamwSpatialIdeal.nD Cert.AdamwSpatialIdeal.τ).loc Cert.AdamwSpatialIdeal.main_v0_2)) (v3 : (c : Dev Cert.AdamwSpatialIdeal.nD) → Buf (Elt Ideal) ((c.tc : Thread Cert.AdamwSpatialIdeal.nD Cert.AdamwSpatialIdeal.τ).loc Cert.AdamwSpatialIdeal.main_v0_3)),
      θ_run (Cert.AdamwSpatialIdeal.defs (F := Ideal)) (onTc (τ := Cert.AdamwSpatialIdeal.τ) (Cert.AdamwSpatialIdeal.main (F := Ideal))) ⟨m, fun _ => 0, g⟩ (fun r => ∀ c : Dev Cert.AdamwSpatialIdeal.nD,
          r.2.mem ((c.tc : Thread Cert.AdamwSpatialIdeal.nD Cert.AdamwSpatialIdeal.τ).loc Cert.AdamwSpatialIdeal.main_v0_0) = v0 c
          ∧ r.2.mem ((c.tc : Thread Cert.AdamwSpatialIdeal.nD Cert.AdamwSpatialIdeal.τ).loc Cert.AdamwSpatialIdeal.main_v0_1) = v1 c
          ∧ r.2.mem ((c.tc : Thread Cert.AdamwSpatialIdeal.nD Cert.AdamwSpatialIdeal.τ).loc Cert.AdamwSpatialIdeal.main_v0_2) = v2 c
          ∧ r.2.mem ((c.tc : Thread Cert.AdamwSpatialIdeal.nD Cert.AdamwSpatialIdeal.τ).loc Cert.AdamwSpatialIdeal.main_v0_3) = v3 c
          ∧ r.2.mem ((c.tc : Thread Cert.AdamwSpatialIdeal.nD Cert.AdamwSpatialIdeal.τ).loc Cert.AdamwSpatialIdeal.main_arg0) = m ((c.tc : Thread Cert.AdamwSpatialIdeal.nD Cert.AdamwSpatialIdeal.τ).loc Cert.AdamwSpatialIdeal.main_arg0)
          ∧ r.2.mem ((c.tc : Thread Cert.AdamwSpatialIdeal.nD Cert.AdamwSpatialIdeal.τ).loc Cert.AdamwSpatialIdeal.main_arg1) = m ((c.tc : Thread Cert.AdamwSpatialIdeal.nD Cert.AdamwSpatialIdeal.τ).loc Cert.AdamwSpatialIdeal.main_arg1)
          ∧ r.2.mem ((c.tc : Thread Cert.AdamwSpatialIdeal.nD Cert.AdamwSpatialIdeal.τ).loc Cert.AdamwSpatialIdeal.main_arg2) = m ((c.tc : Thread Cert.AdamwSpatialIdeal.nD Cert.AdamwSpatialIdeal.τ).loc Cert.AdamwSpatialIdeal.main_arg2)
          ∧ r.2.mem ((c.tc : Thread Cert.AdamwSpatialIdeal.nD Cert.AdamwSpatialIdeal.τ).loc Cert.AdamwSpatialIdeal.main_arg3) = m ((c.tc : Thread Cert.AdamwSpatialIdeal.nD Cert.AdamwSpatialIdeal.τ).loc Cert.AdamwSpatialIdeal.main_arg3))
      ∧ θ_run (Cert.AdamwSpatialRefIdeal.defs (F := Ideal)) (onTc (τ := Cert.AdamwSpatialRefIdeal.τ) (Cert.AdamwSpatialRefIdeal.main (F := Ideal))) ⟨m', fun _ => 0, g'⟩ (fun r => ∀ c : Dev Cert.AdamwSpatialRefIdeal.nD,
          r.2.mem ((c.tc : Thread Cert.AdamwSpatialRefIdeal.nD Cert.AdamwSpatialRefIdeal.τ).loc Cert.AdamwSpatialRefIdeal.main_v26) = v0 c
          ∧ r.2.mem ((c.tc : Thread Cert.AdamwSpatialRefIdeal.nD Cert.AdamwSpatialRefIdeal.τ).loc Cert.AdamwSpatialRefIdeal.main_v25) = v1 c
          ∧ r.2.mem ((c.tc : Thread Cert.AdamwSpatialRefIdeal.nD Cert.AdamwSpatialRefIdeal.τ).loc Cert.AdamwSpatialRefIdeal.main_v5) = v2 c
          ∧ r.2.mem ((c.tc : Thread Cert.AdamwSpatialRefIdeal.nD Cert.AdamwSpatialRefIdeal.τ).loc Cert.AdamwSpatialRefIdeal.main_v12) = v3 c
          ∧ r.2.mem ((c.tc : Thread Cert.AdamwSpatialRefIdeal.nD Cert.AdamwSpatialRefIdeal.τ).loc Cert.AdamwSpatialRefIdeal.main_arg0) = m' ((c.tc : Thread Cert.AdamwSpatialRefIdeal.nD Cert.AdamwSpatialRefIdeal.τ).loc Cert.AdamwSpatialRefIdeal.main_arg0)
          ∧ r.2.mem ((c.tc : Thread Cert.AdamwSpatialRefIdeal.nD Cert.AdamwSpatialRefIdeal.τ).loc Cert.AdamwSpatialRefIdeal.main_arg1) = m' ((c.tc : Thread Cert.AdamwSpatialRefIdeal.nD Cert.AdamwSpatialRefIdeal.τ).loc Cert.AdamwSpatialRefIdeal.main_arg1)
          ∧ r.2.mem ((c.tc : Thread Cert.AdamwSpatialRefIdeal.nD Cert.AdamwSpatialRefIdeal.τ).loc Cert.AdamwSpatialRefIdeal.main_arg2) = m' ((c.tc : Thread Cert.AdamwSpatialRefIdeal.nD Cert.AdamwSpatialRefIdeal.τ).loc Cert.AdamwSpatialRefIdeal.main_arg2)
          ∧ r.2.mem ((c.tc : Thread Cert.AdamwSpatialRefIdeal.nD Cert.AdamwSpatialRefIdeal.τ).loc Cert.AdamwSpatialRefIdeal.main_arg3) = m' ((c.tc : Thread Cert.AdamwSpatialRefIdeal.nD Cert.AdamwSpatialRefIdeal.τ).loc Cert.AdamwSpatialRefIdeal.main_arg3))

def preserves_AdamwBias_AdamwBiasIdeal : Prop :=
  True

def algebraic_AdamwBiasIdeal_AdamwBiasRefIdeal [hAdamwBiasIdeal : Cert.AdamwBiasIdeal.Facts] [hAdamwBiasRefIdeal : Cert.AdamwBiasRefIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg)
    (m' : (ℓ : Loc Cert.AdamwBiasRefIdeal.nD Cert.AdamwBiasRefIdeal.τ Cert.AdamwBiasRefIdeal.sig) → Buf (Elt Ideal) ℓ) (g' : Dev Cert.AdamwBiasRefIdeal.nD → PrngReg), Pre_AdamwBiasIdeal m →
    (∀ c : Dev Cert.AdamwBiasIdeal.nD,
      m' ((c.tc : Thread Cert.AdamwBiasRefIdeal.nD Cert.AdamwBiasRefIdeal.τ).loc Cert.AdamwBiasRefIdeal.main_arg0) = m ((c.tc : Thread Cert.AdamwBiasIdeal.nD Cert.AdamwBiasIdeal.τ).loc Cert.AdamwBiasIdeal.main_arg0)
      ∧ m' ((c.tc : Thread Cert.AdamwBiasRefIdeal.nD Cert.AdamwBiasRefIdeal.τ).loc Cert.AdamwBiasRefIdeal.main_arg1) = m ((c.tc : Thread Cert.AdamwBiasIdeal.nD Cert.AdamwBiasIdeal.τ).loc Cert.AdamwBiasIdeal.main_arg1)
      ∧ m' ((c.tc : Thread Cert.AdamwBiasRefIdeal.nD Cert.AdamwBiasRefIdeal.τ).loc Cert.AdamwBiasRefIdeal.main_arg2) = m ((c.tc : Thread Cert.AdamwBiasIdeal.nD Cert.AdamwBiasIdeal.τ).loc Cert.AdamwBiasIdeal.main_arg2)
      ∧ m' ((c.tc : Thread Cert.AdamwBiasRefIdeal.nD Cert.AdamwBiasRefIdeal.τ).loc Cert.AdamwBiasRefIdeal.main_arg3) = m ((c.tc : Thread Cert.AdamwBiasIdeal.nD Cert.AdamwBiasIdeal.τ).loc Cert.AdamwBiasIdeal.main_arg3)) →
    ∃ (v0 : (c : Dev Cert.AdamwBiasIdeal.nD) → Buf (Elt Ideal) ((c.tc : Thread Cert.AdamwBiasIdeal.nD Cert.AdamwBiasIdeal.τ).loc Cert.AdamwBiasIdeal.main_v0_0)) (v1 : (c : Dev Cert.AdamwBiasIdeal.nD) → Buf (Elt Ideal) ((c.tc : Thread Cert.AdamwBiasIdeal.nD Cert.AdamwBiasIdeal.τ).loc Cert.AdamwBiasIdeal.main_v0_1)) (v2 : (c : Dev Cert.AdamwBiasIdeal.nD) → Buf (Elt Ideal) ((c.tc : Thread Cert.AdamwBiasIdeal.nD Cert.AdamwBiasIdeal.τ).loc Cert.AdamwBiasIdeal.main_v0_2)) (v3 : (c : Dev Cert.AdamwBiasIdeal.nD) → Buf (Elt Ideal) ((c.tc : Thread Cert.AdamwBiasIdeal.nD Cert.AdamwBiasIdeal.τ).loc Cert.AdamwBiasIdeal.main_v0_3)),
      θ_run (Cert.AdamwBiasIdeal.defs (F := Ideal)) (onTc (τ := Cert.AdamwBiasIdeal.τ) (Cert.AdamwBiasIdeal.main (F := Ideal))) ⟨m, fun _ => 0, g⟩ (fun r => ∀ c : Dev Cert.AdamwBiasIdeal.nD,
          r.2.mem ((c.tc : Thread Cert.AdamwBiasIdeal.nD Cert.AdamwBiasIdeal.τ).loc Cert.AdamwBiasIdeal.main_v0_0) = v0 c
          ∧ r.2.mem ((c.tc : Thread Cert.AdamwBiasIdeal.nD Cert.AdamwBiasIdeal.τ).loc Cert.AdamwBiasIdeal.main_v0_1) = v1 c
          ∧ r.2.mem ((c.tc : Thread Cert.AdamwBiasIdeal.nD Cert.AdamwBiasIdeal.τ).loc Cert.AdamwBiasIdeal.main_v0_2) = v2 c
          ∧ r.2.mem ((c.tc : Thread Cert.AdamwBiasIdeal.nD Cert.AdamwBiasIdeal.τ).loc Cert.AdamwBiasIdeal.main_v0_3) = v3 c
          ∧ r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
          ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
          ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
          ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ θ_run (Cert.AdamwBiasRefIdeal.defs (F := Ideal)) (onTc (τ := Cert.AdamwBiasRefIdeal.τ) (Cert.AdamwBiasRefIdeal.main (F := Ideal))) ⟨m', fun _ => 0, g'⟩ (fun r => ∀ c : Dev Cert.AdamwBiasRefIdeal.nD,
          r.2.mem ((c.tc : Thread Cert.AdamwBiasRefIdeal.nD Cert.AdamwBiasRefIdeal.τ).loc Cert.AdamwBiasRefIdeal.main_v26) = v0 c
          ∧ r.2.mem ((c.tc : Thread Cert.AdamwBiasRefIdeal.nD Cert.AdamwBiasRefIdeal.τ).loc Cert.AdamwBiasRefIdeal.main_v25) = v1 c
          ∧ r.2.mem ((c.tc : Thread Cert.AdamwBiasRefIdeal.nD Cert.AdamwBiasRefIdeal.τ).loc Cert.AdamwBiasRefIdeal.main_v5) = v2 c
          ∧ r.2.mem ((c.tc : Thread Cert.AdamwBiasRefIdeal.nD Cert.AdamwBiasRefIdeal.τ).loc Cert.AdamwBiasRefIdeal.main_v12) = v3 c
          ∧ r.2.mem ((c.tc : Thread Cert.AdamwBiasRefIdeal.nD Cert.AdamwBiasRefIdeal.τ).loc Cert.AdamwBiasRefIdeal.main_arg0) = m' ((c.tc : Thread Cert.AdamwBiasRefIdeal.nD Cert.AdamwBiasRefIdeal.τ).loc Cert.AdamwBiasRefIdeal.main_arg0)
          ∧ r.2.mem ((c.tc : Thread Cert.AdamwBiasRefIdeal.nD Cert.AdamwBiasRefIdeal.τ).loc Cert.AdamwBiasRefIdeal.main_arg1) = m' ((c.tc : Thread Cert.AdamwBiasRefIdeal.nD Cert.AdamwBiasRefIdeal.τ).loc Cert.AdamwBiasRefIdeal.main_arg1)
          ∧ r.2.mem ((c.tc : Thread Cert.AdamwBiasRefIdeal.nD Cert.AdamwBiasRefIdeal.τ).loc Cert.AdamwBiasRefIdeal.main_arg2) = m' ((c.tc : Thread Cert.AdamwBiasRefIdeal.nD Cert.AdamwBiasRefIdeal.τ).loc Cert.AdamwBiasRefIdeal.main_arg2)
          ∧ r.2.mem ((c.tc : Thread Cert.AdamwBiasRefIdeal.nD Cert.AdamwBiasRefIdeal.τ).loc Cert.AdamwBiasRefIdeal.main_arg3) = m' ((c.tc : Thread Cert.AdamwBiasRefIdeal.nD Cert.AdamwBiasRefIdeal.τ).loc Cert.AdamwBiasRefIdeal.main_arg3))

def Claim : Prop :=
  ∃ (hForget : Cert.Forget.Facts) (hForgetIdeal : Cert.ForgetIdeal.Facts) (hForgetRefIdeal : Cert.ForgetRefIdeal.Facts) (hGate : Cert.Gate.Facts) (hGateIdeal : Cert.GateIdeal.Facts) (hGateRefIdeal : Cert.GateRefIdeal.Facts) (hRelu2 : Cert.Relu2.Facts) (hRelu2Ideal : Cert.Relu2Ideal.Facts) (hRelu2RefIdeal : Cert.Relu2RefIdeal.Facts) (hNorms : Cert.Norms.Facts) (hNormsIdeal : Cert.NormsIdeal.Facts) (hNormsRefIdeal : Cert.NormsRefIdeal.Facts) (hLoss : Cert.Loss.Facts) (hLossIdeal : Cert.LossIdeal.Facts) (hLossRefIdeal : Cert.LossRefIdeal.Facts) (hDInput : Cert.DInput.Facts) (hDInputIdeal : Cert.DInputIdeal.Facts) (hDInputRefIdeal : Cert.DInputRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwOut : Cert.DwOut.Facts) (hDwOutIdeal : Cert.DwOutIdeal.Facts) (hDwOutRefIdeal : Cert.DwOutRefIdeal.Facts) (hDwBranch : Cert.DwBranch.Facts) (hDwBranchIdeal : Cert.DwBranchIdeal.Facts) (hDwBranchRefIdeal : Cert.DwBranchRefIdeal.Facts) (hDwMix : Cert.DwMix.Facts) (hDwMixIdeal : Cert.DwMixIdeal.Facts) (hDwMixRefIdeal : Cert.DwMixRefIdeal.Facts) (hDwGates : Cert.DwGates.Facts) (hDwGatesIdeal : Cert.DwGatesIdeal.Facts) (hDwGatesRefIdeal : Cert.DwGatesRefIdeal.Facts) (hDBranch : Cert.DBranch.Facts) (hDBranchIdeal : Cert.DBranchIdeal.Facts) (hDBranchRefIdeal : Cert.DBranchRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hSgu : Cert.Sgu.Facts) (hSguIdeal : Cert.SguIdeal.Facts) (hSguRefIdeal : Cert.SguRefIdeal.Facts) (hAdamw : Cert.Adamw.Facts) (hAdamwIdeal : Cert.AdamwIdeal.Facts) (hAdamwRefIdeal : Cert.AdamwRefIdeal.Facts) (hAdamwIn : Cert.AdamwIn.Facts) (hAdamwInIdeal : Cert.AdamwInIdeal.Facts) (hAdamwInRefIdeal : Cert.AdamwInRefIdeal.Facts) (hAdamwBranch : Cert.AdamwBranch.Facts) (hAdamwBranchIdeal : Cert.AdamwBranchIdeal.Facts) (hAdamwBranchRefIdeal : Cert.AdamwBranchRefIdeal.Facts) (hAdamwOut : Cert.AdamwOut.Facts) (hAdamwOutIdeal : Cert.AdamwOutIdeal.Facts) (hAdamwOutRefIdeal : Cert.AdamwOutRefIdeal.Facts) (hAdamwGain : Cert.AdamwGain.Facts) (hAdamwGainIdeal : Cert.AdamwGainIdeal.Facts) (hAdamwGainRefIdeal : Cert.AdamwGainRefIdeal.Facts) (hAdamwForget : Cert.AdamwForget.Facts) (hAdamwForgetIdeal : Cert.AdamwForgetIdeal.Facts) (hAdamwForgetRefIdeal : Cert.AdamwForgetRefIdeal.Facts) (hAdamwSgu : Cert.AdamwSgu.Facts) (hAdamwSguIdeal : Cert.AdamwSguIdeal.Facts) (hAdamwSguRefIdeal : Cert.AdamwSguRefIdeal.Facts) (hAdamwSpatial : Cert.AdamwSpatial.Facts) (hAdamwSpatialIdeal : Cert.AdamwSpatialIdeal.Facts) (hAdamwSpatialRefIdeal : Cert.AdamwSpatialRefIdeal.Facts) (hAdamwBias : Cert.AdamwBias.Facts) (hAdamwBiasIdeal : Cert.AdamwBiasIdeal.Facts) (hAdamwBiasRefIdeal : Cert.AdamwBiasRefIdeal.Facts) (hPre_forget_finite : Cert.Pre_forget_finite.Facts),
    quiescent_Forget (hForget := hForget)
    ∧ quiescent_ForgetIdeal (hForgetIdeal := hForgetIdeal)
    ∧ quiescent_ForgetIdeal_pre_forget_finite (hForgetIdeal := hForgetIdeal) (hPre_forget_finite := hPre_forget_finite)
    ∧ quiescent_ForgetRefIdeal (hForgetRefIdeal := hForgetRefIdeal)
    ∧ quiescent_ForgetRefIdeal_pre_forget_finite (hForgetRefIdeal := hForgetRefIdeal) (hPre_forget_finite := hPre_forget_finite)
    ∧ quiescent_Gate (hGate := hGate)
    ∧ quiescent_GateIdeal (hGateIdeal := hGateIdeal)
    ∧ quiescent_GateRefIdeal (hGateRefIdeal := hGateRefIdeal)
    ∧ quiescent_Relu2 (hRelu2 := hRelu2)
    ∧ quiescent_Relu2Ideal (hRelu2Ideal := hRelu2Ideal)
    ∧ quiescent_Relu2RefIdeal (hRelu2RefIdeal := hRelu2RefIdeal)
    ∧ quiescent_Norms (hNorms := hNorms)
    ∧ quiescent_NormsIdeal (hNormsIdeal := hNormsIdeal)
    ∧ quiescent_NormsRefIdeal (hNormsRefIdeal := hNormsRefIdeal)
    ∧ quiescent_Loss (hLoss := hLoss)
    ∧ quiescent_LossIdeal (hLossIdeal := hLossIdeal)
    ∧ quiescent_LossRefIdeal (hLossRefIdeal := hLossRefIdeal)
    ∧ quiescent_DInput (hDInput := hDInput)
    ∧ quiescent_DInputIdeal (hDInputIdeal := hDInputIdeal)
    ∧ quiescent_DInputRefIdeal (hDInputRefIdeal := hDInputRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_DwGates (hDwGates := hDwGates)
    ∧ quiescent_DwGatesIdeal (hDwGatesIdeal := hDwGatesIdeal)
    ∧ quiescent_DwGatesRefIdeal (hDwGatesRefIdeal := hDwGatesRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Sgu (hSgu := hSgu)
    ∧ quiescent_SguIdeal (hSguIdeal := hSguIdeal)
    ∧ quiescent_SguRefIdeal (hSguRefIdeal := hSguRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwBranch (hAdamwBranch := hAdamwBranch)
    ∧ quiescent_AdamwBranchIdeal (hAdamwBranchIdeal := hAdamwBranchIdeal)
    ∧ quiescent_AdamwBranchRefIdeal (hAdamwBranchRefIdeal := hAdamwBranchRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwGain (hAdamwGain := hAdamwGain)
    ∧ quiescent_AdamwGainIdeal (hAdamwGainIdeal := hAdamwGainIdeal)
    ∧ quiescent_AdamwGainRefIdeal (hAdamwGainRefIdeal := hAdamwGainRefIdeal)
    ∧ quiescent_AdamwForget (hAdamwForget := hAdamwForget)
    ∧ quiescent_AdamwForgetIdeal (hAdamwForgetIdeal := hAdamwForgetIdeal)
    ∧ quiescent_AdamwForgetRefIdeal (hAdamwForgetRefIdeal := hAdamwForgetRefIdeal)
    ∧ quiescent_AdamwSgu (hAdamwSgu := hAdamwSgu)
    ∧ quiescent_AdamwSguIdeal (hAdamwSguIdeal := hAdamwSguIdeal)
    ∧ quiescent_AdamwSguRefIdeal (hAdamwSguRefIdeal := hAdamwSguRefIdeal)
    ∧ quiescent_AdamwSpatial (hAdamwSpatial := hAdamwSpatial)
    ∧ quiescent_AdamwSpatialIdeal (hAdamwSpatialIdeal := hAdamwSpatialIdeal)
    ∧ quiescent_AdamwSpatialRefIdeal (hAdamwSpatialRefIdeal := hAdamwSpatialRefIdeal)
    ∧ quiescent_AdamwBias (hAdamwBias := hAdamwBias)
    ∧ quiescent_AdamwBiasIdeal (hAdamwBiasIdeal := hAdamwBiasIdeal)
    ∧ quiescent_AdamwBiasRefIdeal (hAdamwBiasRefIdeal := hAdamwBiasRefIdeal)
    ∧ preserves_Forget_ForgetIdeal
    ∧ algebraic_ForgetIdeal_ForgetRefIdeal_pre_forget_finite (hForgetIdeal := hForgetIdeal) (hForgetRefIdeal := hForgetRefIdeal) (hPre_forget_finite := hPre_forget_finite)
    ∧ preserves_Gate_GateIdeal
    ∧ algebraic_GateIdeal_GateRefIdeal (hGateIdeal := hGateIdeal) (hGateRefIdeal := hGateRefIdeal)
    ∧ preserves_Relu2_Relu2Ideal
    ∧ algebraic_Relu2Ideal_Relu2RefIdeal (hRelu2Ideal := hRelu2Ideal) (hRelu2RefIdeal := hRelu2RefIdeal)
    ∧ preserves_Norms_NormsIdeal
    ∧ algebraic_NormsIdeal_NormsRefIdeal (hNormsIdeal := hNormsIdeal) (hNormsRefIdeal := hNormsRefIdeal)
    ∧ preserves_Loss_LossIdeal
    ∧ algebraic_LossIdeal_LossRefIdeal (hLossIdeal := hLossIdeal) (hLossRefIdeal := hLossRefIdeal)
    ∧ preserves_DInput_DInputIdeal
    ∧ algebraic_DInputIdeal_DInputRefIdeal (hDInputIdeal := hDInputIdeal) (hDInputRefIdeal := hDInputRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwOut_DwOutIdeal
    ∧ algebraic_DwOutIdeal_DwOutRefIdeal (hDwOutIdeal := hDwOutIdeal) (hDwOutRefIdeal := hDwOutRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DwMix_DwMixIdeal
    ∧ algebraic_DwMixIdeal_DwMixRefIdeal (hDwMixIdeal := hDwMixIdeal) (hDwMixRefIdeal := hDwMixRefIdeal)
    ∧ preserves_DwGates_DwGatesIdeal
    ∧ algebraic_DwGatesIdeal_DwGatesRefIdeal (hDwGatesIdeal := hDwGatesIdeal) (hDwGatesRefIdeal := hDwGatesRefIdeal)
    ∧ preserves_DBranch_DBranchIdeal
    ∧ algebraic_DBranchIdeal_DBranchRefIdeal (hDBranchIdeal := hDBranchIdeal) (hDBranchRefIdeal := hDBranchRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Sgu_SguIdeal
    ∧ algebraic_SguIdeal_SguRefIdeal (hSguIdeal := hSguIdeal) (hSguRefIdeal := hSguRefIdeal)
    ∧ preserves_Adamw_AdamwIdeal
    ∧ algebraic_AdamwIdeal_AdamwRefIdeal (hAdamwIdeal := hAdamwIdeal) (hAdamwRefIdeal := hAdamwRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwBranch_AdamwBranchIdeal
    ∧ algebraic_AdamwBranchIdeal_AdamwBranchRefIdeal (hAdamwBranchIdeal := hAdamwBranchIdeal) (hAdamwBranchRefIdeal := hAdamwBranchRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwGain_AdamwGainIdeal
    ∧ algebraic_AdamwGainIdeal_AdamwGainRefIdeal (hAdamwGainIdeal := hAdamwGainIdeal) (hAdamwGainRefIdeal := hAdamwGainRefIdeal)
    ∧ preserves_AdamwForget_AdamwForgetIdeal
    ∧ algebraic_AdamwForgetIdeal_AdamwForgetRefIdeal (hAdamwForgetIdeal := hAdamwForgetIdeal) (hAdamwForgetRefIdeal := hAdamwForgetRefIdeal)
    ∧ preserves_AdamwSgu_AdamwSguIdeal
    ∧ algebraic_AdamwSguIdeal_AdamwSguRefIdeal (hAdamwSguIdeal := hAdamwSguIdeal) (hAdamwSguRefIdeal := hAdamwSguRefIdeal)
    ∧ preserves_AdamwSpatial_AdamwSpatialIdeal
    ∧ algebraic_AdamwSpatialIdeal_AdamwSpatialRefIdeal (hAdamwSpatialIdeal := hAdamwSpatialIdeal) (hAdamwSpatialRefIdeal := hAdamwSpatialRefIdeal)
    ∧ preserves_AdamwBias_AdamwBiasIdeal
    ∧ algebraic_AdamwBiasIdeal_AdamwBiasRefIdeal (hAdamwBiasIdeal := hAdamwBiasIdeal) (hAdamwBiasRefIdeal := hAdamwBiasRefIdeal)
-- ==== Pre_forget_finite.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x8 .f32) (main_arg3 : FVec F S1x8 .f32) : IVec S_ 1 :=
  let main_v0 : FVec F S8192x512 .f32 := subf main_arg0 main_arg0
  let main_cst : FVec F S_ .f32 := constant S_ .f32 0x00000000#32
  let main_v1 : FVec F S8192x512 .f32 := broadcastInDim S8192x512 ![] bcast_S_S8192x512 main_cst
  let main_v2 : IVec S8192x512 1 := cmpf .oeq main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := subf main_arg1 main_arg1
  let main_cst_0 : FVec F S_ .f32 := constant S_ .f32 0x00000000#32
  let main_v5 : FVec F S8192x512 .f32 := broadcastInDim S8192x512 ![] bcast_S_S8192x512 main_cst_0
  let main_v6 : IVec S8192x512 1 := cmpf .oeq main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Forget.lean ====
abbrev S8192x512 : Shape := ⟨2, ![8192, 512]⟩
abbrev S8192x8 : Shape := ⟨2, ![8192, 8]⟩
abbrev S1x8 : Shape := ⟨2, ![1, 8]⟩
abbrev S_ : Shape := ⟨0, ![]⟩
abbrev S8192x128 : Shape := ⟨2, ![8192, 128]⟩
abbrev S1x128 : Shape := ⟨2, ![1, 128]⟩
abbrev S256x512 : Shape := ⟨2, ![256, 512]⟩
abbrev S256x128 : Shape := ⟨2, ![256, 128]⟩
abbrev S256x1 : Shape := ⟨2, ![256, 1]⟩
abbrev S256x256 : Shape := ⟨2, ![256, 256]⟩
abbrev S128 : Shape := ⟨1, ![128]⟩

abbrev nBuf : Space → Nat
  | .hbm => 12
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S8192x128, .bf16⟩
  | .hbm, ⟨11, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | .local _ .vmem, ⟨9, _⟩ => ⟨S1x128, .f32⟩
  | .local _ .vmem, ⟨10, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ForgetRefIdeal.lean ====
abbrev S8192x512 : Shape := ⟨2, ![8192, 512]⟩
abbrev S8192x8 : Shape := ⟨2, ![8192, 8]⟩
abbrev S1x8 : Shape := ⟨2, ![1, 8]⟩
abbrev S8192x8x64 : Shape := ⟨3, ![8192, 8, 64]⟩
abbrev S8192x8x1 : Shape := ⟨3, ![8192, 8, 1]⟩
abbrev S_ : Shape := ⟨0, ![]⟩
abbrev S8 : Shape := ⟨1, ![8]⟩
abbrev S8192x128 : Shape := ⟨2, ![8192, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8, .f32⟩
  | .hbm, ⟨3, _⟩ => ⟨S1x8, .f32⟩
  | .hbm, ⟨4, _⟩ => ⟨S8192x8x64, .f32⟩
  | .hbm, ⟨5, _⟩ => ⟨S8192x8x1, .f32⟩
  | .hbm, ⟨6, _⟩ => ⟨S8192x8, .f32⟩
  | .hbm, ⟨7, _⟩ => ⟨S8192x8x64, .f32⟩
  | .hbm, ⟨8, _⟩ => ⟨S8192x8x1, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S_, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .i1⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .i1⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S_, .f32⟩
  | .hbm, ⟨34, _⟩ => ⟨S8192x8, .f32⟩
  | .hbm, ⟨35, _⟩ => ⟨S8192x8, .i1⟩
  | .hbm, ⟨36, _⟩ => ⟨S_, .f32⟩
  | .hbm, ⟨37, _⟩ => ⟨S8192x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x8, .f32⟩
  | .hbm, ⟨49, _⟩ => ⟨S8192x8, .i1⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S_, .f32⟩
  | .hbm, ⟨57, _⟩ => ⟨S8192x8, .f32⟩
  | .hbm, ⟨58, _⟩ => ⟨S8192x8, .f32⟩
  | .hbm, ⟨59, _⟩ => ⟨S8192x8, .f32⟩
  | .hbm, ⟨60, _⟩ => ⟨S_, .f32⟩
  | .hbm, ⟨61, _⟩ => ⟨S_, .f32⟩
  | .hbm, ⟨62, _⟩ => ⟨S8192x8, .f32⟩
  | .hbm, ⟨63, _⟩ => ⟨S8192x8, .f32⟩
  | .hbm, ⟨64, _⟩ => ⟨S8192x8, .f32⟩
  | .hbm, ⟨65, _⟩ => ⟨S8192x8, .f32⟩
  | .hbm, ⟨66, _⟩ => ⟨S_, .f32⟩
  | .hbm, ⟨67, _⟩ => ⟨S_, .f32⟩
  | .hbm, ⟨68, _⟩ => ⟨S8192x8, .f32⟩
  | .hbm, ⟨69, _⟩ => ⟨S8192x8, .f32⟩
  | .hbm, ⟨70, _⟩ => ⟨S8192x8, .f32⟩
  | .hbm, ⟨71, _⟩ => ⟨S8192x8, .f32⟩
  | .hbm, ⟨72, _⟩ => ⟨S_, .f32⟩
  | .hbm, ⟨73, _⟩ => ⟨S8, .f32⟩
  | .hbm, ⟨74, _⟩ => ⟨S1x8, .f32⟩
  | .hbm, ⟨75, _⟩ => ⟨S_, .i32⟩
  | .hbm, ⟨76, _⟩ => ⟨S_, .f32⟩
  | .hbm, ⟨77, _⟩ => ⟨S8192x128, .f32⟩
  | .hbm, ⟨78, _⟩ => ⟨S8192x128, .bf16⟩
  | .hbm, ⟨79, _⟩ => ⟨S_, .i32⟩
  | .hbm, ⟨80, _⟩ => ⟨S_, .f32⟩
  | .hbm, ⟨81, _⟩ => ⟨S1x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v8_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v8_2 : Ref sig .tc := ⟨.hbm, 58, rfl⟩
abbrev main_v8_0 : Ref sig .tc := ⟨.hbm, 59, rfl⟩
abbrev main_call1_call0_cst : Ref sig .tc := ⟨.hbm, 60, rfl⟩
abbrev main_call1_call0_v0 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call2_call0_cst : Ref sig .tc := ⟨.hbm, 66, rfl⟩
abbrev main_call2_call0_v0 : Ref sig .tc := ⟨.hbm, 67, rfl⟩
abbrev main_v13 : Ref sig .tc := ⟨.hbm, 68, rfl⟩
abbrev main_call3_v0 : Ref sig .tc := ⟨.hbm, 69, rfl⟩
abbrev main_call3_v1 : Ref sig .tc := ⟨.hbm, 70, rfl⟩
abbrev main_v14 : Ref sig .tc := ⟨.hbm, 71, rfl⟩
abbrev main_cst : Ref sig .tc := ⟨.hbm, 72, rfl⟩
abbrev main_v15 : Ref sig .tc := ⟨.hbm, 73, rfl⟩
abbrev main_v16 : Ref sig .tc := ⟨.hbm, 74, rfl⟩
abbrev main_c : Ref sig .tc := ⟨.hbm, 75, rfl⟩
abbrev main_call4_v0 : Ref sig .tc := ⟨.hbm, 76, rfl⟩
abbrev main_v17 : Ref sig .tc := ⟨.hbm, 77, rfl⟩
abbrev main_v18 : Ref sig .tc := ⟨.hbm, 78, rfl⟩
abbrev main_c_0 : Ref sig .tc := ⟨.hbm, 79, rfl⟩
abbrev main_call5_v0 : Ref sig .tc := ⟨.hbm, 80, rfl⟩
abbrev main_v19 : Ref sig .tc := ⟨.hbm, 81, rfl⟩

abbrev nD : Nat := 1
abbrev τ : Topo := Topo.v7x

variable {F : FTy → Type} [FloatOps F]
-- ==== Gate.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x2048, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GateRefIdeal.lean ====
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Relu2.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩
abbrev S512x1024 : Shape := ⟨2, ![512, 1024]⟩
abbrev S512x4096 : Shape := ⟨2, ![512, 4096]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1024, .bf16⟩
  | .hbm, ⟨11, _⟩ => ⟨S4096x1024, .bf16⟩
  | .hbm, ⟨12, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Relu2RefIdeal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Norms.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 29
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4096, .bf16⟩
  | .hbm, ⟨24, _⟩ => ⟨S1024x4096, .bf16⟩
  | .hbm, ⟨25, _⟩ => ⟨S8192x1024, .f32⟩
  | .hbm, ⟨26, _⟩ => ⟨S8192x1024, .bf16⟩
  | .hbm, ⟨27, _⟩ => ⟨S1x1024, .f32⟩
  | .hbm, ⟨28, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormsRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== DInput.lean ====
abbrev S8192x1024 : Shape := ⟨2, ![8192, 1024]⟩
abbrev S8192x512 : Shape := ⟨2, ![8192, 512]⟩
abbrev S8192x128 : Shape := ⟨2, ![8192, 128]⟩
abbrev S1024x4616 : Shape := ⟨2, ![1024, 4616]⟩
abbrev S1x1024 : Shape := ⟨2, ![1, 1024]⟩
abbrev S1024x1024 : Shape := ⟨2, ![1024, 1024]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 31
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x128, .f32⟩
  | .hbm, ⟨7, _⟩ => ⟨S1024x4616, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1024x4616, .bf16⟩
  | .hbm, ⟨12, _⟩ => ⟨S1024x1024, .bf16⟩
  | .hbm, ⟨13, _⟩ => ⟨S1024x512, .bf16⟩
  | .hbm, ⟨14, _⟩ => ⟨S1024x512, .bf16⟩
  | .hbm, ⟨15, _⟩ => ⟨S1024x512, .bf16⟩
  | .hbm, ⟨16, _⟩ => ⟨S1024x8, .bf16⟩
  | .hbm, ⟨17, _⟩ => ⟨S1024x1024, .bf16⟩
  | .hbm, ⟨18, _⟩ => ⟨S1024x1024, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S8192x1024, .bf16⟩
  | .hbm, ⟨23, _⟩ => ⟨S8192x512, .bf16⟩
  | .hbm, ⟨24, _⟩ => ⟨S8192x512, .bf16⟩
  | .hbm, ⟨25, _⟩ => ⟨S8192x512, .bf16⟩
  | .hbm, ⟨26, _⟩ => ⟨S8192x1024, .bf16⟩
  | .hbm, ⟨27, _⟩ => ⟨S8192x1024, .bf16⟩
  | .hbm, ⟨28, _⟩ => ⟨S8192x128, .bf16⟩
  | .hbm, ⟨29, _⟩ => ⟨S8192x1024, .f32⟩
  | .hbm, ⟨30, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S512x512, .bf16⟩
  | .local _ .vmem, ⟨10, _⟩ => ⟨S512x512, .bf16⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x128, .bf16⟩
  | .local _ .vmem, ⟨19, _⟩ => ⟨S512x128, .bf16⟩
  | .local _ .vmem, ⟨20, _⟩ => ⟨S1024x128, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== DInputRefIdeal.lean ====
abbrev S8192x1024 : Shape := ⟨2, ![8192, 1024]⟩
abbrev S8192x512 : Shape := ⟨2, ![8192, 512]⟩
abbrev S8192x128 : Shape := ⟨2, ![8192, 128]⟩
abbrev S1024x4616 : Shape := ⟨2, ![1024, 4616]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4616 : Shape := ⟨2, ![8192, 4616]⟩
abbrev S8192x8 : Shape := ⟨2, ![8192, 8]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x128, .f32⟩
  | .hbm, ⟨7, _⟩ => ⟨S1024x4616, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x4616, .f32⟩
  | .hbm, ⟨31, _⟩ => ⟨S8192x1024, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x8, .f32⟩
  | .hbm, ⟨36, _⟩ => ⟨S8192x1024, .f32⟩
  | .hbm, ⟨37, _⟩ => ⟨S8192x1024, .f32⟩
  | .hbm, ⟨38, _⟩ => ⟨S8192x8, .f32⟩
  | .hbm, ⟨39, _⟩ => ⟨S8192x4616, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwBranch.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwMix.lean ====
abbrev S8192x1024 : Shape := ⟨2, ![8192, 1024]⟩
abbrev S8192x512 : Shape := ⟨2, ![8192, 512]⟩
abbrev S8192x128 : Shape := ⟨2, ![8192, 128]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x128, .f32⟩
  | .hbm, ⟨6, _⟩ => ⟨S8192x1024, .bf16⟩
  | .hbm, ⟨7, _⟩ => ⟨S8192x1024, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x128, .bf16⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DwMixRefIdeal.lean ====
abbrev S8192x1024 : Shape := ⟨2, ![8192, 1024]⟩
abbrev S8192x512 : Shape := ⟨2, ![8192, 512]⟩
abbrev S8192x128 : Shape := ⟨2, ![8192, 128]⟩
abbrev S_ : Shape := ⟨0, ![]⟩
abbrev S1024x1024 : Shape := ⟨2, ![1024, 1024]⟩
abbrev S1024x512 : Shape := ⟨2, ![1024, 512]⟩
abbrev S512x1024 : Shape := ⟨2, ![512, 1024]⟩
abbrev S1024x128 : Shape := ⟨2, ![1024, 128]⟩
abbrev S128x1024 : Shape := ⟨2, ![128, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x128, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x512, .f32⟩
  | .hbm, ⟨13, _⟩ => ⟨S8192x512, .f32⟩
  | .hbm, ⟨14, _⟩ => ⟨S512x1024, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S8192x512, .f32⟩
  | .hbm, ⟨19, _⟩ => ⟨S512x1024, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S8192x512, .f32⟩
  | .hbm, ⟨24, _⟩ => ⟨S512x1024, .f32⟩
  | .hbm, ⟨25, _⟩ => ⟨S1024x512, .f32⟩
  | .hbm, ⟨26, _⟩ => ⟨S_, .f32⟩
  | .hbm, ⟨27, _⟩ => ⟨S1024x128, .f32⟩
  | .hbm, ⟨28, _⟩ => ⟨S8192x128, .f32⟩
  | .hbm, ⟨29, _⟩ => ⟨S128x1024, .f32⟩
  | .hbm, ⟨30, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== DwGates.lean ====
abbrev S8192x1024 : Shape := ⟨2, ![8192, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x1024, .f32⟩
  | .hbm, ⟨7, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwGatesRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S8192x1024, .f32⟩
  | .hbm, ⟨11, _⟩ => ⟨S1024x1024, .f32⟩
  | .hbm, ⟨12, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DBranch.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x1024, .bf16⟩
  | .hbm, ⟨3, _⟩ => ⟨S512x1024, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DBranchRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proj.lean ====
abbrev S8192x1024 : Shape := ⟨2, ![8192, 1024]⟩
abbrev S1024x4616 : Shape := ⟨2, ![1024, 4616]⟩
abbrev S1024x1024 : Shape := ⟨2, ![1024, 1024]⟩
abbrev S1024x1536 : Shape := ⟨2, ![1024, 1536]⟩
abbrev S1024x8 : Shape := ⟨2, ![1024, 8]⟩
abbrev S1024x2048 : Shape := ⟨2, ![1024, 2048]⟩
abbrev S_ : Shape := ⟨0, ![]⟩
abbrev S1024x128 : Shape := ⟨2, ![1024, 128]⟩
abbrev S8192x1536 : Shape := ⟨2, ![8192, 1536]⟩
abbrev S8192x2048 : Shape := ⟨2, ![8192, 2048]⟩
abbrev S8192x128 : Shape := ⟨2, ![8192, 128]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x4616, .f32⟩
  | .hbm, ⟨2, _⟩ => ⟨S1024x4616, .bf16⟩
  | .hbm, ⟨3, _⟩ => ⟨S1024x1024, .bf16⟩
  | .hbm, ⟨4, _⟩ => ⟨S1024x1536, .bf16⟩
  | .hbm, ⟨5, _⟩ => ⟨S1024x8, .bf16⟩
  | .hbm, ⟨6, _⟩ => ⟨S1024x2048, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S8192x1024, .bf16⟩
  | .hbm, ⟨11, _⟩ => ⟨S8192x1024, .f32⟩
  | .hbm, ⟨12, _⟩ => ⟨S8192x1536, .bf16⟩
  | .hbm, ⟨13, _⟩ => ⟨S8192x2048, .bf16⟩
  | .hbm, ⟨14, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1536, .bf16⟩
  | .local _ .vmem, ⟨4, _⟩ => ⟨S1024x2048, .bf16⟩
  | .local _ .vmem, ⟨5, _⟩ => ⟨S1024x128, .bf16⟩
  | .local _ .vmem, ⟨6, _⟩ => ⟨S512x1024, .f32⟩
  | .local _ .vmem, ⟨7, _⟩ => ⟨S512x1024, .f32⟩
  | .local _ .vmem, ⟨8, _⟩ => ⟨S512x1536, .bf16⟩
  | .local _ .vmem, ⟨9, _⟩ => ⟨S512x1536, .bf16⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S8192x1024 : Shape := ⟨2, ![8192, 1024]⟩
abbrev S1024x4616 : Shape := ⟨2, ![1024, 4616]⟩
abbrev S8192x4616 : Shape := ⟨2, ![8192, 4616]⟩
abbrev S8192x1536 : Shape := ⟨2, ![8192, 1536]⟩
abbrev S8192x8 : Shape := ⟨2, ![8192, 8]⟩
abbrev S8192x2048 : Shape := ⟨2, ![8192, 2048]⟩
abbrev S_ : Shape := ⟨0, ![]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4616, .f32⟩
  | .hbm, ⟨2, _⟩ => ⟨S8192x4616, .f32⟩
  | .hbm, ⟨3, _⟩ => ⟨S8192x1024, .f32⟩
  | .hbm, ⟨4, _⟩ => ⟨S8192x1536, .f32⟩
  | .hbm, ⟨5, _⟩ => ⟨S8192x8, .f32⟩
  | .hbm, ⟨6, _⟩ => ⟨S8192x2048, .f32⟩
  | .hbm, ⟨7, _⟩ => ⟨S8192x1536, .bf16⟩
  | .hbm, ⟨8, _⟩ => ⟨S8192x2048, .bf16⟩
  | .hbm, ⟨9, _⟩ => ⟨S_, .i32⟩
  | .hbm, ⟨10, _⟩ => ⟨S_, .f32⟩
  | .hbm, ⟨11, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8192x512 : Shape := ⟨2, ![8192, 512]⟩
abbrev S512x1024 : Shape := ⟨2, ![512, 1024]⟩
abbrev S8192x2048 : Shape := ⟨2, ![8192, 2048]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x1024, .f32⟩
  | .hbm, ⟨3, _⟩ => ⟨S512x1024, .f32⟩
  | .hbm, ⟨4, _⟩ => ⟨S8192x2048, .f32⟩
  | .hbm, ⟨5, _⟩ => ⟨S8192x512, .bf16⟩
  | .hbm, ⟨6, _⟩ => ⟨S8192x512, .bf16⟩
  | .hbm, ⟨7, _⟩ => ⟨S512x1024, .bf16⟩
  | .hbm, ⟨8, _⟩ => ⟨S512x1024, .bf16⟩
  | .hbm, ⟨9, _⟩ => ⟨S8192x2048, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8192x512 : Shape := ⟨2, ![8192, 512]⟩
abbrev S512x1024 : Shape := ⟨2, ![512, 1024]⟩
abbrev S8192x2048 : Shape := ⟨2, ![8192, 2048]⟩
abbrev S_ : Shape := ⟨0, ![]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x1024, .f32⟩
  | .hbm, ⟨3, _⟩ => ⟨S512x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Sgu.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x64, .f32⟩
  | .hbm, ⟨25, _⟩ => ⟨S128x512, .f32⟩
  | .hbm, ⟨26, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S1x512, .f32⟩
  | .local _ .vmem, ⟨4, _⟩ => ⟨S8x128x128, .bf16⟩
  | .local _ .vmem, ⟨5, _⟩ => ⟨S128x512, .f32⟩
  | .local _ .vmem, ⟨6, _⟩ => ⟨S512x512, .bf16⟩
  | .local _ .vmem, ⟨7, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguRefIdeal.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S64x128x8x64, .f32⟩
  | .hbm, ⟨50, _⟩ => ⟨S_, .i1⟩
  | .hbm, ⟨51, _⟩ => ⟨S128x128, .i1⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .i1⟩
  | .hbm, ⟨59, _⟩ => ⟨S128x128, .i1⟩
  | .hbm, ⟨60, _⟩ => ⟨S128x128, .i1⟩
  | .hbm, ⟨61, _⟩ => ⟨S1x128x128, .i1⟩
  | .hbm, ⟨62, _⟩ => ⟨S_, .f32⟩
  | .hbm, ⟨63, _⟩ => ⟨S8x128x128, .f32⟩
  | .hbm, ⟨64, _⟩ => ⟨S8x128x128, .i1⟩
  | .hbm, ⟨65, _⟩ => ⟨S8x128x128, .f32⟩
  | .hbm, ⟨66, _⟩ => ⟨S8x64x64x128, .f32⟩
  | .hbm, ⟨67, _⟩ => ⟨S64x128x8x64, .f32⟩
  | .hbm, ⟨68, _⟩ => ⟨S128x8, .f32⟩
  | .hbm, ⟨69, _⟩ => ⟨S1x128x8x1, .f32⟩
  | .hbm, ⟨70, _⟩ => ⟨S64x128x8x64, .f32⟩
  | .hbm, ⟨71, _⟩ => ⟨S64x128x8x64, .f32⟩
  | .hbm, ⟨72, _⟩ => ⟨S8192x512, .f32⟩
  | .hbm, ⟨73, _⟩ => ⟨S8192x512, .f32⟩
  | .hbm, ⟨74, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_call1_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Adamw.lean ====
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwIdeal.lean ====
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x1024, .f32⟩
  | .hbm, ⟨14, _⟩ => ⟨S1x1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S_, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S_, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwIn.lean ====
abbrev S1x1024x1154 : Shape := ⟨3, ![1, 1024, 1154]⟩
abbrev S1024x1154 : Shape := ⟨2, ![1024, 1154]⟩
abbrev S1x256x1154 : Shape := ⟨3, ![1, 256, 1154]⟩
abbrev S256x1154 : Shape := ⟨2, ![256, 1154]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1154, .f32⟩
  | .hbm, ⟨1, _⟩ => ⟨S1024x1154, .f32⟩
  | .hbm, ⟨2, _⟩ => ⟨S1x1024x1154, .f32⟩
  | .hbm, ⟨3, _⟩ => ⟨S1x1024x1154, .f32⟩
  | .hbm, ⟨4, _⟩ => ⟨S1x1024x1154, .f32⟩
  | .hbm, ⟨5, _⟩ => ⟨S1x1024x1154, .f32⟩
  | .hbm, ⟨6, _⟩ => ⟨S1x1024x1154, .f32⟩
  | .hbm, ⟨7, _⟩ => ⟨S1x1024x1154, .f32⟩
  | .local _ .vmem, ⟨0, _⟩ => ⟨S1x256x1154, .f32⟩
  | .local _ .vmem, ⟨1, _⟩ => ⟨S1x256x1154, .f32⟩
  | .local _ .vmem, ⟨2, _⟩ => ⟨S256x1154, .f32⟩
  | .local _ .vmem, ⟨3, _⟩ => ⟨S256x1154, .f32⟩
  | .local _ .vmem, ⟨4, _⟩ => ⟨S1x256x1154, .f32⟩
  | .local _ .vmem, ⟨5, _⟩ => ⟨S1x256x1154, .f32⟩
  | .local _ .vmem, ⟨6, _⟩ => ⟨S1x256x1154, .f32⟩
  | .local _ .vmem, ⟨7, _⟩ => ⟨S1x256x1154, .f32⟩
  | .local _ .vmem, ⟨8, _⟩ => ⟨S1x256x1154, .f32⟩
  | .local _ .vmem, ⟨9, _⟩ => ⟨S1x256x1154, .f32⟩
  | .local _ .vmem, ⟨10, _⟩ => ⟨S1x256x1154, .f32⟩
  | .local _ .vmem, ⟨11, _⟩ => ⟨S1x256x1154, .f32⟩
  | .local _ .vmem, ⟨12, _⟩ => ⟨S1x256x1154, .f32⟩
  | .local _ .vmem, ⟨13, _⟩ => ⟨S1x256x1154, .f32⟩
  | .local _ .vmem, ⟨14, _⟩ => ⟨S1x256x1154, .f32⟩
  | .local _ .vmem, ⟨15, _⟩ => ⟨S1x256x1154, .f32⟩
  | _, _ => ⟨S1x1024x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInIdeal.lean ====
abbrev S1x1024x1154 : Shape := ⟨3, ![1, 1024, 1154]⟩
abbrev S1024x1154 : Shape := ⟨2, ![1024, 1154]⟩
abbrev S1x256x1154 : Shape := ⟨3, ![1, 256, 1154]⟩
abbrev S256x1154 : Shape := ⟨2, ![256, 1154]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1154, .f32⟩
  | .hbm, ⟨1, _⟩ => ⟨S1024x1154, .f32⟩
  | .hbm, ⟨2, _⟩ => ⟨S1x1024x1154, .f32⟩
  | .hbm, ⟨3, _⟩ => ⟨S1x1024x1154, .f32⟩
  | .hbm, ⟨4, _⟩ => ⟨S1x1024x1154, .f32⟩
  | .hbm, ⟨5, _⟩ => ⟨S1x1024x1154, .f32⟩
  | .hbm, ⟨6, _⟩ => ⟨S1x1024x1154, .f32⟩
  | .hbm, ⟨7, _⟩ => ⟨S1x1024x1154, .f32⟩
  | .local _ .vmem, ⟨0, _⟩ => ⟨S1x256x1154, .f32⟩
  | .local _ .vmem, ⟨1, _⟩ => ⟨S1x256x1154, .f32⟩
  | .local _ .vmem, ⟨2, _⟩ => ⟨S256x1154, .f32⟩
  | .local _ .vmem, ⟨3, _⟩ => ⟨S256x1154, .f32⟩
  | .local _ .vmem, ⟨4, _⟩ => ⟨S1x256x1154, .f32⟩
  | .local _ .vmem, ⟨5, _⟩ => ⟨S1x256x1154, .f32⟩
  | .local _ .vmem, ⟨6, _⟩ => ⟨S1x256x1154, .f32⟩
  | .local _ .vmem, ⟨7, _⟩ => ⟨S1x256x1154, .f32⟩
  | .local _ .vmem, ⟨8, _⟩ => ⟨S1x256x1154, .f32⟩
  | .local _ .vmem, ⟨9, _⟩ => ⟨S1x256x1154, .f32⟩
  | .local _ .vmem, ⟨10, _⟩ => ⟨S1x256x1154, .f32⟩
  | .local _ .vmem, ⟨11, _⟩ => ⟨S1x256x1154, .f32⟩
  | .local _ .vmem, ⟨12, _⟩ => ⟨S1x256x1154, .f32⟩
  | .local _ .vmem, ⟨13, _⟩ => ⟨S1x256x1154, .f32⟩
  | .local _ .vmem, ⟨14, _⟩ => ⟨S1x256x1154, .f32⟩
  | .local _ .vmem, ⟨15, _⟩ => ⟨S1x256x1154, .f32⟩
  | _, _ => ⟨S1x1024x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInRefIdeal.lean ====
abbrev S1x1024x1154 : Shape := ⟨3, ![1, 1024, 1154]⟩
abbrev S1024x1154 : Shape := ⟨2, ![1024, 1154]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1154, .f32⟩
  | .hbm, ⟨1, _⟩ => ⟨S1024x1154, .f32⟩
  | .hbm, ⟨2, _⟩ => ⟨S1x1024x1154, .f32⟩
  | .hbm, ⟨3, _⟩ => ⟨S1x1024x1154, .f32⟩
  | .hbm, ⟨4, _⟩ => ⟨S_, .f32⟩
  | .hbm, ⟨5, _⟩ => ⟨S1x1024x1154, .f32⟩
  | .hbm, ⟨6, _⟩ => ⟨S1x1024x1154, .f32⟩
  | .hbm, ⟨7, _⟩ => ⟨S_, .f32⟩
  | .hbm, ⟨8, _⟩ => ⟨S1024x1154, .f32⟩
  | .hbm, ⟨9, _⟩ => ⟨S1024x1154, .f32⟩
  | .hbm, ⟨10, _⟩ => ⟨S1x1024x1154, .f32⟩
  | .hbm, ⟨11, _⟩ => ⟨S1x1024x1154, .f32⟩
  | .hbm, ⟨12, _⟩ => ⟨S_, .f32⟩
  | .hbm, ⟨13, _⟩ => ⟨S1x1024x1154, .f32⟩
  | .hbm, ⟨14, _⟩ => ⟨S1x1024x1154, .f32⟩
  | .hbm, ⟨15, _⟩ => ⟨S1024x1154, .f32⟩
  | .hbm, ⟨16, _⟩ => ⟨S_, .f32⟩
  | .hbm, ⟨17, _⟩ => ⟨S1024x1154, .f32⟩
  | .hbm, ⟨18, _⟩ => ⟨S1024x1154, .f32⟩
  | .hbm, ⟨19, _⟩ => ⟨S1x1024x1154, .f32⟩
  | .hbm, ⟨20, _⟩ => ⟨S1x1024x1154, .f32⟩
  | .hbm, ⟨21, _⟩ => ⟨S_, .f32⟩
  | .hbm, ⟨22, _⟩ => ⟨S1x1024x1154, .f32⟩
  | .hbm, ⟨23, _⟩ => ⟨S1x1024x1154, .f32⟩
  | .hbm, ⟨24, _⟩ => ⟨S_, .f32⟩
  | .hbm, ⟨25, _⟩ => ⟨S1x1024x1154, .f32⟩
  | .hbm, ⟨26, _⟩ => ⟨S1x1024x1154, .f32⟩
  | .hbm, ⟨27, _⟩ => ⟨S1x1024x1154, .f32⟩
  | .hbm, ⟨28, _⟩ => ⟨S_, .f32⟩
  | .hbm, ⟨29, _⟩ => ⟨S1x1024x1154, .f32⟩
  | .hbm, ⟨30, _⟩ => ⟨S1x1024x1154, .f32⟩
  | .hbm, ⟨31, _⟩ => ⟨S1x1024x1154, .f32⟩
  | .hbm, ⟨32, _⟩ => ⟨S_, .f32⟩
  | .hbm, ⟨33, _⟩ => ⟨S1x1024x1154, .f32⟩
  | .hbm, ⟨34, _⟩ => ⟨S1x1024x1154, .f32⟩
  | .hbm, ⟨35, _⟩ => ⟨S1x1024x1154, .f32⟩
  | .hbm, ⟨36, _⟩ => ⟨S_, .f32⟩
  | .hbm, ⟨37, _⟩ => ⟨S1x1024x1154, .f32⟩
  | .hbm, ⟨38, _⟩ => ⟨S1x1024x1154, .f32⟩
  | .hbm, ⟨39, _⟩ => ⟨S1x1024x1154, .f32⟩
  | _, _ => ⟨S1x1024x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwBranch.lean ====
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwBranchIdeal.lean ====
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwBranchRefIdeal.lean ====
abbrev S1x512x256 : Shape := ⟨3, ![1, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S_, .f32⟩
  | .hbm, ⟨5, _⟩ => ⟨S1x512x256, .f32⟩
  | .hbm, ⟨6, _⟩ => ⟨S1x512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S1x512x256, .f32⟩
  | .hbm, ⟨11, _⟩ => ⟨S1x512x256, .f32⟩
  | .hbm, ⟨12, _⟩ => ⟨S_, .f32⟩
  | .hbm, ⟨13, _⟩ => ⟨S1x512x256, .f32⟩
  | .hbm, ⟨14, _⟩ => ⟨S1x512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S1x512x256, .f32⟩
  | .hbm, ⟨20, _⟩ => ⟨S1x512x256, .f32⟩
  | .hbm, ⟨21, _⟩ => ⟨S_, .f32⟩
  | .hbm, ⟨22, _⟩ => ⟨S1x512x256, .f32⟩
  | .hbm, ⟨23, _⟩ => ⟨S1x512x256, .f32⟩
  | .hbm, ⟨24, _⟩ => ⟨S_, .f32⟩
  | .hbm, ⟨25, _⟩ => ⟨S1x512x256, .f32⟩
  | .hbm, ⟨26, _⟩ => ⟨S1x512x256, .f32⟩
  | .hbm, ⟨27, _⟩ => ⟨S1x512x256, .f32⟩
  | .hbm, ⟨28, _⟩ => ⟨S_, .f32⟩
  | .hbm, ⟨29, _⟩ => ⟨S1x512x256, .f32⟩
  | .hbm, ⟨30, _⟩ => ⟨S1x512x256, .f32⟩
  | .hbm, ⟨31, _⟩ => ⟨S1x512x256, .f32⟩
  | .hbm, ⟨32, _⟩ => ⟨S_, .f32⟩
  | .hbm, ⟨33, _⟩ => ⟨S1x512x256, .f32⟩
  | .hbm, ⟨34, _⟩ => ⟨S1x512x256, .f32⟩
  | .hbm, ⟨35, _⟩ => ⟨S1x512x256, .f32⟩
  | .hbm, ⟨36, _⟩ => ⟨S_, .f32⟩
  | .hbm, ⟨37, _⟩ => ⟨S1x512x256, .f32⟩
  | .hbm, ⟨38, _⟩ => ⟨S1x512x256, .f32⟩
  | .hbm, ⟨39, _⟩ => ⟨S1x512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwOut.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S_, .f32⟩
  | .hbm, ⟨29, _⟩ => ⟨S1x256x1024, .f32⟩
  | .hbm, ⟨30, _⟩ => ⟨S1x256x1024, .f32⟩
  | .hbm, ⟨31, _⟩ => ⟨S1x256x1024, .f32⟩
  | .hbm, ⟨32, _⟩ => ⟨S_, .f32⟩
  | .hbm, ⟨33, _⟩ => ⟨S1x256x1024, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | .hbm, ⟨39, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwGain.lean ====
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGainIdeal.lean ====
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGainRefIdeal.lean ====
abbrev S1x1x1024 : Shape := ⟨3, ![1, 1, 1024]⟩
abbrev S1x1024 : Shape := ⟨2, ![1, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1x1024, .f32⟩
  | .hbm, ⟨11, _⟩ => ⟨S1x1x1024, .f32⟩
  | .hbm, ⟨12, _⟩ => ⟨S_, .f32⟩
  | .hbm, ⟨13, _⟩ => ⟨S1x1x1024, .f32⟩
  | .hbm, ⟨14, _⟩ => ⟨S1x1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1x1024, .f32⟩
  | .hbm, ⟨20, _⟩ => ⟨S1x1x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S1x1x1024, .f32⟩
  | .hbm, ⟨36, _⟩ => ⟨S_, .f32⟩
  | .hbm, ⟨37, _⟩ => ⟨S1x1x1024, .f32⟩
  | .hbm, ⟨38, _⟩ => ⟨S1x1x1024, .f32⟩
  | .hbm, ⟨39, _⟩ => ⟨S1x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwForget.lean ====
abbrev S1x1x8 : Shape := ⟨3, ![1, 1, 8]⟩
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x1x8, .f32⟩
  | .hbm, ⟨1, _⟩ => ⟨S1x8, .f32⟩
  | .hbm, ⟨2, _⟩ => ⟨S1x1x8, .f32⟩
  | .hbm, ⟨3, _⟩ => ⟨S1x1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .local _ .vmem, ⟨0, _⟩ => ⟨S1x1x8, .f32⟩
  | .local _ .vmem, ⟨1, _⟩ => ⟨S1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | _, _ => ⟨S1x1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwForgetIdeal.lean ====
abbrev S1x1x8 : Shape := ⟨3, ![1, 1, 8]⟩
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x1x8, .f32⟩
  | .hbm, ⟨1, _⟩ => ⟨S1x8, .f32⟩
  | .hbm, ⟨2, _⟩ => ⟨S1x1x8, .f32⟩
  | .hbm, ⟨3, _⟩ => ⟨S1x1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .local _ .vmem, ⟨0, _⟩ => ⟨S1x1x8, .f32⟩
  | .local _ .vmem, ⟨1, _⟩ => ⟨S1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | _, _ => ⟨S1x1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwForgetRefIdeal.lean ====
abbrev S1x1x8 : Shape := ⟨3, ![1, 1, 8]⟩
abbrev S1x8 : Shape := ⟨2, ![1, 8]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1x8, .f32⟩
  | .hbm, ⟨1, _⟩ => ⟨S1x8, .f32⟩
  | .hbm, ⟨2, _⟩ => ⟨S1x1x8, .f32⟩
  | .hbm, ⟨3, _⟩ => ⟨S1x1x8, .f32⟩
  | .hbm, ⟨4, _⟩ => ⟨S_, .f32⟩
  | .hbm, ⟨5, _⟩ => ⟨S1x1x8, .f32⟩
  | .hbm, ⟨6, _⟩ => ⟨S1x1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x1x8, .f32⟩
  | .hbm, ⟨11, _⟩ => ⟨S1x1x8, .f32⟩
  | .hbm, ⟨12, _⟩ => ⟨S_, .f32⟩
  | .hbm, ⟨13, _⟩ => ⟨S1x1x8, .f32⟩
  | .hbm, ⟨14, _⟩ => ⟨S1x1x8, .f32⟩
  | .hbm, ⟨15, _⟩ => ⟨S1x8, .f32⟩
  | .hbm, ⟨16, _⟩ => ⟨S_, .f32⟩
  | .hbm, ⟨17, _⟩ => ⟨S1x8, .f32⟩
  | .hbm, ⟨18, _⟩ => ⟨S1x8, .f32⟩
  | .hbm, ⟨19, _⟩ => ⟨S1x1x8, .f32⟩
  | .hbm, ⟨20, _⟩ => ⟨S1x1x8, .f32⟩
  | .hbm, ⟨21, _⟩ => ⟨S_, .f32⟩
  | .hbm, ⟨22, _⟩ => ⟨S1x1x8, .f32⟩
  | .hbm, ⟨23, _⟩ => ⟨S1x1x8, .f32⟩
  | .hbm, ⟨24, _⟩ => ⟨S_, .f32⟩
  | .hbm, ⟨25, _⟩ => ⟨S1x1x8, .f32⟩
  | .hbm, ⟨26, _⟩ => ⟨S1x1x8, .f32⟩
  | .hbm, ⟨27, _⟩ => ⟨S1x1x8, .f32⟩
  | .hbm, ⟨28, _⟩ => ⟨S_, .f32⟩
  | .hbm, ⟨29, _⟩ => ⟨S1x1x8, .f32⟩
  | .hbm, ⟨30, _⟩ => ⟨S1x1x8, .f32⟩
  | .hbm, ⟨31, _⟩ => ⟨S1x1x8, .f32⟩
  | .hbm, ⟨32, _⟩ => ⟨S_, .f32⟩
  | .hbm, ⟨33, _⟩ => ⟨S1x1x8, .f32⟩
  | .hbm, ⟨34, _⟩ => ⟨S1x1x8, .f32⟩
  | .hbm, ⟨35, _⟩ => ⟨S1x1x8, .f32⟩
  | .hbm, ⟨36, _⟩ => ⟨S_, .f32⟩
  | .hbm, ⟨37, _⟩ => ⟨S1x1x8, .f32⟩
  | .hbm, ⟨38, _⟩ => ⟨S1x1x8, .f32⟩
  | .hbm, ⟨39, _⟩ => ⟨S1x1x8, .f32⟩
  | _, _ => ⟨S1x1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwSgu.lean ====
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x512, .f32⟩
  | .hbm, ⟨1, _⟩ => ⟨S1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S1x1x512, .f32⟩
  | .local _ .vmem, ⟨1, _⟩ => ⟨S1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSguIdeal.lean ====
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x512, .f32⟩
  | .hbm, ⟨1, _⟩ => ⟨S1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S1x1x512, .f32⟩
  | .local _ .vmem, ⟨1, _⟩ => ⟨S1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSguRefIdeal.lean ====
abbrev S1x1x512 : Shape := ⟨3, ![1, 1, 512]⟩
abbrev S1x512 : Shape := ⟨2, ![1, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1x512, .f32⟩
  | .hbm, ⟨1, _⟩ => ⟨S1x512, .f32⟩
  | .hbm, ⟨2, _⟩ => ⟨S1x1x512, .f32⟩
  | .hbm, ⟨3, _⟩ => ⟨S1x1x512, .f32⟩
  | .hbm, ⟨4, _⟩ => ⟨S_, .f32⟩
  | .hbm, ⟨5, _⟩ => ⟨S1x1x512, .f32⟩
  | .hbm, ⟨6, _⟩ => ⟨S1x1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x1x512, .f32⟩
  | .hbm, ⟨11, _⟩ => ⟨S1x1x512, .f32⟩
  | .hbm, ⟨12, _⟩ => ⟨S_, .f32⟩
  | .hbm, ⟨13, _⟩ => ⟨S1x1x512, .f32⟩
  | .hbm, ⟨14, _⟩ => ⟨S1x1x512, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S1x1x512, .f32⟩
  | .hbm, ⟨20, _⟩ => ⟨S1x1x512, .f32⟩
  | .hbm, ⟨21, _⟩ => ⟨S_, .f32⟩
  | .hbm, ⟨22, _⟩ => ⟨S1x1x512, .f32⟩
  | .hbm, ⟨23, _⟩ => ⟨S1x1x512, .f32⟩
  | .hbm, ⟨24, _⟩ => ⟨S_, .f32⟩
  | .hbm, ⟨25, _⟩ => ⟨S1x1x512, .f32⟩
  | .hbm, ⟨26, _⟩ => ⟨S1x1x512, .f32⟩
  | .hbm, ⟨27, _⟩ => ⟨S1x1x512, .f32⟩
  | .hbm, ⟨28, _⟩ => ⟨S_, .f32⟩
  | .hbm, ⟨29, _⟩ => ⟨S1x1x512, .f32⟩
  | .hbm, ⟨30, _⟩ => ⟨S1x1x512, .f32⟩
  | .hbm, ⟨31, _⟩ => ⟨S1x1x512, .f32⟩
  | .hbm, ⟨32, _⟩ => ⟨S_, .f32⟩
  | .hbm, ⟨33, _⟩ => ⟨S1x1x512, .f32⟩
  | .hbm, ⟨34, _⟩ => ⟨S1x1x512, .f32⟩
  | .hbm, ⟨35, _⟩ => ⟨S1x1x512, .f32⟩
  | .hbm, ⟨36, _⟩ => ⟨S_, .f32⟩
  | .hbm, ⟨37, _⟩ => ⟨S1x1x512, .f32⟩
  | .hbm, ⟨38, _⟩ => ⟨S1x1x512, .f32⟩
  | .hbm, ⟨39, _⟩ => ⟨S1x1x512, .f32⟩
  | _, _ => ⟨S1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwSpatial.lean ====
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x128, .f32⟩
  | .hbm, ⟨1, _⟩ => ⟨S1024x128, .f32⟩
  | .hbm, ⟨2, _⟩ => ⟨S1x1024x128, .f32⟩
  | .hbm, ⟨3, _⟩ => ⟨S1x1024x128, .f32⟩
  | .hbm, ⟨4, _⟩ => ⟨S1x1024x128, .f32⟩
  | .hbm, ⟨5, _⟩ => ⟨S1x1024x128, .f32⟩
  | .hbm, ⟨6, _⟩ => ⟨S1x1024x128, .f32⟩
  | .hbm, ⟨7, _⟩ => ⟨S1x1024x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwSpatialIdeal.lean ====
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x128, .f32⟩
  | .hbm, ⟨1, _⟩ => ⟨S1024x128, .f32⟩
  | .hbm, ⟨2, _⟩ => ⟨S1x1024x128, .f32⟩
  | .hbm, ⟨3, _⟩ => ⟨S1x1024x128, .f32⟩
  | .hbm, ⟨4, _⟩ => ⟨S1x1024x128, .f32⟩
  | .hbm, ⟨5, _⟩ => ⟨S1x1024x128, .f32⟩
  | .hbm, ⟨6, _⟩ => ⟨S1x1024x128, .f32⟩
  | .hbm, ⟨7, _⟩ => ⟨S1x1024x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwSpatialRefIdeal.lean ====
abbrev S1x1024x128 : Shape := ⟨3, ![1, 1024, 128]⟩
abbrev S1024x128 : Shape := ⟨2, ![1024, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x128, .f32⟩
  | .hbm, ⟨1, _⟩ => ⟨S1024x128, .f32⟩
  | .hbm, ⟨2, _⟩ => ⟨S1x1024x128, .f32⟩
  | .hbm, ⟨3, _⟩ => ⟨S1x1024x128, .f32⟩
  | .hbm, ⟨4, _⟩ => ⟨S_, .f32⟩
  | .hbm, ⟨5, _⟩ => ⟨S1x1024x128, .f32⟩
  | .hbm, ⟨6, _⟩ => ⟨S1x1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1x1024x128, .f32⟩
  | .hbm, ⟨11, _⟩ => ⟨S1x1024x128, .f32⟩
  | .hbm, ⟨12, _⟩ => ⟨S_, .f32⟩
  | .hbm, ⟨13, _⟩ => ⟨S1x1024x128, .f32⟩
  | .hbm, ⟨14, _⟩ => ⟨S1x1024x128, .f32⟩
  | .hbm, ⟨15, _⟩ => ⟨S1024x128, .f32⟩
  | .hbm, ⟨16, _⟩ => ⟨S_, .f32⟩
  | .hbm, ⟨17, _⟩ => ⟨S1024x128, .f32⟩
  | .hbm, ⟨18, _⟩ => ⟨S1024x128, .f32⟩
  | .hbm, ⟨19, _⟩ => ⟨S1x1024x128, .f32⟩
  | .hbm, ⟨20, _⟩ => ⟨S1x1024x128, .f32⟩
  | .hbm, ⟨21, _⟩ => ⟨S_, .f32⟩
  | .hbm, ⟨22, _⟩ => ⟨S1x1024x128, .f32⟩
  | .hbm, ⟨23, _⟩ => ⟨S1x1024x128, .f32⟩
  | .hbm, ⟨24, _⟩ => ⟨S_, .f32⟩
  | .hbm, ⟨25, _⟩ => ⟨S1x1024x128, .f32⟩
  | .hbm, ⟨26, _⟩ => ⟨S1x1024x128, .f32⟩
  | .hbm, ⟨27, _⟩ => ⟨S1x1024x128, .f32⟩
  | .hbm, ⟨28, _⟩ => ⟨S_, .f32⟩
  | .hbm, ⟨29, _⟩ => ⟨S1x1024x128, .f32⟩
  | .hbm, ⟨30, _⟩ => ⟨S1x1024x128, .f32⟩
  | .hbm, ⟨31, _⟩ => ⟨S1x1024x128, .f32⟩
  | .hbm, ⟨32, _⟩ => ⟨S_, .f32⟩
  | .hbm, ⟨33, _⟩ => ⟨S1x1024x128, .f32⟩
  | .hbm, ⟨34, _⟩ => ⟨S1x1024x128, .f32⟩
  | .hbm, ⟨35, _⟩ => ⟨S1x1024x128, .f32⟩
  | .hbm, ⟨36, _⟩ => ⟨S_, .f32⟩
  | .hbm, ⟨37, _⟩ => ⟨S1x1024x128, .f32⟩
  | .hbm, ⟨38, _⟩ => ⟨S1x1024x128, .f32⟩
  | .hbm, ⟨39, _⟩ => ⟨S1x1024x128, .f32⟩
  | _, _ => ⟨S1x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwBias.lean ====
abbrev S1x8x128 : Shape := ⟨3, ![1, 8, 128]⟩
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x8x128, .f32⟩
  | .hbm, ⟨1, _⟩ => ⟨S8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .local _ .vmem, ⟨0, _⟩ => ⟨S1x8x128, .f32⟩
  | .local _ .vmem, ⟨1, _⟩ => ⟨S8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwBiasRefIdeal.lean ====
abbrev S1x8x128 : Shape := ⟨3, ![1, 8, 128]⟩
abbrev S8x128 : Shape := ⟨2, ![8, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S1x8x128, .f32⟩
  | .hbm, ⟨11, _⟩ => ⟨S1x8x128, .f32⟩
  | .hbm, ⟨12, _⟩ => ⟨S_, .f32⟩
  | .hbm, ⟨13, _⟩ => ⟨S1x8x128, .f32⟩
  | .hbm, ⟨14, _⟩ => ⟨S1x8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S1x8x128, .f32⟩
  | .hbm, ⟨20, _⟩ => ⟨S1x8x128, .f32⟩
  | .hbm, ⟨21, _⟩ => ⟨S_, .f32⟩
  | .hbm, ⟨22, _⟩ => ⟨S1x8x128, .f32⟩
  | .hbm, ⟨23, _⟩ => ⟨S1x8x128, .f32⟩
  | .hbm, ⟨24, _⟩ => ⟨S_, .f32⟩
  | .hbm, ⟨25, _⟩ => ⟨S1x8x128, .f32⟩
  | .hbm, ⟨26, _⟩ => ⟨S1x8x128, .f32⟩
  | .hbm, ⟨27, _⟩ => ⟨S1x8x128, .f32⟩
  | .hbm, ⟨28, _⟩ => ⟨S_, .f32⟩
  | .hbm, ⟨29, _⟩ => ⟨S1x8x128, .f32⟩
  | .hbm, ⟨30, _⟩ => ⟨S1x8x128, .f32⟩
  | .hbm, ⟨31, _⟩ => ⟨S1x8x128, .f32⟩
  | .hbm, ⟨32, _⟩ => ⟨S_, .f32⟩
  | .hbm, ⟨33, _⟩ => ⟨S1x8x128, .f32⟩
  | .hbm, ⟨34, _⟩ => ⟨S1x8x128, .f32⟩
  | .hbm, ⟨35, _⟩ => ⟨S1x8x128, .f32⟩
  | .hbm, ⟨36, _⟩ => ⟨S_, .f32⟩
  | .hbm, ⟨37, _⟩ => ⟨S1x8x128, .f32⟩
  | .hbm, ⟨38, _⟩ => ⟨S1x8x128, .f32⟩
  | .hbm, ⟨39, _⟩ => ⟨S1x8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Scalars.lean ====
module

public import Idealize.ShloMosaic.PureOps.Ideal
public import Idealize.ShloMosaic.PureOps.Ideal.Laws
public import Idealize.ShloMosaic.Lib.IdealHost

/-! The scalar functions of the extended reals at real arguments. -/

@[expose] public section

noncomputable section

namespace Cert.Scalars

open Idealize.ShloMosaic

theorem sqrt_coe {r : ℝ} (h : 0 ≤ r) : Ideal.sqrt (r : EReal) = (Real.sqrt r : ℝ) :=
  if_neg (not_lt.mpr h)

theorem sqrt_top : Ideal.sqrt ⊤ = ⊤ := rfl

theorem sqrt_zero : Ideal.sqrt 0 = 0 := by
  have h := sqrt_coe (le_refl (0 : ℝ))
  rwa [Real.sqrt_zero, EReal.coe_zero] at h

theorem rsqrt_coe {r : ℝ} (h : 0 < r) : Ideal.rsqrt (r : EReal) = ((Real.sqrt r)⁻¹ : ℝ) :=
  (if_neg (not_lt.mpr h.le)).trans (if_neg h.ne')

theorem exp_coe (r : ℝ) : Ideal.exp (r : EReal) = (Real.exp r : ℝ) := rfl

theorem log_coe {r : ℝ} (h : 0 < r) : Ideal.log (r : EReal) = (Real.log r : ℝ) :=
  if_neg (not_le.mpr h)

theorem div_coe (a : ℝ) {b : ℝ} (h : b ≠ 0) : Ideal.div (a : EReal) (b : EReal) = (a / b : ℝ) := by
  unfold Ideal.div
  rw [if_neg (by exact_mod_cast h), div_eq_mul_inv, EReal.coe_mul, EReal.coe_inv]

theorem max_coe (a b : ℝ) : max (a : EReal) (b : EReal) = (max a b : ℝ) :=
  (EReal.coe_strictMono.monotone.map_max).symm

/-- The root of a square that is not negative. -/
theorem sqrt_mul_self {x : EReal} (h : 0 ≤ x) : Ideal.sqrt (x * x) = x := by
  induction x with
  | bot => simp at h
  | top => rw [EReal.top_mul_top, sqrt_top]
  | coe r =>
    have hr : 0 ≤ r := by exact_mod_cast h
    rw [← EReal.coe_mul, sqrt_coe (mul_nonneg hr hr), Real.sqrt_mul_self hr]

/-- A sum of reals in the extended reals is the real sum. -/
theorem coe_sum {ι : Type*} (s : Finset ι) (f : ι → ℝ) : (∑ i ∈ s, (f i : EReal)) = ((∑ i ∈ s, f i : ℝ) : EReal) :=
  (map_sum (⟨⟨fun x : ℝ => (x : EReal), EReal.coe_zero⟩, EReal.coe_add⟩ : ℝ →+ EReal) f s).symm

end Cert.Scalars
end
-- ==== Proof.Suffix.lean ====
module

public import Idealize.ShloMosaic.PureOps.Ideal
public import Idealize.ShloMosaic.PureOps.Ideal.Laws
public import Idealize.ShloMosaic.Lib.IdealHost
public import Idealize.ShloMosaic.Lib.Routing.Ops
public import Idealize.ShloMosaic.Lib.Routing.OpsOne
public import proofs.«01_k».proof.Proof.Scalars

/-! Sums from a row to the end: as a sum over a window of the whole height, and block by block from the last block
backwards. And the gradient of the logarithm of the logistic function in its two spellings. -/

@[expose] public section

noncomputable section

namespace Cert.Suffix

open Idealize.ShloMosaic Idealize.ShloMosaic.Routing Idealize.ShloMosaic.ValueIdx

/-- A fold of additions is the start plus the sum. -/
theorem foldl_add {ι : Type} (l : List ι) (g : ι → EReal) (f : EReal → ι → EReal) (hf : ∀ r n, f r n = r + g n) (a : EReal) :
    l.foldl f a = a + (l.map g).sum := by
  induction l generalizing a with
  | nil => simp
  | cons n l ih => rw [List.foldl_cons, ih, hf, List.map_cons, List.sum_cons, add_assoc]

/-- What stands `w` rows below row `j`, or nothing below the last row, summed over a whole height. -/
theorem sum_below (R j : ℕ) (h : j ≤ R) (g : ℕ → EReal) :
    ∑ w ∈ Finset.range R, (if j + w < R then g (j + w) else 0) = ∑ k ∈ Finset.Ico j R, g k := by
  rw [Finset.sum_Ico_eq_sum_range, ← Finset.sum_filter]
  refine Finset.sum_congr (Finset.ext fun w => ?_) fun _ _ => rfl
  simp only [Finset.mem_filter, Finset.mem_range]
  omega

/-- A list's sum over the positions of a height. -/
theorem list_sum_range (M : ℕ) (f : ℕ → EReal) : ((List.range M).map f).sum = ∑ i ∈ Finset.range M, f i := by
  induction M with
  | zero => rfl
  | succ M ih => rw [List.range_succ, List.map_append, List.sum_append, ih, Finset.sum_range_succ, List.map_singleton, List.sum_singleton]

/-- The sum over a window of the whole height that hangs below its own row is the sum of the rows from that row on. -/
theorem window_below {R Rm1 C : ℕ} (hR : Rm1 + 1 = R) (x : (shape2 R C).Idx → EReal) (g : ℕ → EReal) (c : Fin C)
    (hx : ∀ i : Fin R, x (ix2 i c) = g i.val) (h : (shape2 R C).ReduceWindows (![R, 1] : Fin 2 → ℕ) ![1, 1] ![0, 0] ![Rm1, 0] (shape2 R C)) (j : Fin R) :
    Ideal.hostReduceWindowAdd ![R, 1] ![1, 1] ![0, 0] ![Rm1, 0] h x 0 (ix2 j c) = ∑ k ∈ Finset.Ico j.val R, g k := by
  subst hR
  have hj := j.isLt
  have hc := c.isLt
  unfold Ideal.hostReduceWindowAdd Host.reduceWindow
  refine (foldl_add _ (fun n => if j.val + n.val < Rm1 + 1 then g (j.val + n.val) else 0) _ (fun r n => ?_) _).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    dsimp only
    refine congrArg (r + ·) ?_
    split
    · next hin =>
      have h0 := hin 0
      change 0 ≤ j.val * 1 + ((shape2 (Rm1 + 1) 1).rowMajor.symm n 0).val
        ∧ j.val * 1 + ((shape2 (Rm1 + 1) 1).rowMajor.symm n 0).val - 0 < Rm1 + 1 at h0
      rw [hw0] at h0
      rw [if_pos (by omega)]
      refine (congrArg x (funext fun a => Fin.ext ?_)).trans (hx ⟨j.val + n.val, by omega⟩)
      match a with
      | ⟨0, _⟩ =>
        show j.val * 1 + ((shape2 (Rm1 + 1) 1).rowMajor.symm n 0).val - 0 = j.val + n.val
        rw [hw0, Nat.mul_one, Nat.sub_zero]
      | ⟨1, _⟩ =>
        show c.val * 1 + ((shape2 (Rm1 + 1) 1).rowMajor.symm n 1).val - 0 = c.val
        rw [hw1]
        omega
    · next hin =>
      rw [if_neg fun hle => hin fun a => by
        match a with
        | ⟨0, _⟩ =>
          show 0 ≤ j.val * 1 + ((shape2 (Rm1 + 1) 1).rowMajor.symm n 0).val
            ∧ j.val * 1 + ((shape2 (Rm1 + 1) 1).rowMajor.symm n 0).val - 0 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · rw [zero_add, map_finRange_val _ (fun w => if j.val + w < Rm1 + 1 then g (j.val + w) else 0)]
    refine (congrArg (fun M => ((List.range M).map fun w => if j.val + w < Rm1 + 1 then g (j.val + w) else 0).sum) (numel_col (Rm1 + 1))).trans ?_
    rw [list_sum_range]
    exact sum_below _ _ hj.le g

/-- The rows of one block from row `i` of it on, with the rows of all later blocks, are the rows from that row on. -/
theorem block_below (B R : ℕ) (i : Fin 256) (h : B + 256 ≤ R) (g : ℕ → EReal) :
    (∑ k : Fin 256, if i.val ≤ k.val then g (B + k.val) else 0) + ∑ k ∈ Finset.Ico (B + 256) R, g k = ∑ k ∈ Finset.Ico (B + i.val) R, g k := by
  have hi := i.isLt
  rw [Fin.sum_univ_eq_sum_range (fun k => if i.val ≤ k then g (B + k) else 0) 256,
    ← Finset.sum_Ico_consecutive g (show B + i.val ≤ B + 256 by omega) h]
  refine congrArg (· + _) ?_
  rw [← Finset.sum_filter, add_comm B i.val, add_comm B 256, ← Finset.sum_Ico_add g i.val 256 B]
  · refine Finset.sum_congr (Finset.ext fun w => ?_) fun _ _ => rfl
    simp only [Finset.mem_filter, Finset.mem_range, Finset.mem_Ico]
    omega

/-- What leaves nothing when taken from itself is a real. -/
theorem real_of_sub_self {x : EReal} (h : x - x = 0) : ∃ r : ℝ, x = r := by
  induction x with
  | bot => exact absurd h (by simp)
  | top => exact absurd h (by simp)
  | coe r => exact ⟨r, rfl⟩

theorem coe_sub_self (r : ℝ) : (r : EReal) - r = 0 := by
  rw [← EReal.coe_sub, sub_self, EReal.coe_zero]

/-- The exponential of minus a real less the softplus there is one over one plus the exponential. -/
theorem softplus_real (r : ℝ) : Real.exp (-r - (max (-r) 0 + Real.log (1 + Real.exp (-(max (-r) r))))) = (1 + Real.exp r)⁻¹ := by
  have h1 : max (-r) 0 + Real.log (1 + Real.exp (-(max (-r) r))) = Real.log (1 + Real.exp (-r)) := by
    rcases le_total 0 r with h | h
    · rw [max_eq_right (by linarith : -r ≤ 0), max_eq_right (by linarith : -r ≤ r), zero_add]
    · rw [max_eq_left (by linarith : 0 ≤ -r), max_eq_left (by linarith : r ≤ -r), neg_neg]
      have e : 1 + Real.exp (-r) = Real.exp (-r) * (1 + Real.exp r) := by
        rw [mul_add, mul_one, ← Real.exp_add, neg_add_cancel, Real.exp_zero, add_comm]
      rw [e, Real.log_mul (Real.exp_pos _).ne' (by positivity), Real.log_exp]
  rw [h1, Real.exp_sub, Real.exp_log (by positivity), div_eq_iff (by positivity), Real.exp_neg]
  have := Real.exp_pos r
  field_simp
  ring

/-- The gradient of the logarithm of the logistic function, written with the exponentials of a softplus, is one over one plus the exponential. -/
theorem logistic (S x : EReal) :
    -(-S * Ideal.exp ((if -x = ⊤ then 0 else -x) - (if max (-x) 0 + Ideal.log (1 + Ideal.exp (-(max (-x - 0) (-(-x - 0))))) = ⊤ then 0
        else max (-x) 0 + Ideal.log (1 + Ideal.exp (-(max (-x - 0) (-(-x - 0))))))))
      = Ideal.div S (1 + Ideal.exp x) := by
  have e1 : Ideal.log 1 = 0 := by
    have := Scalars.log_coe (r := 1) one_pos
    rwa [Real.log_one, EReal.coe_zero, EReal.coe_one] at this
  have e0 : Ideal.exp 0 = 1 := by
    have := Scalars.exp_coe 0
    rwa [Real.exp_zero, EReal.coe_zero, EReal.coe_one] at this
  have eb : Ideal.exp ⊥ = 0 := rfl
  have et : Ideal.exp ⊤ = ⊤ := rfl
  induction x with
  | bot =>
    simp [e1, e0, eb, et, Ideal.div]
  | top =>
    have e : (1 : EReal) + ⊤ = ⊤ := EReal.coe_add_top 1
    simp [e1, e0, eb, et, Ideal.div, e]
  | coe r =>
    have hs : max (-(r : EReal)) 0 + Ideal.log (1 + Ideal.exp (-(max (-(r : EReal) - 0) (-(-(r : EReal) - 0)))))
        = ((max (-r) 0 + Real.log (1 + Real.exp (-(max (-r) r))) : ℝ) : EReal) := by
      rw [sub_zero, neg_neg, ← EReal.coe_neg, Scalars.max_coe, ← EReal.coe_neg, Scalars.exp_coe, ← EReal.coe_one, ← EReal.coe_add,
        Scalars.log_coe (by positivity), ← EReal.coe_zero, Scalars.max_coe, ← EReal.coe_add]
    rw [hs, if_neg (EReal.coe_ne_top _), ← EReal.coe_neg, if_neg (EReal.coe_ne_top _), ← EReal.coe_sub, Scalars.exp_coe, softplus_real,
      EReal.neg_mul, neg_neg, Scalars.exp_coe, ← EReal.coe_one, ← EReal.coe_add, Ideal.div,
      if_neg (by exact_mod_cast (by positivity : (1 + Real.exp r) ≠ 0)), EReal.coe_inv]

end Cert.Suffix
end
-- ==== Proof.ForgetValue.lean ====
module

public import proofs.«01_k».proof.Proof.Gen.ForgetIdeal.Value
public import proofs.«01_k».proof.Proof.Suffix
public import Idealize.ShloMosaic.Lib.Pipeline.ValueKit
public import Idealize.ShloMosaic.Lib.Claim
public import Idealize.ShloMosaic.Lib.Pipeline.ReadBack
public import Idealize.ShloMosaic.Lib.StableHlo.RunRead

/-! The gradient of the forget gates. -/

@[expose] public section

set_option maxRecDepth 16384

noncomputable section

namespace Cert.ForgetFinal

open Idealize.ShloMosaic Idealize.ShloMosaic.TcCoe Idealize.SL.Sem
open Idealize.ShloMosaic.Pipeline (Dat)
open Cert.ForgetIdeal Cert.ForgetIdeal.Gen

variable (m : (ℓ : Loc nD τ sig) → Buf (Elt Ideal) ℓ)

/-- A block of rows after another: the last rows come first. -/
theorem idx : ∀ t : Fin cfg0.N, win0_0.index t = ![31 - t.val, 0] ∧ win0_1.index t = ![31 - t.val, 0] ∧ win0_2.index t = ![31 - t.val, 0]
    ∧ win0_3.index t = ![0, 0] ∧ win0_4.index t = ![31 - t.val, 0] ∧ win0_5.index t = ![0, 0] :=
  (by decide +kernel : ∀ t : Fin grid0.N, _)

/-- In one block: head `l`'s query entry less its key entry, in lane `l`; nothing in the lanes of no head. -/
def lane (q k : FVec Ideal S256x512 .f32) (x : Fin 256) (l : Fin 128) : EReal :=
  Scalar.select (IntOp.cmpi .eq (BitVec.ofNat 32 l.val) 7#32) (q (ix2 x 448) - k (ix2 x 451)) <|
  Scalar.select (IntOp.cmpi .eq (BitVec.ofNat 32 l.val) 6#32) (q (ix2 x 384) - k (ix2 x 387)) <|
  Scalar.select (IntOp.cmpi .eq (BitVec.ofNat 32 l.val) 5#32) (q (ix2 x 320) - k (ix2 x 323)) <|
  Scalar.select (IntOp.cmpi .eq (BitVec.ofNat 32 l.val) 4#32) (q (ix2 x 256) - k (ix2 x 259)) <|
  Scalar.select (IntOp.cmpi .eq (BitVec.ofNat 32 l.val) 3#32) (q (ix2 x 192) - k (ix2 x 195)) <|
  Scalar.select (IntOp.cmpi .eq (BitVec.ofNat 32 l.val) 2#32) (q (ix2 x 128) - k (ix2 x 131)) <|
  Scalar.select (IntOp.cmpi .eq (BitVec.ofNat 32 l.val) 1#32) (q (ix2 x 64) - k (ix2 x 67)) <|
  Scalar.select (IntOp.cmpi .eq (BitVec.ofNat 32 l.val) 0#32) (q (ix2 x 0) - k (ix2 x 3)) 0

/-- The triangle of ones that the sums are taken with. -/
def tri (i x : Fin 256) : EReal := FloatOps.sitofp (F := Ideal) .f32 ((IntOp.cmpi .sge (BitVec.ofNat 32 x.val) (BitVec.ofNat 32 i.val)).setWidth 32)

theorem scan (q k : FVec Ideal S256x512 .f32) (a : FVec Ideal S1x128 .f32) (y : S256x128.Idx) :
    k0_pay14 (F := Ideal) (iota .tc S256x128 32 [1] iota_S256x128_d1_w32) (k0_pay7 q k) (k0_pay8 q k) (k0_pay9 q k) (k0_pay10 q k) (k0_pay11 q k) (k0_pay12 q k) k0_pay13 a y
      = (∑ x : Fin 256, tri (y 0) x * lane q k x (y 1)) + (∑ x : Fin 256, tri (y 0) x * (lane q k x (y 1) - lane q k x (y 1)))
        + (∑ x : Fin 256, tri (y 0) x * ((lane q k x (y 1) - lane q k x (y 1)) - (lane q k x (y 1) - lane q k x (y 1)))) + a (ix2 0 (y 1)) := by
  pointwise [k0_pay14, k0_pay7, k0_pay8, k0_pay9, k0_pay10, k0_pay11, k0_pay12, k0_pay13, lane, tri]

theorem toInt_small {n : ℕ} (h : n < 256) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

theorem tri_eq (i x : Fin 256) : tri i x = if i.val ≤ x.val then 1 else 0 := by
  have hi := i.isLt
  have hx := x.isLt
  have hb : IntOp.cmpi .sge (BitVec.ofNat 32 x.val) (BitVec.ofNat 32 i.val) = BitVec.ofBool (decide (i.val ≤ x.val)) := by
    show BitVec.ofBool ((BitVec.ofNat 32 i.val).sle (BitVec.ofNat 32 x.val)) = _
    refine congrArg BitVec.ofBool ?_
    rw [BitVec.sle_eq_decide, toInt_small hi, toInt_small hx]
    exact decide_eq_decide.mpr Nat.cast_le
  show (((((IntOp.cmpi .sge (BitVec.ofNat 32 x.val) (BitVec.ofNat 32 i.val)).setWidth 32).toInt : ℤ) : ℝ) : EReal) = _
  rw [hb]
  by_cases h : i.val ≤ x.val
  · rw [if_pos h, decide_eq_true h, show ((BitVec.ofBool true).setWidth 32).toInt = 1 from rfl]
    norm_num
  · rw [if_neg h, decide_eq_false h]
    norm_num

/-- A choice on whether two small words agree is the choice on whether their numbers do. -/
theorem sel {l n : ℕ} (hl : l < 256) (hn : n < 256) (a b : EReal) :
    Scalar.select (IntOp.cmpi .eq (BitVec.ofNat 32 l) (BitVec.ofNat 32 n)) a b = if l = n then a else b := by
  have hb : IntOp.cmpi .eq (BitVec.ofNat 32 l) (BitVec.ofNat 32 n) = BitVec.ofBool (decide (l = n)) := by
    refine congrArg BitVec.ofBool ?_
    rw [beq_eq_decide]
    refine decide_eq_decide.mpr ⟨fun h => ?_, fun h => by rw [h]⟩
    have := congrArg BitVec.toInt h
    rw [toInt_small hl, toInt_small hn] at this
    exact_mod_cast this
  rw [hb]
  by_cases h : l = n
  · rw [if_pos h, decide_eq_true h]; rfl
  · rw [if_neg h, decide_eq_false h]; rfl

theorem sel_lt {l n : ℕ} (hl : l < 256) (hn : n < 256) (a b : EReal) :
    Scalar.select (IntOp.cmpi .slt (BitVec.ofNat 32 l) (BitVec.ofNat 32 n)) a b = if l < n then a else b := by
  have hb : IntOp.cmpi .slt (BitVec.ofNat 32 l) (BitVec.ofNat 32 n) = BitVec.ofBool (decide (l < n)) := by
    refine congrArg BitVec.ofBool ?_
    rw [BitVec.slt_eq_decide, toInt_small hl, toInt_small hn]
    exact decide_eq_decide.mpr Nat.cast_lt
  rw [hb]
  by_cases h : l < n
  · rw [if_pos h, decide_eq_true h]; rfl
  · rw [if_neg h, decide_eq_false h]; rfl

theorem lane_eq (q k : FVec Ideal S256x512 .f32) (x : Fin 256) (l : Fin 128) :
    lane q k x l = if h : l.val < 8 then q (ix2 x ⟨64 * l.val, by omega⟩) - k (ix2 x ⟨64 * l.val + 3, by omega⟩) else 0 := by
  have hl : l.val < 256 := by have := l.isLt; omega
  unfold lane
  rw [sel hl (by decide), sel hl (by decide), sel hl (by decide), sel hl (by decide), sel hl (by decide), sel hl (by decide), sel hl (by decide), sel hl (by decide)]
  by_cases h : l.val < 8
  · rw [dif_pos h]
    obtain ⟨l, hl'⟩ := l
    change l < 8 at h
    interval_cases l <;> rfl
  · rw [dif_neg h, if_neg (by omega), if_neg (by omega), if_neg (by omega), if_neg (by omega), if_neg (by omega), if_neg (by omega), if_neg (by omega), if_neg (by omega)]

/-- At row `s` head `l`'s query entry less its key entry. -/
def dif (q k : FVec Ideal S8192x512 .f32) (l s : ℕ) : EReal :=
  if h : s < 8192 ∧ l < 8 then q (ix2 ⟨s, h.1⟩ ⟨64 * l, by omega⟩) - k (ix2 ⟨s, h.1⟩ ⟨64 * l + 3, by omega⟩) else 0

/-- Its sum from row `s` on. -/
def suf (q k : FVec Ideal S8192x512 .f32) (l s : ℕ) : EReal := ∑ j ∈ Finset.Ico s 8192, dif q k l j

/-- The gradient of the gates' logits. -/
def dfl (q k : FVec Ideal S8192x512 .f32) (f : FVec Ideal S8192x8 .f32) (b : FVec Ideal S1x8 .f32) : FVec Ideal S8192x128 .bf16 := fun i =>
  if h : (i 1).val < 8 then Ideal.div (suf q k (i 1).val (i 0).val) (1 + Ideal.exp (f (ix2 (i 0) ⟨(i 1).val, h⟩) + b (ix2 0 ⟨(i 1).val, h⟩))) else 0

/-- The gradient of the gates' bias. -/
def dbf (q k : FVec Ideal S8192x512 .f32) (f : FVec Ideal S8192x8 .f32) (b : FVec Ideal S1x8 .f32) : FVec Ideal S1x128 .f32 := fun i =>
  ∑ s : Fin 8192, dfl q k f b (ix2 s (i 1))

/-- Every entry is a real. -/
def Fin' (q : FVec Ideal S8192x512 .f32) : Prop := ∀ i, ∃ r : ℝ, q i = r

theorem dif_real {q k : FVec Ideal S8192x512 .f32} (hq : Fin' q) (hk : Fin' k) (l s : ℕ) : ∃ r : ℝ, dif q k l s = r := by
  unfold dif
  split
  · next h =>
    obtain ⟨a, ha⟩ := hq (ix2 ⟨s, h.1⟩ ⟨64 * l, by omega⟩)
    obtain ⟨b, hb⟩ := hk (ix2 ⟨s, h.1⟩ ⟨64 * l + 3, by omega⟩)
    exact ⟨a - b, by rw [ha, hb, EReal.coe_sub]⟩
  · exact ⟨0, rfl⟩

theorem lane_blk (c : Dev nD) (t : Fin cfg0.N) (x : Fin 256) (l : Fin 128) :
    lane (iblk m c 0 t) (iblk m c 1 t) x l = dif (m ((c : Thread nD τ).loc main_arg0)) (m ((c : Thread nD τ).loc main_arg1)) l.val (256 * (31 - t.val) + x.val) := by
  have ht : t.val < 32 := t.isLt
  have hx := x.isLt
  rw [lane_eq]
  unfold dif
  by_cases h : l.val < 8
  · rw [dif_pos h, dif_pos ⟨by omega, h⟩]
    refine congrArg₂ (HSub.hSub : EReal → EReal → EReal) ?_ ?_
    · blk_point [iblk, idx t]
    · blk_point [iblk, idx t]
  · rw [dif_neg h, dif_neg fun h' => h h'.2]

/-- The sums of one block, with what is carried from the blocks after it, are the sums from each of its rows on. -/
theorem scan_blk (c : Dev nD) (t : Fin cfg0.N) (hq : Fin' (m ((c : Thread nD τ).loc main_arg0))) (hk : Fin' (m ((c : Thread nD τ).loc main_arg1)))
    (a : FVec Ideal S1x128 .f32) (ha : ∀ l : Fin 128, a (ix2 0 l) = suf (m ((c : Thread nD τ).loc main_arg0)) (m ((c : Thread nD τ).loc main_arg1)) l.val (256 * (31 - t.val) + 256))
    (i : Fin 256) (l : Fin 128) :
    k0_pay14 (F := Ideal) (iota .tc S256x128 32 [1] iota_S256x128_d1_w32) (k0_pay7 (iblk m c 0 t) (iblk m c 1 t)) (k0_pay8 (iblk m c 0 t) (iblk m c 1 t)) (k0_pay9 (iblk m c 0 t) (iblk m c 1 t)) (k0_pay10 (iblk m c 0 t) (iblk m c 1 t)) (k0_pay11 (iblk m c 0 t) (iblk m c 1 t)) (k0_pay12 (iblk m c 0 t) (iblk m c 1 t)) k0_pay13 a (ix2 i l)
      = suf (m ((c : Thread nD τ).loc main_arg0)) (m ((c : Thread nD τ).loc main_arg1)) l.val (256 * (31 - t.val) + i.val) := by
  have ht : t.val < 32 := t.isLt
  refine (scan (iblk m c 0 t) (iblk m c 1 t) a (ix2 i l)).trans ?_
  show (∑ x : Fin 256, tri i x * lane (iblk m c 0 t) (iblk m c 1 t) x l)
      + (∑ x : Fin 256, tri i x * (lane (iblk m c 0 t) (iblk m c 1 t) x l - lane (iblk m c 0 t) (iblk m c 1 t) x l))
      + (∑ x : Fin 256, tri i x * ((lane (iblk m c 0 t) (iblk m c 1 t) x l - lane (iblk m c 0 t) (iblk m c 1 t) x l)
        - (lane (iblk m c 0 t) (iblk m c 1 t) x l - lane (iblk m c 0 t) (iblk m c 1 t) x l))) + a (ix2 0 l) = _
  rw [ha]
  simp only [lane_blk, tri_eq]
  have hz : ∀ x : Fin 256, dif (m ((c : Thread nD τ).loc main_arg0)) (m ((c : Thread nD τ).loc main_arg1)) l.val (256 * (31 - t.val) + x.val)
      - dif (m ((c : Thread nD τ).loc main_arg0)) (m ((c : Thread nD τ).loc main_arg1)) l.val (256 * (31 - t.val) + x.val) = 0 := fun x => by
    obtain ⟨r, hr⟩ := dif_real hq hk l.val (256 * (31 - t.val) + x.val)
    rw [hr, Suffix.coe_sub_self]
  simp only [hz, sub_zero, mul_zero, Finset.sum_const_zero, add_zero, ite_mul, one_mul, zero_mul]
  exact Suffix.block_below (256 * (31 - t.val)) 8192 i (by omega) _

theorem carry0 (j) : k0_pay5 (F := Ideal) j = 0 := by pointwise [k0_pay5]

/-- What a block carries on is the sums from its own first row on. -/
theorem carry1 (v3 : IVec S256x128 32) (a b d e f : FVec Ideal S256x1 .f32) (g : FVec Ideal S256x128 .f32) (h : IVec S256x128 32) (u : FVec Ideal S1x128 .f32) (l : Fin 128) :
    k0_pay1 (k0_pay15 v3 a b d e f g h u) (ix2 0 l) = k0_pay14 v3 a b d e f g h u (ix2 0 l) := by
  unfold k0_pay15
  generalize k0_pay14 v3 a b d e f g h u = w
  pointwise [k0_pay1]

theorem carry (c : Dev nD) (hq : Fin' (m ((c : Thread nD τ).loc main_arg0))) (hk : Fin' (m ((c : Thread nD τ).loc main_arg1))) :
    ∀ (n : ℕ) (hn : n < cfg0.N) (l : Fin 128), (outsAt0 m c n hn).2.2 (ix2 0 l)
      = suf (m ((c : Thread nD τ).loc main_arg0)) (m ((c : Thread nD τ).loc main_arg1)) l.val (256 * (31 - n)) := by
  intro n
  induction n with
  | zero =>
    intro hn l
    have e := outsAt0_A m c ⟨0, hn⟩ rfl
    rw [e]; frame_out
    rw [carry1, scan_blk m c ⟨0, hn⟩ hq hk]
    · rfl
    · intro l
      rw [carry0]
      unfold suf
      exact (congrArg (fun I => ∑ j ∈ I, dif _ _ l.val j) (Finset.Ico_eq_empty (show ¬ 8192 < 8192 by decide))).symm
  | succ n ih =>
    intro hn l
    have hN : n + 1 < 32 := hn
    have e := outsAt0_B m c ⟨n + 1, hn⟩ (show ¬ (n + 1) % 32 = 0 by omega)
    rw [e]; frame_out
    rw [carry1, scan_blk m c ⟨n + 1, hn⟩ hq hk]
    · rfl
    · intro l
      rw [read_unread_whole]
      refine (ih (by omega) l).trans ?_
      congr 1
      show 256 * (31 - n) = 256 * (31 - (n + 1)) + 256
      omega

theorem gates (w f : FVec Ideal S256x128 .f32) (b : FVec Ideal S1x128 .f32) (i : Fin 256) (l : Fin 128) :
    k0_pay3 (F := Ideal) (iota .tc S256x128 32 [1] iota_S256x128_d1_w32) w f b (ix2 i l)
      = if l.val < 8 then Ideal.div (w (ix2 i l)) (1 + Ideal.exp (f (ix2 i l) + b (ix2 0 l))) else 0 := by
  rw [← sel_lt (show l.val < 256 by have := l.isLt; omega) (show 8 < 256 by decide)]
  pointwise [k0_pay3, k0_pay2]

theorem pad_logits (c : Dev nD) (s : Fin 8192) (l : Fin 128) (h : l.val < 8) :
    V m c main_v0 (ix2 s l) = m ((c : Thread nD τ).loc main_arg2) (ix2 s ⟨l.val, h⟩) := by
  unfold V hostOps0 hostOps0_1 hostOps0_2 hostOps0_3
  simp only [StableHlo.TRef.nullary, StableHlo.TRef.unary, StableHlo.TRef.binary, StableHlo.TRef.toBuf, StableHlo.TRef.ofBuf, cast_eq]
  after_reads_simp
  pointwise [h]

theorem pad_bias (c : Dev nD) (l : Fin 128) (h : l.val < 8) :
    V m c main_v1 (ix2 0 l) = m ((c : Thread nD τ).loc main_arg3) (ix2 0 ⟨l.val, h⟩) := by
  unfold V hostOps0 hostOps0_1 hostOps0_2 hostOps0_3
  simp only [StableHlo.TRef.nullary, StableHlo.TRef.unary, StableHlo.TRef.binary, StableHlo.TRef.toBuf, StableHlo.TRef.ofBuf, cast_eq]
  after_reads_simp
  pointwise [h]

theorem dfl_in (q k : FVec Ideal S8192x512 .f32) (f : FVec Ideal S8192x8 .f32) (b : FVec Ideal S1x8 .f32) (s : Fin 8192) (l : Fin 128) (h : l.val < 8) :
    dfl q k f b (ix2 s l) = Ideal.div (suf q k l.val s.val) (1 + Ideal.exp (f (ix2 s ⟨l.val, h⟩) + b (ix2 0 ⟨l.val, h⟩))) := dif_pos h

theorem dfl_out (q k : FVec Ideal S8192x512 .f32) (f : FVec Ideal S8192x8 .f32) (b : FVec Ideal S1x8 .f32) (s : Fin 8192) (l : Fin 128) (h : ¬ l.val < 8) :
    dfl q k f b (ix2 s l) = 0 := dif_neg h

/-- One block's rows of the logits' gradient. -/
theorem rows (c : Dev nD) (t : Fin cfg0.N) (hq : Fin' (m ((c : Thread nD τ).loc main_arg0))) (hk : Fin' (m ((c : Thread nD τ).loc main_arg1)))
    (a : FVec Ideal S1x128 .f32) (ha : ∀ l : Fin 128, a (ix2 0 l) = suf (m ((c : Thread nD τ).loc main_arg0)) (m ((c : Thread nD τ).loc main_arg1)) l.val (256 * (31 - t.val) + 256))
    (i : Fin 256) (l : Fin 128) (s : Fin 8192) (hs : s.val = 256 * (31 - t.val) + i.val) :
    k0_pay3 (F := Ideal) (iota .tc S256x128 32 [1] iota_S256x128_d1_w32) (k0_pay14 (F := Ideal) (iota .tc S256x128 32 [1] iota_S256x128_d1_w32) (k0_pay7 (iblk m c 0 t) (iblk m c 1 t)) (k0_pay8 (iblk m c 0 t) (iblk m c 1 t)) (k0_pay9 (iblk m c 0 t) (iblk m c 1 t)) (k0_pay10 (iblk m c 0 t) (iblk m c 1 t)) (k0_pay11 (iblk m c 0 t) (iblk m c 1 t)) (k0_pay12 (iblk m c 0 t) (iblk m c 1 t)) k0_pay13 a) (iblk m c 2 t) (iblk m c 3 t) (ix2 i l)
      = dfl (m ((c : Thread nD τ).loc main_arg0)) (m ((c : Thread nD τ).loc main_arg1)) (m ((c : Thread nD τ).loc main_arg2)) (m ((c : Thread nD τ).loc main_arg3)) (ix2 s l) := by
  rw [gates, scan_blk m c t hq hk a ha, ← hs]
  by_cases h : l.val < 8
  · rw [if_pos h, dfl_in _ _ _ _ s l h, ← pad_logits m c s l h, ← pad_bias m c l h]
    congr 3
    refine congrArg₂ (HAdd.hAdd : EReal → EReal → EReal) ?_ ?_
    · blk_point [iblk, idx t]
    · blk_point [iblk, idx t]
  · rw [if_neg h, dfl_out _ _ _ _ s l h]

theorem carryA (c : Dev nD) (t : Fin cfg0.N) (h : t.val % 32 = 0) (l : Fin 128) :
    k0_pay5 (F := Ideal) (ix2 0 l) = suf (m ((c : Thread nD τ).loc main_arg0)) (m ((c : Thread nD τ).loc main_arg1)) l.val (256 * (31 - t.val) + 256) := by
  have ht : t.val < 32 := t.isLt
  rw [carry0]
  exact (congrArg (fun I => ∑ j ∈ I, dif _ _ l.val j) (Finset.Ico_eq_empty (show ¬ 256 * (31 - t.val) + 256 < 8192 by omega))).symm

theorem carryB (c : Dev nD) (t : Fin cfg0.N) (h : ¬ t.val % 32 = 0) (hq : Fin' (m ((c : Thread nD τ).loc main_arg0))) (hk : Fin' (m ((c : Thread nD τ).loc main_arg1))) (hn) (hw : (Memref.whole cc0_scratch0).IsWhole) (l : Fin 128) :
    View.read (Elt Ideal) (View.whole cc0_scratch0) (hw.unread (outsAt0 m c (t.val - 1) hn).2.2) (ix2 0 l)
      = suf (m ((c : Thread nD τ).loc main_arg0)) (m ((c : Thread nD τ).loc main_arg1)) l.val (256 * (31 - t.val) + 256) := by
  have ht : t.val < 32 := t.isLt
  rw [read_unread_whole]
  refine (carry m c hq hk _ hn l).trans ?_
  congr 1
  omega

theorem final4 (c : Dev nD) (hq : Fin' (m ((c : Thread nD τ).loc main_arg0))) (hk : Fin' (m ((c : Thread nD τ).loc main_arg1))) :
    (dats m 0 c).arrAt 4 cfg0.N = dfl (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 32 := t.isLt
  have hy : (y 0).val < 256 := (y 0).isLt
  have hi : ix2 ⟨256 * (31 - t.val) + (y 0).val, by omega⟩ (y 1) = ((cfg0.win 4).blk t).view.emb y := by
    blk_ext <;> blk_simp [idx t] <;> omega
  rw [← hi]
  blk_simp
  rw [after0_4]
  by_cases h : t.val % 32 = 0
  · rw [outsAt0_A m c t h]; frame_out
    exact (congrArg _ (eq_ix2 y)).trans (rows m c t hq hk _ (carryA m c t h) (y 0) (y 1) _ rfl)
  · rw [outsAt0_B m c t h]; frame_out
    exact (congrArg _ (eq_ix2 y)).trans (rows m c t hq hk _ (carryB m c t h hq hk _ _) (y 0) (y 1) _ rfl)

theorem zero5 (j) : k0_pay6 (F := Ideal) j = 0 := by pointwise [k0_pay6]

theorem step5 (v : IVec S256x128 32) (w f : FVec Ideal S256x128 .f32) (b acc : FVec Ideal S1x128 .f32) (j : S1x128.Idx) :
    k0_pay4 v w f b acc j = acc j + ∑ k : Fin 256, k0_pay3 v w f b (ix2 k (j 1)) := by
  unfold k0_pay4 k0_pay3
  generalize k0_pay2 v w f b = z
  pointwise []

/-- One point's share of the bias's gradient. -/
def share (q k : FVec Ideal S8192x512 .f32) (f : FVec Ideal S8192x8 .f32) (b : FVec Ideal S1x8 .f32) (n : Fin cfg0.N) (j : S1x128.Idx) : EReal :=
  ∑ i : Fin 256, dfl q k f b (ix2 ⟨256 * (31 - n.val) + i.val, by have := i.isLt; omega⟩ (j 1))

theorem final5 (c : Dev nD) (hq : Fin' (m ((c : Thread nD τ).loc main_arg0))) (hk : Fin' (m ((c : Thread nD τ).loc main_arg1))) :
    (dats m 0 c).arrAt 5 cfg0.N = dbf (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2.1) 32 (fun _ => 0)
    (share (m ((c : Thread nD τ).loc main_arg0)) (m ((c : Thread nD τ).loc main_arg1)) (m ((c : Thread nD τ).loc main_arg2)) (m ((c : Thread nD τ).loc main_arg3)))
    (fun t h j => by
      rw [outsAt0_A m c t h]; frame_out; rw [step5, zero5]
      exact congrArg (0 + ·) (Finset.sum_congr rfl fun k _ => rows m c t hq hk _ (carryA m c t h) k (j 1) _ rfl))
    (fun t h j => by
      rw [outsAt0_B m c t h]; frame_out; rw [step5]
      exact congrArg (_ + ·) (Finset.sum_congr rfl fun k _ => rows m c t hq hk _ (carryB m c t h hq hk _ _) k (j 1) _ rfl))
    t ((flush0_5 t).mp hf) _, zero_add]
  unfold dbf share
  rw [← Equiv.sum_comp Fin.revPerm]
  refine Fin.sum_mul_add_congr fun s k hl => ?_
  have ht : t.val < 32 := t.isLt
  have hs := s.isLt
  have hr : (Fin.revPerm s).val = 31 - s.val := by
    rw [Fin.revPerm_apply, Fin.val_rev]
    omega
  refine congrArg _ (congrArg₂ ix2 (Fin.ext ?_) (Fin.ext ?_))
  · show 256 * (31 - (32 * (t.val / 32) + (Fin.revPerm s).val)) + k.val = s.val * 256 + k.val
    rw [hr]
    omega
  · blk_simp [idx t]

end Cert.ForgetFinal

end
-- ==== Proof.ForgetEq.lean ====
module

public import proofs.«01_k».proof.Proof.ForgetValue
public import proofs.«01_k».proof.Proof.Gen.ForgetRefIdeal.Read

/-! The forget gates' reference, in the closed form of the kernel's arrays. -/

@[expose] public section

set_option maxRecDepth 16384

noncomputable section

namespace Cert.ForgetFinal

open Idealize.ShloMosaic Idealize.ShloMosaic.TcCoe Idealize.SL.Sem
open Cert.ForgetRefIdeal Cert.ForgetRefIdeal.Gen Cert.ForgetRefIdeal.Read

theorem ref_dif (q k : FVec Ideal S8192x512 .f32) (s : Fin 8192) (l : Fin 8) :
    val_main_v12 (F := Ideal) q k (ix2 s l) = dif q k l.val s.val := by
  unfold dif
  rw [dif_pos ⟨s.isLt, l.isLt⟩]
  pointwise [val_main_v12, val_main_v11, val_main_v5, val_main_v4, val_main_v3, val_main_v2, val_main_v1, val_main_v0]
  rw [← sub_eq_add_neg]
  refine congrArg₂ (HSub.hSub : EReal → EReal → EReal) (congrArg q (congrArg (ix2 s) (Fin.ext ?_))) (congrArg k (congrArg (ix2 s) (Fin.ext ?_)))
  · show l.val * 64 = 64 * l.val
    omega
  · show l.val * 64 + 3 = 64 * l.val + 3
    omega

theorem ref_suf (q k : FVec Ideal S8192x512 .f32) (s : Fin 8192) (l : Fin 8) :
    val_main_v13 (F := Ideal) q k (ix2 s l) = suf q k l.val s.val := by
  have h0 : val_main_call2_call0_v0 (F := Ideal) (Shape.Idx.first h_S_) = 0 := by
    pointwise [val_main_call2_call0_v0, val_main_call2_call0_cst]
  unfold val_main_v13 Host.reduceWindowAdd
  rw [h0]
  generalize hx : val_main_v12 (F := Ideal) q k = x
  exact Suffix.window_below (R := 8192) (Rm1 := 8191) (C := 8) rfl x (dif q k l.val) l (fun i => (congrFun hx.symm _).trans (ref_dif q k i l)) _ s

theorem infinity : Ideal.ofBits .f32 2139095040#32 = ⊤ := by
  show Ideal.ieee 8 23 2139095040#32 = ⊤
  simp [Ideal.ieee]

theorem sitofp_zero : FloatOps.sitofp (F := Ideal) .f32 (0#32) = 0 := by
  show ((((0#32).toInt : ℤ) : ℝ) : EReal) = 0
  simp

theorem ref_gate (q k : FVec Ideal S8192x512 .f32) (f : FVec Ideal S8192x8 .f32) (b : FVec Ideal S1x8 .f32) (s : Fin 8192) (l : Fin 8) :
    val_main_v14 (F := Ideal) q k f b (ix2 s l) = Ideal.div (suf q k l.val s.val) (1 + Ideal.exp (f (ix2 s l) + b (ix2 0 l))) := by
  rw [← Suffix.logistic, ← ref_suf q k s l]
  show -(-(val_main_v13 (F := Ideal) q k (ix2 s l)) * val_main_v8_1 (F := Ideal) f b (ix2 s l)) = _
  generalize val_main_v13 (F := Ideal) q k (ix2 s l) = z
  refine congrArg (fun e : EReal => -(-z * e)) ?_
  have hx : val_main_v7 (F := Ideal) f b (ix2 s l) = f (ix2 s l) + b (ix2 0 l) := by
    pointwise [val_main_v7, val_main_v6]
  rw [← hx]
  generalize hg : val_main_v7 (F := Ideal) f b = g
  pointwise [val_main_v8_1, val_main_call0_v0, val_main_call0_v1_0, val_main_call0_call0_v0,val_main_call0_call0_cst,val_main_call0_call0_v1,val_main_call0_call0_v2,val_main_call0_call0_v3,val_main_call0_call0_v4,val_main_call0_call0_v5,val_main_call0_call0_v6,val_main_call0_call0_v7,val_main_call0_call0_v8,val_main_call0_call0_v9,val_main_call0_call0_v10,val_main_call0_call0_v11,val_main_call0_call0_v13,val_main_call0_call0_v14,val_main_call0_call0_v15,val_main_call0_call0_v16,val_main_call0_call0_v17,val_main_call0_call0_v18,val_main_call0_call0_v19,val_main_call0_call0_v20,val_main_call0_call0_v21,val_main_call0_call0_cst_0,val_main_call0_call0_cst_1,val_main_call0_call0_cst_2,val_main_call0_call0_cst_3, hg]
  simp only [infinity, ne_eq, not_true_eq_false, if_false]
  rfl

/-- The logits' gradient, padded to whole lanes. -/
theorem eq4 (q k : FVec Ideal S8192x512 .f32) (f : FVec Ideal S8192x8 .f32) (b : FVec Ideal S1x8 .f32) :
    val_main_v18 (F := Ideal) q k f b = dfl q k f b := by
  funext i
  unfold dfl
  by_cases h : (i 1).val < 8
  · rw [dif_pos h]
    refine Eq.trans ?_ (ref_gate q k f b (i 0) ⟨(i 1).val, h⟩)
    unfold val_main_v18 val_main_v17
    generalize val_main_v14 (F := Ideal) q k f b = w
    pointwise [h]
  · rw [dif_neg h]
    unfold val_main_v18 val_main_v17
    generalize val_main_v14 (F := Ideal) q k f b = w
    pointwise [h, val_main_call4_v0, val_main_c]
    exact sitofp_zero

/-- The bias's gradient, padded to whole lanes. -/
theorem eq5 (q k : FVec Ideal S8192x512 .f32) (f : FVec Ideal S8192x8 .f32) (b : FVec Ideal S1x8 .f32) :
    val_main_v19 (F := Ideal) q k f b = dbf q k f b := by
  funext i
  unfold dbf
  by_cases h : (i 1).val < 8
  · have e : ∀ s : Fin 8192, dfl q k f b (ix2 s (i 1)) = val_main_v14 (F := Ideal) q k f b (ix2 s ⟨(i 1).val, h⟩) := fun s =>
      (dfl_in q k f b s (i 1) h).trans (ref_gate q k f b s ⟨(i 1).val, h⟩).symm
    refine Eq.trans ?_ (Finset.sum_congr rfl fun s _ => (e s).symm)
    unfold val_main_v19 val_main_v16 val_main_v15
    generalize val_main_v14 (F := Ideal) q k f b = w
    pointwise [h, val_main_cst]
  · refine Eq.trans ?_ (Finset.sum_eq_zero fun s _ => dfl_out q k f b s (i 1) h).symm
    unfold val_main_v19
    generalize val_main_v16 (F := Ideal) q k f b = w
    pointwise [h, val_main_call5_v0, val_main_c_0]
    exact sitofp_zero

end Cert.ForgetFinal

end
-- ==== Proof.ForgetRun.lean ====
module

public import proofs.«01_k».proof.Proof.Gen.ForgetRefIdeal.Read

/-! The run of the reference of the gradient of the forget gates. -/

@[expose] public section

set_option maxRecDepth 16384

noncomputable section

namespace Cert.ForgetRefIdeal

open Idealize.ShloMosaic Idealize.ShloMosaic.TcCoe Idealize.SL.Sem
open Cert.ForgetRefIdeal Cert.ForgetRefIdeal.Gen

/-- What the reference leaves, by the names of its stages. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Read.val_main_v18 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v19) = Read.val_main_v19 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨hv18, hv19, hargs⟩ := h c
    exact ⟨hv18.trans (Read.val_main_v18_eq m c), hv19.trans (Read.val_main_v19_eq m c), hargs⟩) (Cert.ForgetRefIdeal.Value.run m ρ)

end Cert.ForgetRefIdeal
end
-- ==== Proof.ForgetClaim.lean ====
module

public import proofs.«01_k».proof.Defs
public import proofs.«01_k».proof.Proof.ForgetEq
public import proofs.«01_k».proof.Proof.ForgetRun
public import Idealize.ShloMosaic.Lib.ReduceAll

/-! The claims about the gradient of the forget gates. -/

@[expose] public section

set_option maxRecDepth 16384

noncomputable section

namespace Cert.ForgetFinal

open Idealize.ShloMosaic Idealize.ShloMosaic.TcCoe Idealize.SL.Sem

/-- The side conditions of the precondition. -/
instance factsPre : Cert.Pre_forget_finite.Facts := ⟨by decide +kernel, by decide +kernel, by decide +kernel⟩

/-- There is one index into no dimensions. -/
instance : Subsingleton (Shape.Idx ⟨0, ![]⟩) := ⟨fun a b => funext fun i => i.elim0⟩

/-- Two bits whose conjunction is one are one. -/
theorem bits {a b : BitVec 1} (h : IntOp.andi a b = 1#1) : a = 1#1 ∧ b = 1#1 :=
  IntOp.andi_eq_one.1 h

/-- Two values that compare equal are equal. -/
theorem eq_of_oeq {x y : EReal} (h : Scalar.cmpf (F := Ideal) (φ := .f32) .oeq x y = 1#1) : x = y := by
  by_contra hne
  have e : Scalar.cmpf (F := Ideal) (φ := .f32) .oeq x y = BitVec.ofBool (decide (x = y)) := rfl
  rw [e, decide_eq_false hne] at h
  exact absurd h (by decide)

/-- An array whose entries less themselves all compare equal to zero is finite. -/
theorem finite_of (q : FVec Ideal Cert.ForgetIdeal.S8192x512 .f32) (j)
    (h : Host.reduce IntOp.andi (cmpf (φ := .f32) .oeq (subf q q) (broadcastInDim Cert.Pre_forget_finite.S8192x512 ![]
        Cert.Pre_forget_finite.Facts.bcast_S_S8192x512 (constant (F := Ideal) Cert.Pre_forget_finite.S_ .f32 0x00000000#32)))
      (constantI Cert.Pre_forget_finite.S_ 1 1#1) Cert.Pre_forget_finite.Facts.reducesTo_S8192x512_S_d0_1
      Cert.Pre_forget_finite.Facts.h_S_ j = 1#1) : Fin' q := fun i => by
  have e := eq_of_oeq (Host.reduce_andi_all _ _ _ _ j h i)
  exact Suffix.real_of_sub_self (e.trans (by pointwise))

/-- The precondition says that the gradients of the extended queries and keys are finite. -/
theorem finite_args (m) (h : Cert.Pre_ForgetIdeal_forget_finite m) (c : Dev Cert.ForgetIdeal.nD) :
    Fin' (m ((c.tc : Thread Cert.ForgetIdeal.nD Cert.ForgetIdeal.τ).loc Cert.ForgetIdeal.main_arg0))
      ∧ Fin' (m ((c.tc : Thread Cert.ForgetIdeal.nD Cert.ForgetIdeal.τ).loc Cert.ForgetIdeal.main_arg1)) := by
  have e := bits (congrFun (h c) fun i => i.elim0)
  exact ⟨finite_of _ _ e.1, finite_of _ _ e.2⟩

/-- The reference leaves its arguments, and it has no counters. -/
theorem quiescent_ref : Cert.quiescent_ForgetRefIdeal := fun m g _ =>
  (θ_run Cert.ForgetRefIdeal.defs _ _).mono
    (fun r h => ⟨fun c => (h c).2.2, sem_eq_zero_of_no_sems (by decide) r.2⟩)
    (Cert.ForgetRefIdeal.run_ref m g)

/-- Both programs leave the same results. -/
theorem algebraic : Cert.algebraic_ForgetIdeal_ForgetRefIdeal_pre_forget_finite := by
  pair_intro
  · run_from Cert.ForgetIdeal.Value.run_blocks m g
  · run_from Cert.ForgetRefIdeal.run_ref m' g'
    · exact ((final4 m c (finite_args m hpre c).1 (finite_args m hpre c).2).trans (eq4 _ _ _ _).symm).symm
    · exact ((final5 m c (finite_args m hpre c).1 (finite_args m hpre c).2).trans (eq5 _ _ _ _).symm).symm

end Cert.ForgetFinal

end
-- ==== Proof.GateValue.lean ====
module

public import proofs.«01_k».proof.Proof.Gen.GateIdeal.Value
public import proofs.«01_k».proof.Proof.Gen.GateRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of the gated merge of the two branches: the arrays the kernel leaves are the reference's. -/

@[expose] public section

set_option maxRecDepth 16384

noncomputable section

namespace Cert.GateFinal

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2 + 2]
    ∧ win0_6.index t = ![t.val / 2, t.val % 2] ∧ win0_7.index t = ![t.val / 2, t.val % 2] ∧ win0_8.index t = ![t.val / 2, t.val % 2] ∧ win0_9.index t = ![t.val / 2, t.val % 2] :=
  (by decide +kernel : ∀ t : Fin grid0.N, _)

/-- The gradient of the merged branches: `do @ w_outᵀ`. -/
def dm (d : FVec Ideal S8192x1024 .f32) (w : FVec Ideal S1024x1024 .f32) : FVec Ideal S8192x1024 .f32 := fun i =>
  ∑ k : Fin 1024, d (ix2 (i 0) k) * w (ix2 (i 1) k)

/-- The gates of the first and of the second branch. -/
def ga (l : FVec Ideal S8192x2048 .f32) (i : S8192x1024.Idx) : EReal := Ideal.logistic (l (ix2 (i 0) ⟨(i 1).val, Nat.lt_of_lt_of_le (i 1).isLt (by decide)⟩))
def gb (l : FVec Ideal S8192x2048 .f32) (i : S8192x1024.Idx) : EReal := Ideal.logistic (l (ix2 (i 0) ⟨1024 + (i 1).val, Nat.add_lt_add_left (i 1).isLt 1024⟩))

/-- The four gradients: of each branch, and of each gate's logits. -/
def KA (d : FVec Ideal S8192x1024 .f32) (w : FVec Ideal S1024x1024 .f32) (l : FVec Ideal S8192x2048 .f32) : FVec Ideal S8192x1024 .bf16 := fun i => dm d w i * ga l i
def KB (d : FVec Ideal S8192x1024 .f32) (w : FVec Ideal S1024x1024 .f32) (l : FVec Ideal S8192x2048 .f32) : FVec Ideal S8192x1024 .bf16 := fun i => dm d w i * gb l i
def KC (d : FVec Ideal S8192x1024 .f32) (w : FVec Ideal S1024x1024 .f32) (a : FVec Ideal S8192x1024 .f32) (l : FVec Ideal S8192x2048 .f32) : FVec Ideal S8192x1024 .bf16 := fun i => dm d w i * a i * (ga l i * (1 - ga l i))
def KD (d : FVec Ideal S8192x1024 .f32) (w : FVec Ideal S1024x1024 .f32) (b : FVec Ideal S8192x1024 .f32) (l : FVec Ideal S8192x2048 .f32) : FVec Ideal S8192x1024 .bf16 := fun i => dm d w i * b i * (gb l i * (1 - gb l i))

theorem point6 (c : Dev nD) (t : Fin cfg0.N) (y) : k0_pay6 (iblk m c 0 t) (iblk m c 1 t) (iblk m c 4 t) y
    = KA (m ((c : Thread nD τ).loc main_arg0)) (m ((c : Thread nD τ).loc main_arg1)) (m ((c : Thread nD τ).loc main_arg4)) (((cfg0.win 6).blk t).view.emb y) := by
  pointwise [k0_pay6, k0_pay2, k0_pay3, KA, dm, ga, gb]
  blk_point [iblk, idx t]

theorem final6 (c : Dev nD) : (dats m 0 c).arrAt 6 cfg0.N = KA (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]; frame_out
  exact point6 m c t y

theorem point7 (c : Dev nD) (t : Fin cfg0.N) (y) : k0_pay7 (iblk m c 0 t) (iblk m c 1 t) (iblk m c 5 t) y
    = KB (m ((c : Thread nD τ).loc main_arg0)) (m ((c : Thread nD τ).loc main_arg1)) (m ((c : Thread nD τ).loc main_arg4)) (((cfg0.win 7).blk t).view.emb y) := by
  pointwise [k0_pay7, k0_pay2, k0_pay4, KB, dm, ga, gb]
  blk_point [iblk, idx t]

theorem final7 (c : Dev nD) : (dats m 0 c).arrAt 7 cfg0.N = KB (m ((c : Thread nD τ).loc main_arg0)) (m ((c : Thread nD τ).loc main_arg1)) (m ((c : Thread nD τ).loc main_arg4)) := by
  refine (dats m 0 c).arrAt_eq_of_covers 7 _ (by decide +kernel) fun t _ y => ?_
  blk_simp
  rw [after0_7]; frame_out
  exact point7 m c t y

theorem point8 (c : Dev nD) (t : Fin cfg0.N) (y) : k0_pay8 (iblk m c 0 t) (iblk m c 1 t) (iblk m c 2 t) (iblk m c 4 t) y
    = KC (m ((c : Thread nD τ).loc main_arg0)) (m ((c : Thread nD τ).loc main_arg1)) (m ((c : Thread nD τ).loc main_arg2)) (m ((c : Thread nD τ).loc main_arg4)) (((cfg0.win 8).blk t).view.emb y) := by
  pointwise [k0_pay8, k0_pay2, k0_pay3, KC, dm, ga, gb]
  blk_point [iblk, idx t]

theorem final8 (c : Dev nD) : (dats m 0 c).arrAt 8 cfg0.N = KC (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]; frame_out
  exact point8 m c t y

theorem point9 (c : Dev nD) (t : Fin cfg0.N) (y) : k0_pay1 (k0_pay5 (iblk m c 0 t) (iblk m c 1 t) (iblk m c 3 t) (iblk m c 5 t)) y
    = KD (m ((c : Thread nD τ).loc main_arg0)) (m ((c : Thread nD τ).loc main_arg1)) (m ((c : Thread nD τ).loc main_arg3)) (m ((c : Thread nD τ).loc main_arg4)) (((cfg0.win 9).blk t).view.emb y) := by
  pointwise [k0_pay1, k0_pay5, k0_pay2, k0_pay4, KD, dm, ga, gb]
  blk_point [iblk, idx t]

theorem final9 (c : Dev nD) : (dats m 0 c).arrAt 9 cfg0.N = KD (m ((c : Thread nD τ).loc main_arg0)) (m ((c : Thread nD τ).loc main_arg1)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point9 m c t y

end Cert.GateFinal

end
-- ==== Proof.GateEq.lean ====
module

public import proofs.«01_k».proof.Proof.Gen.GateIdeal.Value
public import proofs.«01_k».proof.Proof.Gen.GateRefIdeal.Read
public import proofs.«01_k».proof.Proof.Scalars
public import Idealize.ShloMosaic.Lib.Pipeline.ValueKit
public import Idealize.ShloMosaic.Lib.Claim
public import Idealize.ShloMosaic.Lib.StableHlo.RunRead
public import proofs.«01_k».proof.Proof.GateValue

/-! The four gradients of the gated merge are those of the reference. -/

@[expose] public section

set_option maxRecDepth 16384

noncomputable section

namespace Cert.GateFinal

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

theorem KA_eq (d : FVec Ideal S8192x1024 .f32) (w : FVec Ideal S1024x1024 .f32) (l : FVec Ideal S8192x2048 .f32) : KA d w l = Cert.GateRefIdeal.Read.val_main_v26 (F := Ideal) d w l := by
  funext i
  pointwise [KA, dm, ga, gb, Ideal.logistic, GateRefIdeal.Read.val_main_v26, GateRefIdeal.Read.val_main_v19, GateRefIdeal.Read.val_main_v9, GateRefIdeal.Read.val_main_v5, GateRefIdeal.Read.val_main_v4, GateRefIdeal.Read.val_main_cst_0, GateRefIdeal.Read.val_main_v3, GateRefIdeal.Read.val_main_v2, GateRefIdeal.Read.val_main_cst, GateRefIdeal.Read.val_main_v1, GateRefIdeal.Read.val_main_v0, GateRefIdeal.Read.val_main_v15]
  exact mul_comm _ _

theorem KB_eq (d : FVec Ideal S8192x1024 .f32) (w : FVec Ideal S1024x1024 .f32) (l : FVec Ideal S8192x2048 .f32) : KB d w l = Cert.GateRefIdeal.Read.val_main_v27 (F := Ideal) d w l := by
  funext i
  pointwise [KB, dm, ga, gb, Ideal.logistic, GateRefIdeal.Read.val_main_v27, GateRefIdeal.Read.val_main_v16, GateRefIdeal.Read.val_main_v11, GateRefIdeal.Read.val_main_v5, GateRefIdeal.Read.val_main_v4, GateRefIdeal.Read.val_main_cst_0, GateRefIdeal.Read.val_main_v3, GateRefIdeal.Read.val_main_v2, GateRefIdeal.Read.val_main_cst, GateRefIdeal.Read.val_main_v1, GateRefIdeal.Read.val_main_v0, GateRefIdeal.Read.val_main_v15]
  exact mul_comm _ _

theorem KC_eq (d : FVec Ideal S8192x1024 .f32) (w : FVec Ideal S1024x1024 .f32) (a : FVec Ideal S8192x1024 .f32) (b : FVec Ideal S8192x1024 .f32) (l : FVec Ideal S8192x2048 .f32) : KC d w a l = Cert.GateRefIdeal.Read.val_main_v28 (F := Ideal) d w a b l := by
  funext i
  pointwise [KC, dm, ga, gb, Ideal.logistic, GateRefIdeal.Read.val_main_v28, GateRefIdeal.Read.val_main_v24, GateRefIdeal.Read.val_main_v23, GateRefIdeal.Read.val_main_v22, GateRefIdeal.Read.val_main_v18, GateRefIdeal.Read.val_main_v17, GateRefIdeal.Read.val_main_v15, GateRefIdeal.Read.val_main_cst_2, GateRefIdeal.Read.val_main_v21, GateRefIdeal.Read.val_main_v20, GateRefIdeal.Read.val_main_cst_3, GateRefIdeal.Read.val_main_v8, GateRefIdeal.Read.val_main_v5, GateRefIdeal.Read.val_main_v4, GateRefIdeal.Read.val_main_cst_0, GateRefIdeal.Read.val_main_v3, GateRefIdeal.Read.val_main_v2, GateRefIdeal.Read.val_main_cst, GateRefIdeal.Read.val_main_v1, GateRefIdeal.Read.val_main_v0, GateRefIdeal.Read.val_main_v7, GateRefIdeal.Read.val_main_v6, GateRefIdeal.Read.val_main_cst_1]
  rw [dif_neg (fun h => h.1), zero_add]

theorem KD_eq (d : FVec Ideal S8192x1024 .f32) (w : FVec Ideal S1024x1024 .f32) (a : FVec Ideal S8192x1024 .f32) (b : FVec Ideal S8192x1024 .f32) (l : FVec Ideal S8192x2048 .f32) : KD d w b l = Cert.GateRefIdeal.Read.val_main_v29 (F := Ideal) d w a b l := by
  funext i
  pointwise [KD, dm, ga, gb, Ideal.logistic, GateRefIdeal.Read.val_main_v29, GateRefIdeal.Read.val_main_v25, GateRefIdeal.Read.val_main_v23, GateRefIdeal.Read.val_main_v22, GateRefIdeal.Read.val_main_v18, GateRefIdeal.Read.val_main_v17, GateRefIdeal.Read.val_main_v15, GateRefIdeal.Read.val_main_cst_2, GateRefIdeal.Read.val_main_v21, GateRefIdeal.Read.val_main_v20, GateRefIdeal.Read.val_main_cst_3, GateRefIdeal.Read.val_main_v8, GateRefIdeal.Read.val_main_v5, GateRefIdeal.Read.val_main_v4, GateRefIdeal.Read.val_main_cst_0, GateRefIdeal.Read.val_main_v3, GateRefIdeal.Read.val_main_v2, GateRefIdeal.Read.val_main_cst, GateRefIdeal.Read.val_main_v1, GateRefIdeal.Read.val_main_v0, GateRefIdeal.Read.val_main_v7, GateRefIdeal.Read.val_main_v6, GateRefIdeal.Read.val_main_cst_1]

end Cert.GateFinal

end
-- ==== Proof.GateClaim.lean ====
module

public import proofs.«01_k».proof.Defs
public import proofs.«01_k».proof.Proof.GateEq
public import proofs.«01_k».proof.Proof.Gen.GateRefIdeal.Run

/-! The claims about the gradient of the gated merge. -/

@[expose] public section

noncomputable section

namespace Cert.GateFinal

open Idealize.ShloMosaic Idealize.ShloMosaic.TcCoe Idealize.SL.Sem

/-- The reference leaves its arguments, and it has no counters. -/
theorem quiescent_ref : Cert.quiescent_GateRefIdeal := fun m g _ =>
  (θ_run Cert.GateRefIdeal.defs _ _).mono
    (fun r h => ⟨fun c => (h c).2.2.2.2, sem_eq_zero_of_no_sems (by decide) r.2⟩)
    (Cert.GateRefIdeal.Value.run m g)

/-- Both programs leave the same four gradients. -/
theorem algebraic : Cert.algebraic_GateIdeal_GateRefIdeal := by
  pair_intro
  · run_from Cert.GateIdeal.Value.run_blocks m g
  · run_from Cert.GateRefIdeal.Value.run m' g'
    · exact ((final6 m c).trans (KA_eq _ _ _)).symm
    · exact ((final7 m c).trans (KB_eq _ _ _)).symm
    · exact ((final8 m c).trans (KC_eq _ _ _ _ _)).symm
    · exact ((final9 m c).trans (KD_eq _ _ _ _ _)).symm

end Cert.GateFinal

end
-- ==== Proof.Relu2Value.lean ====
module

public import proofs.«01_k».proof.Proof.Gen.Relu2Ideal.Value
public import proofs.«01_k».proof.Proof.Gen.Relu2RefIdeal.Read
public import proofs.«01_k».proof.Proof.Scalars
public import Idealize.ShloMosaic.Lib.Pipeline.ValueKit
public import Idealize.ShloMosaic.Lib.Claim
public import Idealize.ShloMosaic.Lib.StableHlo.RunRead

/-! The gradient of the feed-forward hidden layer: the array the kernel leaves is the reference's. -/

@[expose] public section

set_option maxRecDepth 16384

noncomputable section

namespace Cert.Relu2Final

open Idealize.ShloMosaic Idealize.ShloMosaic.TcCoe Idealize.SL.Sem
open Idealize.ShloMosaic.Pipeline (Dat)
open Cert.Relu2Ideal Cert.Relu2Ideal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The pre-activation `xn @ wu`. -/
def up (xn : FVec Ideal S8192x1024 .f32) (wu : FVec Ideal S1024x4096 .f32) : FVec Ideal S8192x4096 .f32 := fun i =>
  ∑ k : Fin 1024, xn (ix2 (i 0) k) * wu (ix2 k (i 1))

/-- The array the kernel leaves: `ddn @ wdᵀ`, times twice the root of the saved hidden layer. -/
def K (ddn : FVec Ideal S8192x1024 .f32) (wd : FVec Ideal S4096x1024 .f32) (xn : FVec Ideal S8192x1024 .f32)
    (wu : FVec Ideal S1024x4096 .f32) : FVec Ideal S8192x4096 .bf16 := fun i =>
  (∑ k : Fin 1024, ddn (ix2 (i 0) k) * wd (ix2 (i 1) k))
    * (Ideal.ofBits .f32 0x40000000#32 * Ideal.sqrt (max (up xn wu i) 0 * max (up xn wu i) 0))

/-- The hidden layer that the host lines save for the kernel. -/
theorem hid (c : Dev nD) (i : S8192x4096.Idx) : V m c main_v3 i
    = max (up (m ((c : Thread nD τ).loc main_arg2)) (m ((c : Thread nD τ).loc main_arg3)) i) 0
      * max (up (m ((c : Thread nD τ).loc main_arg2)) (m ((c : Thread nD τ).loc main_arg3)) i) 0 := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [up]

theorem point (c : Dev nD) (t : Fin cfg0.N) (y) : k0_pay1 (iblk m c 0 t) (iblk m c 1 t) (iblk m c 2 t) y
    = K (m ((c : Thread nD τ).loc main_arg0)) (m ((c : Thread nD τ).loc main_arg1)) (m ((c : Thread nD τ).loc main_arg2)) (m ((c : Thread nD τ).loc main_arg3)) (((cfg0.win 3).blk t).view.emb y) := by
  have e : iblk m c 2 t y = V m c main_v3 (((cfg0.win 3).blk t).view.emb y) := by
    blk_ext [iblk, idx t]
  pointwise [k0_pay1, K]
  rw [e, hid m c]
  blk_point [iblk, idx t]

theorem final (c : Dev nD) : (dats m 0 c).arrAt 3 cfg0.N
    = K (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

/-- Where the pre-activation is positive the root of its square is itself; elsewhere both sides are zero. -/
theorem slope (a p two : EReal) : a * (two * Ideal.sqrt (max p 0 * max p 0))
    = if 0 < p then a * (two * max p 0) else 0 := by
  by_cases h : 0 < p
  · rw [if_pos h, max_eq_left h.le, Scalars.sqrt_mul_self h.le]
  · rw [if_neg h, max_eq_right (not_lt.mp h), Scalars.sqrt_mul_self le_rfl, mul_zero, mul_zero]

theorem K_eq (ddn : FVec Ideal S8192x1024 .f32) (wd : FVec Ideal S4096x1024 .f32) (xn : FVec Ideal S8192x1024 .f32)
    (wu : FVec Ideal S1024x4096 .f32) : K ddn wd xn wu = Cert.Relu2RefIdeal.Read.val_main_v13 (F := Ideal) ddn wd xn wu := by
  funext i
  pointwise [K, up, Relu2RefIdeal.Read.val_main_v13, Relu2RefIdeal.Read.val_main_v12, Relu2RefIdeal.Read.val_main_v11, Relu2RefIdeal.Read.val_main_v10,
    Relu2RefIdeal.Read.val_main_v9, Relu2RefIdeal.Read.val_main_v7, Relu2RefIdeal.Read.val_main_v6, Relu2RefIdeal.Read.val_main_v4, Relu2RefIdeal.Read.val_main_v3,
    Relu2RefIdeal.Read.val_main_v2, Relu2RefIdeal.Read.val_main_v1, Relu2RefIdeal.Read.val_main_v0, Relu2RefIdeal.Read.val_main_call0_v0,
    Relu2RefIdeal.Read.val_main_cst, Relu2RefIdeal.Read.val_main_cst_1, Relu2RefIdeal.Read.val_main_cst_2, Relu2RefIdeal.Read.val_main_call0_cst]
  exact slope _ _ _

end Cert.Relu2Final
end
-- ==== Proof.Relu2Claim.lean ====
module

public import proofs.«01_k».proof.Defs
public import proofs.«01_k».proof.Proof.Relu2Value
public import proofs.«01_k».proof.Proof.Gen.Relu2RefIdeal.Run

/-! The claims about the gradient of the feed-forward hidden layer. -/

@[expose] public section

noncomputable section

namespace Cert.Relu2Final

open Idealize.ShloMosaic Idealize.ShloMosaic.TcCoe Idealize.SL.Sem

/-- The reference leaves its arguments, and it has no counters. -/
theorem quiescent_ref : Cert.quiescent_Relu2RefIdeal := fun m g _ =>
  (θ_run Cert.Relu2RefIdeal.defs _ _).mono
    (fun r h => ⟨fun c => (h c).2, sem_eq_zero_of_no_sems (by decide) r.2⟩)
    (Cert.Relu2RefIdeal.Value.run m g)

/-- Both programs leave the same gradient. -/
theorem algebraic : Cert.algebraic_Relu2Ideal_Relu2RefIdeal := by
  pair_intro
  · run_from Cert.Relu2Ideal.Value.run_blocks m g
  · run_from Cert.Relu2RefIdeal.Value.run m' g'
    exact ((final m c).trans (K_eq _ _ _ _)).symm

end Cert.Relu2Final

end
-- ==== Proof.RmsBack.lean ====
module

public import proofs.«01_k».proof.Proof.Scalars

/-! The backward pass of a root-mean-square norm over one row. The kernel writes it with the normed row `x * r`; the
derivative of `rsqrt` gives the reference a sum of three terms. Over the extended reals the two are equal for every row:
where a sum of squares is infinite, `r` is zero and so are both. -/

@[expose] public section

noncomputable section

namespace Cert.RmsBack

open Idealize.ShloMosaic Cert.Scalars

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A factor that is real and not negative goes out of a sum, whatever the terms. -/
theorem sum_mul_coe {n : ℕ} (f : Fin n → EReal) {q : ℝ} (hq : 0 ≤ q) : (∑ k, f k * (q : EReal)) = (∑ k, f k) * (q : EReal) := by
  have h : ∀ s : Finset (Fin n), (∑ k ∈ s, f k * (q : EReal)) = (∑ k ∈ s, f k) * (q : EReal) := by
    intro s
    induction s using Finset.cons_induction with
    | empty => simp
    | cons a s ha ih =>
      rw [Finset.sum_cons, Finset.sum_cons, ih,
        EReal.right_distrib_of_nonneg_of_ne_top (by exact_mod_cast hq) (EReal.coe_ne_top q)]
  exact h Finset.univ

theorem mul_self_nonneg (x : EReal) : 0 ≤ x * x := by
  induction x with
  | bot => simp
  | top => simp
  | coe r => exact_mod_cast _root_.mul_self_nonneg r

theorem add_self (y : EReal) : y + y = y * ((2 : ℝ) : EReal) := by
  have h := EReal.left_distrib_of_nonneg (c := y) (a := 1) (b := 1) zero_le_one zero_le_one
  rw [mul_one] at h
  rw [← h]
  congr 1
  exact (EReal.coe_add 1 1).symm.trans (congrArg _ one_add_one_eq_two)

/-- The reciprocal of a row's root mean square. -/
def root {n : ℕ} (N ε : EReal) (x : Fin n → EReal) : EReal := Ideal.rsqrt (Ideal.div (∑ k, x k * x k) N + ε)

/-- The row's gradient with the normed row `x * r`. -/
def back {n : ℕ} (N ε : EReal) (x u : Fin n → EReal) (j : Fin n) : EReal :=
  root N ε x * (u j - x j * root N ε x * Ideal.div (∑ k, u k * (x k * root N ε x)) N)

/-- What the derivative of `rsqrt` gives each square. -/
def slope {n : ℕ} (N ε h : EReal) (x u : Fin n → EReal) : EReal :=
  Ideal.div ((∑ k, x k * u k) * (h * Ideal.div (root N ε x) (Ideal.div (∑ k, x k * x k) N + ε))) N

theorem back_eq {n : ℕ} {N ε : ℝ} (hN : 0 < N) (hε : 0 < ε) (x u : Fin n → EReal) (j : Fin n) :
    back N ε x u j = u j * root N ε x + (x j * slope N ε ((-(1 / 2) : ℝ) : EReal) x u + slope N ε ((-(1 / 2) : ℝ) : EReal) x u * x j) := by
  have hN' : N ≠ 0 := hN.ne'
  have hS : 0 ≤ ∑ k, x k * x k := Finset.sum_nonneg fun k _ => mul_self_nonneg (x k)
  unfold back slope root
  generalize (∑ k, x k * x k) = S at hS ⊢
  simp only [Ideal.div_coe hN']
  induction S with
  | bot => simp at hS
  | top =>
    have h1 : (⊤ : EReal) * ((1 / N : ℝ) : EReal) + (ε : EReal) = ⊤ := by
      rw [EReal.top_mul_coe_of_pos (by positivity), EReal.top_add_coe]
    rw [h1]
    have h2 : Ideal.rsqrt ⊤ = 0 := rfl
    have h3 : Ideal.div 0 ⊤ = 0 := by simp [Ideal.div]
    simp [h2, h3]
  | coe s =>
    have hs : 0 ≤ s := by exact_mod_cast hS
    have hw : 0 < s * (1 / N) + ε := by positivity
    rw [← EReal.coe_mul, ← EReal.coe_add]
    generalize s * (1 / N) + ε = w at hw ⊢
    rw [rsqrt_coe hw]
    have hq : 0 < (Real.sqrt w)⁻¹ := inv_pos.mpr (Real.sqrt_pos.mpr hw)
    have hqw : (Real.sqrt w)⁻¹ / w = (Real.sqrt w)⁻¹ * (Real.sqrt w)⁻¹ * (Real.sqrt w)⁻¹ := by
      rw [div_eq_mul_inv, mul_assoc, ← mul_inv (Real.sqrt w) (Real.sqrt w), Real.mul_self_sqrt hw.le]
    rw [div_coe _ hw.ne', hqw]
    generalize (Real.sqrt w)⁻¹ = q at hq ⊢
    have hsum : (∑ k, u k * (x k * (q : EReal))) = (∑ k, x k * u k) * (q : EReal) := by
      rw [← sum_mul_coe _ hq.le]
      exact Finset.sum_congr rfl fun k _ => by rw [← mul_assoc, mul_comm (u k)]
    rw [hsum, mul_comm (_ * _ * _) (x j), add_self, sub_eq_add_neg,
      EReal.left_distrib_of_nonneg_of_ne_top (by exact_mod_cast hq.le) (EReal.coe_ne_top q), mul_comm (q : EReal) (u j)]
    congr 1
    generalize (∑ k, x k * u k) = P
    generalize x j = a
    have e1 : (q : EReal) * -(a * q * (P * q * ((1 / N : ℝ) : EReal))) = a * P * ((-(q * q * q * (1 / N)) : ℝ) : EReal) := by
      rw [mul_neg, EReal.coe_neg, mul_neg]
      congr 1
      simp only [EReal.coe_mul]
      ac_rfl
    have e2 : a * (P * (((-(1 / 2) : ℝ) : EReal) * ((q * q * q : ℝ) : EReal)) * ((1 / N : ℝ) : EReal)) * ((2 : ℝ) : EReal)
        = a * P * ((-(1 / 2) * (q * q * q) * (1 / N) * 2 : ℝ) : EReal) := by
      simp only [EReal.coe_mul, mul_assoc]
    rw [e1, e2]
    congr 2
    ring

end Cert.RmsBack
end
-- ==== Proof.NormsValue.lean ====
module

public import proofs.«01_k».proof.Proof.Gen.NormsIdeal.Value
public import proofs.«01_k».proof.Proof.Gen.NormsRefIdeal.Read
public import proofs.«01_k».proof.Proof.Scalars
public import Idealize.ShloMosaic.Lib.Pipeline.ValueKit
public import Idealize.ShloMosaic.Lib.Claim
public import Idealize.ShloMosaic.Lib.StableHlo.RunRead
public import proofs.«01_k».proof.Proof.RmsBack

/-! Through the up-projection and the two norms around the residual. -/

@[expose] public section

set_option maxRecDepth 16384

noncomputable section

namespace Cert.NormsFinal

open Idealize.ShloMosaic Idealize.ShloMosaic.TcCoe Idealize.SL.Sem
open Idealize.ShloMosaic.Pipeline (Dat)
open Cert.NormsIdeal Cert.NormsIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0] :=
  (by decide +kernel : ∀ t : Fin grid0.N, _)

/-- The gradient of the second norm's output: `dup @ wᵀ`. -/
def gy (d : FVec Ideal S8192x4096 .f32) (w : FVec Ideal S1024x4096 .f32) : FVec Ideal S8192x1024 .f32 := fun i => ∑ k : Fin 4096, d (ix2 (i 0) k) * w (ix2 (i 1) k)

/-- The reciprocal of a row's root mean square. -/
def rt (x : FVec Ideal S8192x1024 .f32) (s : Fin 8192) : EReal :=
  RmsBack.root (Ideal.ofBits .f32 0x44800000#32) (Ideal.ofBits .f32 0x358637BD#32) fun k : Fin 1024 => x (ix2 s k)

/-- The residual: what the host lines save for the kernel. -/
def res (x : FVec Ideal S8192x1024 .f32) (o : FVec Ideal S8192x1024 .f32) (g : FVec Ideal S1x1024 .f32) : FVec Ideal S8192x1024 .f32 := fun i => x i + o i * rt o (i 0) * g (ix2 0 (i 1))

/-- The gradient through a norm's rows, of its output's gradient `d`. -/
def back (x : FVec Ideal S8192x1024 .f32) (d : FVec Ideal S8192x1024 .f32) (g : FVec Ideal S1x1024 .f32) : FVec Ideal S8192x1024 .f32 := fun i =>
  RmsBack.back (Ideal.ofBits .f32 0x44800000#32) (Ideal.ofBits .f32 0x358637BD#32) (fun k : Fin 1024 => x (ix2 (i 0) k)) (fun k => d (ix2 (i 0) k) * g (ix2 0 k)) (i 1)

/-- The residual's gradient. -/
def dres (d : FVec Ideal S8192x4096 .f32) (w : FVec Ideal S1024x4096 .f32) (h : FVec Ideal S8192x1024 .f32) (y : FVec Ideal S8192x1024 .f32) (g : FVec Ideal S1x1024 .f32) : FVec Ideal S8192x1024 .f32 := fun i => y i + back h (gy d w) g i

/-- The gradient of a gain. -/
def dgain (d : FVec Ideal S8192x1024 .f32) (x : FVec Ideal S8192x1024 .f32) : FVec Ideal S1x1024 .f32 := fun i => ∑ s : Fin 8192, d (ix2 s (i 1)) * (x (ix2 s (i 1)) * rt x s)

theorem res_host (c : Dev nD) : V m c main_v12 = res (m ((c : Thread nD τ).loc main_arg2)) (m ((c : Thread nD τ).loc main_arg3)) (m ((c : Thread nD τ).loc main_arg5)) := by
  funext i
  unfold V hostOps0
  simp only [StableHlo.TRef.nullary, StableHlo.TRef.unary, StableHlo.TRef.binary, StableHlo.TRef.toBuf, StableHlo.TRef.ofBuf, cast_eq]
  after_reads_simp
  pointwise [res, rt, RmsBack.root]

theorem point7 (c : Dev nD) (t : Fin cfg0.N) (y) :
    k0_pay8 (iblk m c 3 t) (k0_pay7 (iblk m c 0 t) (iblk m c 1 t) (iblk m c 2 t) (iblk m c 5 t)) y
      = dres (m ((c : Thread nD τ).loc main_arg0)) (m ((c : Thread nD τ).loc main_arg1)) (V m c main_v12) (m ((c : Thread nD τ).loc main_arg4)) (m ((c : Thread nD τ).loc main_arg6)) (((cfg0.win 7).blk t).view.emb y) := by
  pointwise [k0_pay8, k0_pay7, k0_pay6, k0_pay5, k0_pay4, k0_pay3, dres, back, gy, RmsBack.back, RmsBack.root]
  blk_point [iblk, idx t]

theorem final7 (c : Dev nD) : (dats m 0 c).arrAt 7 cfg0.N = dres (m ((c : Thread nD τ).loc main_arg0)) (m ((c : Thread nD τ).loc main_arg1)) (V m c main_v12) (m ((c : Thread nD τ).loc main_arg4)) (m ((c : Thread nD τ).loc main_arg6)) := by
  refine (dats m 0 c).arrAt_eq_of_covers 7 _ (by decide +kernel) fun t _ y => ?_
  blk_simp
  rw [after0_7]
  by_cases h : t.val % 16 = 0
  · rw [outsAt0_A m c t h]; frame_out
    exact point7 m c t y
  · rw [outsAt0_B m c t h]; frame_out
    exact point7 m c t y

theorem point8 (c : Dev nD) (t : Fin cfg0.N) (y) :
    k0_pay11 (iblk m c 3 t) (iblk m c 4 t) (iblk m c 6 t) (k0_pay7 (iblk m c 0 t) (iblk m c 1 t) (iblk m c 2 t) (iblk m c 5 t)) y
      = back (m ((c : Thread nD τ).loc main_arg3)) (dres (m ((c : Thread nD τ).loc main_arg0)) (m ((c : Thread nD τ).loc main_arg1)) (V m c main_v12) (m ((c : Thread nD τ).loc main_arg4)) (m ((c : Thread nD τ).loc main_arg6))) (m ((c : Thread nD τ).loc main_arg5)) (((cfg0.win 8).blk t).view.emb y) := by
  pointwise [k0_pay11, k0_pay10, k0_pay9, k0_pay8, k0_pay7, k0_pay6, k0_pay5, k0_pay4, k0_pay3, dres, back, gy, RmsBack.back, RmsBack.root]
  blk_point [iblk, idx t]

theorem final8 (c : Dev nD) : (dats m 0 c).arrAt 8 cfg0.N
    = (back (m ((c : Thread nD τ).loc main_arg3)) (dres (m ((c : Thread nD τ).loc main_arg0)) (m ((c : Thread nD τ).loc main_arg1)) (V m c main_v12) (m ((c : Thread nD τ).loc main_arg4)) (m ((c : Thread nD τ).loc main_arg6))) (m ((c : Thread nD τ).loc main_arg5)) : FVec Ideal S8192x1024 .bf16) := by
  refine (dats m 0 c).arrAt_eq_of_covers 8 _ (by decide +kernel) fun t _ y => ?_
  blk_simp
  rw [after0_8]
  by_cases h : t.val % 16 = 0
  · rw [outsAt0_A m c t h]; frame_out
    exact point8 m c t y
  · rw [outsAt0_B m c t h]; frame_out
    exact point8 m c t y

theorem zero9 (j) : k0_pay1 (F := Ideal) j = 0 := by pointwise [k0_pay1]
theorem zero10 (j) : k0_pay2 (F := Ideal) j = 0 := by pointwise [k0_pay2]

/-- One step adds the sums over a block of 512 rows. -/
theorem step9 (a b : FVec Ideal S512x1024 .f32) (acc : FVec Ideal S1x1024 .f32) (j) : k0_pay12 a b acc j = acc j + ∑ k : Fin 512, a (ix2 k (j 1)) * b (ix2 k (j 1)) := by
  pointwise [k0_pay12]
theorem step10 (a b : FVec Ideal S512x1024 .f32) (p : FVec Ideal S512x1024 .f32) (acc : FVec Ideal S1x1024 .f32) (j) :
    k0_pay13 a b p acc j = acc j + ∑ k : Fin 512, k0_pay8 a p (ix2 k (j 1)) * k0_pay10 b (ix2 k (j 1)) := by
  pointwise [k0_pay13]

theorem final9 (c : Dev nD) : (dats m 0 c).arrAt 9 cfg0.N = dgain (gy (m ((c : Thread nD τ).loc main_arg0)) (m ((c : Thread nD τ).loc main_arg1))) (V m c main_v12) := by
  refine (dats m 0 c).arrAt_eq_of_covers 9 _ (by decide +kernel) fun t hf y => ?_
  blk_simp
  rw [after0_9, Pipeline.eq_sum_fin_of_reset_step_apply_of_flush (fun n h => (outsAt0 m c n h).2.2.1) 16 (fun _ => 0) _
    (fun t h j => by rw [outsAt0_A m c t h]; frame_out; rw [step9, zero9])
    (fun t h j => by rw [outsAt0_B m c t h]; frame_out; rw [step9])
    t ((flush0_9 t).mp hf) _, zero_add]
  unfold dgain
  refine Fin.sum_mul_add_congr fun s k hl => ?_
  pointwise [k0_pay3, k0_pay6, k0_pay5, k0_pay4, gy, rt, RmsBack.root]
  blk_point [iblk, idx t, idx ⟨_, Pipeline.run_point_lt_of_flush t ((flush0_9 t).mp hf) s⟩]

theorem final10 (c : Dev nD) : (dats m 0 c).arrAt 10 cfg0.N
    = dgain (dres (m ((c : Thread nD τ).loc main_arg0)) (m ((c : Thread nD τ).loc main_arg1)) (V m c main_v12) (m ((c : Thread nD τ).loc main_arg4)) (m ((c : Thread nD τ).loc main_arg6))) (m ((c : Thread nD τ).loc main_arg3)) := by
  refine (dats m 0 c).arrAt_eq_of_covers 10 _ (by decide +kernel) fun t hf y => ?_
  blk_simp
  rw [after0_10, Pipeline.eq_sum_fin_of_reset_step_apply_of_flush (fun n h => (outsAt0 m c n h).2.2.2) 16 (fun _ => 0) _
    (fun t h j => by rw [outsAt0_A m c t h]; frame_out; rw [step10, zero10])
    (fun t h j => by rw [outsAt0_B m c t h]; frame_out; rw [step10])
    t ((flush0_10 t).mp hf) _, zero_add]
  unfold dgain
  refine Fin.sum_mul_add_congr fun s k hl => ?_
  pointwise [k0_pay8, k0_pay7, k0_pay3, k0_pay6, k0_pay5, k0_pay4, k0_pay10, k0_pay9, dres, back, RmsBack.back, gy, rt, RmsBack.root]
  blk_point [iblk, idx t, idx ⟨_, Pipeline.run_point_lt_of_flush t ((flush0_10 t).mp hf) s⟩]

end Cert.NormsFinal

end
-- ==== Proof.NormsEq.lean ====
module

public import proofs.«01_k».proof.Proof.NormsValue

/-! The reference's gradient through the up-projection and the two norms is the kernel's. -/

@[expose] public section

set_option maxRecDepth 16384

noncomputable section

namespace Cert.NormsFinal

open Idealize.ShloMosaic Idealize.ShloMosaic.TcCoe Idealize.SL.Sem
open Cert.NormsIdeal

/-- The three terms that the derivative of `rsqrt` gives are the kernel's one. -/
theorem back_eq (x u : Fin 1024 → EReal) (j : Fin 1024) :
    u j * RmsBack.root (Ideal.ofBits .f32 0x44800000#32) (Ideal.ofBits .f32 0x358637BD#32) x + x j * RmsBack.slope (Ideal.ofBits .f32 0x44800000#32) (Ideal.ofBits .f32 0x358637BD#32) (Ideal.ofBits .f32 0xBF000000#32) x u
      + RmsBack.slope (Ideal.ofBits .f32 0x44800000#32) (Ideal.ofBits .f32 0x358637BD#32) (Ideal.ofBits .f32 0xBF000000#32) x u * x j = RmsBack.back (Ideal.ofBits .f32 0x44800000#32) (Ideal.ofBits .f32 0x358637BD#32) x u j := by
  obtain ⟨e, he, h⟩ := RmsBack.ofBits_eps
  rw [RmsBack.ofBits_1024, RmsBack.ofBits_neg_half, h, RmsBack.back_eq (by norm_num) he, add_assoc]

theorem back_add (x u : Fin 1024 → EReal) (j : Fin 1024) (y : EReal) :
    y + u j * RmsBack.root (Ideal.ofBits .f32 0x44800000#32) (Ideal.ofBits .f32 0x358637BD#32) x + x j * RmsBack.slope (Ideal.ofBits .f32 0x44800000#32) (Ideal.ofBits .f32 0x358637BD#32) (Ideal.ofBits .f32 0xBF000000#32) x u
      + RmsBack.slope (Ideal.ofBits .f32 0x44800000#32) (Ideal.ofBits .f32 0x358637BD#32) (Ideal.ofBits .f32 0xBF000000#32) x u * x j = y + RmsBack.back (Ideal.ofBits .f32 0x44800000#32) (Ideal.ofBits .f32 0x358637BD#32) x u j := by
  rw [← back_eq, add_assoc, add_assoc, ← add_assoc (u j * _)]

theorem res_eq (x o : FVec Ideal S8192x1024 .f32) (g : FVec Ideal S1x1024 .f32) : res x o g = Cert.NormsRefIdeal.Read.val_main_v15 (F := Ideal) x o g := by
  funext i
  pointwise [res, rt, RmsBack.root, Cert.NormsRefIdeal.Read.val_main_v15, Cert.NormsRefIdeal.Read.val_main_v14, Cert.NormsRefIdeal.Read.val_main_v12, Cert.NormsRefIdeal.Read.val_main_v11, Cert.NormsRefIdeal.Read.val_main_v7, Cert.NormsRefIdeal.Read.val_main_v6, Cert.NormsRefIdeal.Read.val_main_v4, Cert.NormsRefIdeal.Read.val_main_v2, Cert.NormsRefIdeal.Read.val_main_v1, Cert.NormsRefIdeal.Read.val_main_v0, Cert.NormsRefIdeal.Read.val_main_cst, Cert.NormsRefIdeal.Read.val_main_v3, Cert.NormsRefIdeal.Read.val_main_cst_0, Cert.NormsRefIdeal.Read.val_main_v5, Cert.NormsRefIdeal.Read.val_main_cst_1, Cert.NormsRefIdeal.Read.val_main_v13]

theorem eq7 (d : FVec Ideal S8192x4096 .f32) (w : FVec Ideal S1024x4096 .f32) (x : FVec Ideal S8192x1024 .f32) (o : FVec Ideal S8192x1024 .f32) (y : FVec Ideal S8192x1024 .f32) (g : FVec Ideal S1x1024 .f32) (g' : FVec Ideal S1x1024 .f32) : dres d w (res x o g) y g' = Cert.NormsRefIdeal.Read.val_main_v52 (F := Ideal) d w x o y g g' := by
  rw [res_eq]
  funext i
  refine (back_add _ _ (i 1) (y i)).symm.trans ?_
  pointwise [gy, RmsBack.slope, RmsBack.root, Cert.NormsRefIdeal.Read.val_main_v52, Cert.NormsRefIdeal.Read.val_main_v50, Cert.NormsRefIdeal.Read.val_main_v43, Cert.NormsRefIdeal.Read.val_main_v42, Cert.NormsRefIdeal.Read.val_main_v37, Cert.NormsRefIdeal.Read.val_main_v32, Cert.NormsRefIdeal.Read.val_main_v36, Cert.NormsRefIdeal.Read.val_main_v41, Cert.NormsRefIdeal.Read.val_main_v23, Cert.NormsRefIdeal.Read.val_main_v22, Cert.NormsRefIdeal.Read.val_main_v20, Cert.NormsRefIdeal.Read.val_main_v18, Cert.NormsRefIdeal.Read.val_main_v17, Cert.NormsRefIdeal.Read.val_main_v16, Cert.NormsRefIdeal.Read.val_main_cst_3, Cert.NormsRefIdeal.Read.val_main_v19, Cert.NormsRefIdeal.Read.val_main_cst_4, Cert.NormsRefIdeal.Read.val_main_v21, Cert.NormsRefIdeal.Read.val_main_cst_5, Cert.NormsRefIdeal.Read.val_main_v49, Cert.NormsRefIdeal.Read.val_main_v48, Cert.NormsRefIdeal.Read.val_main_v47, Cert.NormsRefIdeal.Read.val_main_v46, Cert.NormsRefIdeal.Read.val_main_v44, Cert.NormsRefIdeal.Read.val_main_v40, Cert.NormsRefIdeal.Read.val_main_v39, Cert.NormsRefIdeal.Read.val_main_v38, Cert.NormsRefIdeal.Read.val_main_cst_8, Cert.NormsRefIdeal.Read.val_main_v26, Cert.NormsRefIdeal.Read.val_main_v25, Cert.NormsRefIdeal.Read.val_main_cst_6, Cert.NormsRefIdeal.Read.val_main_v24, Cert.NormsRefIdeal.Read.val_main_v45, Cert.NormsRefIdeal.Read.val_main_cst_9, Cert.NormsRefIdeal.Read.val_main_cst_10, Cert.NormsRefIdeal.Read.val_main_v51]
  simp only [Fin.sum_univ_one]

theorem eq8 (d : FVec Ideal S8192x4096 .f32) (w : FVec Ideal S1024x4096 .f32) (x : FVec Ideal S8192x1024 .f32) (o : FVec Ideal S8192x1024 .f32) (y : FVec Ideal S8192x1024 .f32) (g : FVec Ideal S1x1024 .f32) (g' : FVec Ideal S1x1024 .f32) : back o (dres d w (res x o g) y g') g = Cert.NormsRefIdeal.Read.val_main_v73 (F := Ideal) d w x o y g g' := by
  rw [eq7]
  funext i
  refine (back_eq _ _ (i 1)).symm.trans ?_
  pointwise [RmsBack.slope, RmsBack.root, Cert.NormsRefIdeal.Read.val_main_v73, Cert.NormsRefIdeal.Read.val_main_v72, Cert.NormsRefIdeal.Read.val_main_v70, Cert.NormsRefIdeal.Read.val_main_v63, Cert.NormsRefIdeal.Read.val_main_v58, Cert.NormsRefIdeal.Read.val_main_v53, Cert.NormsRefIdeal.Read.val_main_v57, Cert.NormsRefIdeal.Read.val_main_v62, Cert.NormsRefIdeal.Read.val_main_v7, Cert.NormsRefIdeal.Read.val_main_v6, Cert.NormsRefIdeal.Read.val_main_v4, Cert.NormsRefIdeal.Read.val_main_v2, Cert.NormsRefIdeal.Read.val_main_v1, Cert.NormsRefIdeal.Read.val_main_v0, Cert.NormsRefIdeal.Read.val_main_cst, Cert.NormsRefIdeal.Read.val_main_v3, Cert.NormsRefIdeal.Read.val_main_cst_0, Cert.NormsRefIdeal.Read.val_main_v5, Cert.NormsRefIdeal.Read.val_main_cst_1, Cert.NormsRefIdeal.Read.val_main_v69, Cert.NormsRefIdeal.Read.val_main_v68, Cert.NormsRefIdeal.Read.val_main_v67, Cert.NormsRefIdeal.Read.val_main_v66, Cert.NormsRefIdeal.Read.val_main_v64, Cert.NormsRefIdeal.Read.val_main_v61, Cert.NormsRefIdeal.Read.val_main_v60, Cert.NormsRefIdeal.Read.val_main_v59, Cert.NormsRefIdeal.Read.val_main_cst_12, Cert.NormsRefIdeal.Read.val_main_v10, Cert.NormsRefIdeal.Read.val_main_v9, Cert.NormsRefIdeal.Read.val_main_cst_2, Cert.NormsRefIdeal.Read.val_main_v8, Cert.NormsRefIdeal.Read.val_main_v65, Cert.NormsRefIdeal.Read.val_main_cst_13, Cert.NormsRefIdeal.Read.val_main_cst_14, Cert.NormsRefIdeal.Read.val_main_v71]
  simp only [Fin.sum_univ_one]

theorem eq9 (d : FVec Ideal S8192x4096 .f32) (w : FVec Ideal S1024x4096 .f32) (x : FVec Ideal S8192x1024 .f32) (o : FVec Ideal S8192x1024 .f32) (g : FVec Ideal S1x1024 .f32) : dgain (gy d w) (res x o g) = Cert.NormsRefIdeal.Read.val_main_v35 (F := Ideal) d w x o g := by
  rw [res_eq]
  funext i
  pointwise [dgain, gy, rt, RmsBack.root, Cert.NormsRefIdeal.Read.val_main_v35, Cert.NormsRefIdeal.Read.val_main_v34, Cert.NormsRefIdeal.Read.val_main_v33, Cert.NormsRefIdeal.Read.val_main_v28, Cert.NormsRefIdeal.Read.val_main_v27, Cert.NormsRefIdeal.Read.val_main_v23, Cert.NormsRefIdeal.Read.val_main_v22, Cert.NormsRefIdeal.Read.val_main_v20, Cert.NormsRefIdeal.Read.val_main_v18, Cert.NormsRefIdeal.Read.val_main_v17, Cert.NormsRefIdeal.Read.val_main_v16, Cert.NormsRefIdeal.Read.val_main_cst_3, Cert.NormsRefIdeal.Read.val_main_v19, Cert.NormsRefIdeal.Read.val_main_cst_4, Cert.NormsRefIdeal.Read.val_main_v21, Cert.NormsRefIdeal.Read.val_main_cst_5, Cert.NormsRefIdeal.Read.val_main_v32, Cert.NormsRefIdeal.Read.val_main_cst_7]
  exact Finset.sum_congr rfl fun k _ => mul_comm _ _

theorem eq10 (d : FVec Ideal S8192x4096 .f32) (w : FVec Ideal S1024x4096 .f32) (x : FVec Ideal S8192x1024 .f32) (o : FVec Ideal S8192x1024 .f32) (y : FVec Ideal S8192x1024 .f32) (g : FVec Ideal S1x1024 .f32) (g' : FVec Ideal S1x1024 .f32) : dgain (dres d w (res x o g) y g') o = Cert.NormsRefIdeal.Read.val_main_v56 (F := Ideal) d w x o y g g' := by
  rw [eq7]
  funext i
  pointwise [dgain, rt, RmsBack.root, Cert.NormsRefIdeal.Read.val_main_v56, Cert.NormsRefIdeal.Read.val_main_v55, Cert.NormsRefIdeal.Read.val_main_v54, Cert.NormsRefIdeal.Read.val_main_v12, Cert.NormsRefIdeal.Read.val_main_v11, Cert.NormsRefIdeal.Read.val_main_v7, Cert.NormsRefIdeal.Read.val_main_v6, Cert.NormsRefIdeal.Read.val_main_v4, Cert.NormsRefIdeal.Read.val_main_v2, Cert.NormsRefIdeal.Read.val_main_v1, Cert.NormsRefIdeal.Read.val_main_v0, Cert.NormsRefIdeal.Read.val_main_cst, Cert.NormsRefIdeal.Read.val_main_v3, Cert.NormsRefIdeal.Read.val_main_cst_0, Cert.NormsRefIdeal.Read.val_main_v5, Cert.NormsRefIdeal.Read.val_main_cst_1, Cert.NormsRefIdeal.Read.val_main_v53, Cert.NormsRefIdeal.Read.val_main_cst_11]
  exact Finset.sum_congr rfl fun k _ => mul_comm _ _

end Cert.NormsFinal
end
-- ==== Proof.NormsRun.lean ====
module

public import proofs.«01_k».proof.Proof.Gen.NormsRefIdeal.Read

/-! The run of the reference of the gradient through the up-projection and the two norms around the residual. -/

@[expose] public section

set_option maxRecDepth 16384

noncomputable section

namespace Cert.NormsRefIdeal

open Idealize.ShloMosaic Idealize.ShloMosaic.TcCoe Idealize.SL.Sem
open Cert.NormsRefIdeal Cert.NormsRefIdeal.Gen

/-- What the reference leaves, by the names of its stages. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v73) = Read.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨hv52, hv73, hv35, hv56, hargs⟩ := h c
    exact ⟨hv52.trans (Read.val_main_v52_eq m c), hv73.trans (Read.val_main_v73_eq m c), hv35, hv56.trans (Read.val_main_v56_eq m c), hargs⟩) (Cert.NormsRefIdeal.Value.run m ρ)

end Cert.NormsRefIdeal
end
-- ==== Proof.NormsClaim.lean ====
module

public import proofs.«01_k».proof.Defs
public import proofs.«01_k».proof.Proof.NormsEq
public import proofs.«01_k».proof.Proof.NormsRun

/-! The claims about the gradient through the up-projection and the two norms around the residual. -/

@[expose] public section

set_option maxRecDepth 16384

noncomputable section

namespace Cert.NormsFinal

open Idealize.ShloMosaic Idealize.ShloMosaic.TcCoe Idealize.SL.Sem

/-- The reference leaves its arguments, and it has no counters. -/
theorem quiescent_ref : Cert.quiescent_NormsRefIdeal := fun m g _ =>
  (θ_run Cert.NormsRefIdeal.defs _ _).mono
    (fun r h => ⟨fun c => (h c).2.2.2.2, sem_eq_zero_of_no_sems (by decide) r.2⟩)
    (Cert.NormsRefIdeal.run_ref m g)

/-- Both programs leave the same results. -/
theorem algebraic : Cert.algebraic_NormsIdeal_NormsRefIdeal := by
  pair_intro
  · run_from Cert.NormsIdeal.Value.run_blocks m g
  · run_from Cert.NormsRefIdeal.run_ref m' g'
    · exact ((final7 m c).trans (by rw [res_host]; exact eq7 _ _ _ _ _ _ _ )).symm
    · exact ((final8 m c).trans (by rw [res_host]; exact eq8 _ _ _ _ _ _ _ )).symm
    · exact ((final9 m c).trans (by rw [res_host]; exact eq9 _ _ _ _ _ )).symm
    · exact ((final10 m c).trans (by rw [res_host]; exact eq10 _ _ _ _ _ _ _ )).symm

end Cert.NormsFinal

end
-- ==== Proof.LossValue.lean ====
module

public import proofs.«01_k».proof.Proof.Gen.LossIdeal.Value
public import proofs.«01_k».proof.Proof.Gen.LossRefIdeal.Read
public import proofs.«01_k».proof.Proof.Scalars
public import Idealize.ShloMosaic.Lib.Pipeline.ValueKit
public import Idealize.ShloMosaic.Lib.Claim
public import Idealize.ShloMosaic.Lib.StableHlo.RunRead
public import proofs.«01_k».proof.Proof.RmsBack

/-! The down-projection, the loss and the gradient of its norm. -/

@[expose] public section

set_option maxRecDepth 16384

noncomputable section

namespace Cert.LossFinal

open Idealize.ShloMosaic Idealize.ShloMosaic.TcCoe Idealize.SL.Sem
open Idealize.ShloMosaic.Pipeline (Dat)
open Cert.LossIdeal Cert.LossIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- The layer's output `hid @ w`. -/
def dn (a : FVec Ideal S8192x4096 .f32) (w : FVec Ideal S4096x1024 .f32) : FVec Ideal S8192x1024 .f32 := fun i => ∑ k : Fin 4096, a (ix2 (i 0) k) * w (ix2 k (i 1))

/-- The reciprocal of a row's root mean square. -/
def rt (x : FVec Ideal S8192x1024 .f32) (s : Fin 8192) : EReal :=
  RmsBack.root (Ideal.ofBits .f32 0x44800000#32) (Ideal.ofBits .f32 0x358637BD#32) fun k : Fin 1024 => x (ix2 s k)

/-- What the output misses its target by. -/
def err (x : FVec Ideal S8192x1024 .f32) (h : FVec Ideal S8192x1024 .f32) (y : FVec Ideal S8192x1024 .f32) (g : FVec Ideal S1x1024 .f32) : FVec Ideal S8192x1024 .f32 := fun i => h i + x i * rt x (i 0) * g (ix2 0 (i 1)) - y i

/-- The output's gradient. -/
def dy (x : FVec Ideal S8192x1024 .f32) (h : FVec Ideal S8192x1024 .f32) (y : FVec Ideal S8192x1024 .f32) (g : FVec Ideal S1x1024 .f32) : FVec Ideal S8192x1024 .f32 := fun i => err x h y g i * Ideal.ofBits .f32 0x3A800000#32

/-- The gradient through the norm's rows, of its output's gradient `d`. -/
def back (x : FVec Ideal S8192x1024 .f32) (d : FVec Ideal S8192x1024 .f32) (g : FVec Ideal S1x1024 .f32) : FVec Ideal S8192x1024 .f32 := fun i =>
  RmsBack.back (Ideal.ofBits .f32 0x44800000#32) (Ideal.ofBits .f32 0x358637BD#32) (fun k : Fin 1024 => x (ix2 (i 0) k)) (fun k => d (ix2 (i 0) k) * g (ix2 0 k)) (i 1)

/-- The squares of what the output misses by, summed over the rows. -/
def sq (e : FVec Ideal S8192x1024 .f32) : FVec Ideal S1x1024 .f32 := fun i => ∑ s : Fin 8192, e (ix2 s (i 1)) * e (ix2 s (i 1))

/-- The gradient of the gain. -/
def dgain (d : FVec Ideal S8192x1024 .f32) (x : FVec Ideal S8192x1024 .f32) : FVec Ideal S1x1024 .f32 := fun i => ∑ s : Fin 8192, d (ix2 s (i 1)) * (x (ix2 s (i 1)) * rt x s)

theorem point5 (c : Dev nD) (t : Fin cfg0.N) (y) : k0_pay8 (iblk m c 0 t) (iblk m c 1 t) (iblk m c 2 t) (iblk m c 3 t) (iblk m c 4 t) y = dy (dn (m ((c : Thread nD τ).loc main_arg0)) (m ((c : Thread nD τ).loc main_arg1))) (m ((c : Thread nD τ).loc main_arg2)) (m ((c : Thread nD τ).loc main_arg3)) (m ((c : Thread nD τ).loc main_arg4)) (((cfg0.win 5).blk t).view.emb y) := by
  pointwise [k0_pay8, k0_pay7, k0_pay6, dy, err, rt, dn, RmsBack.root]
  blk_point [iblk, idx t]

theorem final5 (c : Dev nD) : (dats m 0 c).arrAt 5 cfg0.N = dy (dn (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h]; frame_out
    exact point5 m c t y
  · rw [outsAt0_B m c t h]; frame_out
    exact point5 m c t y

theorem point6 (c : Dev nD) (t : Fin cfg0.N) (y) :
    k0_pay1 (k0_pay8 (iblk m c 0 t) (iblk m c 1 t) (iblk m c 2 t) (iblk m c 3 t) (iblk m c 4 t)) (k0_pay9 (iblk m c 0 t) (iblk m c 1 t)) (k0_pay10 (iblk m c 0 t) (iblk m c 1 t)) (k0_pay11 (iblk m c 4 t)) y
      = back (dn (m ((c : Thread nD τ).loc main_arg0)) (m ((c : Thread nD τ).loc main_arg1))) (dy (dn (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg4)) (((cfg0.win 6).blk t).view.emb y) := by
  pointwise [k0_pay1, k0_pay8, k0_pay7, k0_pay6, k0_pay9, k0_pay10, k0_pay11, dy, err, rt, dn, back, RmsBack.back, RmsBack.root]
  blk_point [iblk, idx t]

theorem final6 (c : Dev nD) : (dats m 0 c).arrAt 6 cfg0.N = (back (dn (m ((c : Thread nD τ).loc main_arg0)) (m ((c : Thread nD τ).loc main_arg1))) (dy (dn (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg4)) : FVec Ideal S8192x1024 .bf16) := by
  refine (dats m 0 c).arrAt_eq_of_covers 6 _ (by decide +kernel) fun t _ y => ?_
  blk_simp
  rw [after0_6]
  by_cases h : t.val % 16 = 0
  · rw [outsAt0_A m c t h]; frame_out
    exact point6 m c t y
  · rw [outsAt0_B m c t h]; frame_out
    exact point6 m c t y

theorem zero7 (j) : k0_pay4 (F := Ideal) j = 0 := by pointwise [k0_pay4]
theorem zero8 (j) : k0_pay5 (F := Ideal) j = 0 := by pointwise [k0_pay5]

/-- One step adds the sums over a block of 512 rows. -/
theorem step7 (a : FVec Ideal S512x1024 .f32) (acc : FVec Ideal S1x1024 .f32) (j) : k0_pay2 a acc j = acc j + ∑ k : Fin 512, a (ix2 k (j 1)) * a (ix2 k (j 1)) := by
  pointwise [k0_pay2]
theorem step8 (a b : FVec Ideal S512x1024 .f32) (acc : FVec Ideal S1x1024 .f32) (j) : k0_pay3 a b acc j = acc j + ∑ k : Fin 512, a (ix2 k (j 1)) * b (ix2 k (j 1)) := by
  pointwise [k0_pay3]

theorem final7 (c : Dev nD) : (dats m 0 c).arrAt 7 cfg0.N = sq (err (dn (m ((c : Thread nD τ).loc main_arg0)) (m ((c : Thread nD τ).loc main_arg1))) (m ((c : Thread nD τ).loc main_arg2)) (m ((c : Thread nD τ).loc main_arg3)) (m ((c : Thread nD τ).loc main_arg4))) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0) _
    (fun t h j => by rw [outsAt0_A m c t h]; frame_out; rw [step7, zero7])
    (fun t h j => by rw [outsAt0_B m c t h]; frame_out; rw [step7])
    t ((flush0_7 t).mp hf) _, zero_add]
  unfold sq
  refine Fin.sum_mul_add_congr fun s k hl => ?_
  pointwise [k0_pay7, k0_pay6, err, dn, rt, RmsBack.root]
  blk_point [iblk, idx t, idx ⟨_, Pipeline.run_point_lt_of_flush t ((flush0_7 t).mp hf) s⟩]

theorem final8 (c : Dev nD) : (dats m 0 c).arrAt 8 cfg0.N = dgain (dy (dn (m ((c : Thread nD τ).loc main_arg0)) (m ((c : Thread nD τ).loc main_arg1))) (m ((c : Thread nD τ).loc main_arg2)) (m ((c : Thread nD τ).loc main_arg3)) (m ((c : Thread nD τ).loc main_arg4))) (dn (m ((c : Thread nD τ).loc main_arg0)) (m ((c : Thread nD τ).loc main_arg1))) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0) _
    (fun t h j => by rw [outsAt0_A m c t h]; frame_out; rw [step8, zero8])
    (fun t h j => by rw [outsAt0_B m c t h]; frame_out; rw [step8])
    t ((flush0_8 t).mp hf) _, zero_add]
  unfold dgain
  refine Fin.sum_mul_add_congr fun s k hl => ?_
  pointwise [k0_pay8, k0_pay7, k0_pay6, k0_pay9, k0_pay10, dy, err, dn, rt, RmsBack.root]
  blk_point [iblk, idx t, idx ⟨_, Pipeline.run_point_lt_of_flush t ((flush0_8 t).mp hf) s⟩]

end Cert.LossFinal

end
-- ==== Proof.LossEq.lean ====
module

public import proofs.«01_k».proof.Proof.LossValue

/-! The reference's loss and gradients are the kernel's. -/

@[expose] public section

set_option maxRecDepth 16384

noncomputable section

namespace Cert.LossFinal

open Idealize.ShloMosaic Idealize.ShloMosaic.TcCoe Idealize.SL.Sem
open Cert.LossIdeal

/-- The three terms that the derivative of `rsqrt` gives are the kernel's one. -/
theorem back_eq (x u : Fin 1024 → EReal) (j : Fin 1024) :
    u j * RmsBack.root (Ideal.ofBits .f32 0x44800000#32) (Ideal.ofBits .f32 0x358637BD#32) x + x j * RmsBack.slope (Ideal.ofBits .f32 0x44800000#32) (Ideal.ofBits .f32 0x358637BD#32) (Ideal.ofBits .f32 0xBF000000#32) x u
      + RmsBack.slope (Ideal.ofBits .f32 0x44800000#32) (Ideal.ofBits .f32 0x358637BD#32) (Ideal.ofBits .f32 0xBF000000#32) x u * x j = RmsBack.back (Ideal.ofBits .f32 0x44800000#32) (Ideal.ofBits .f32 0x358637BD#32) x u j := by
  obtain ⟨e, he, h⟩ := RmsBack.ofBits_eps
  rw [RmsBack.ofBits_1024, RmsBack.ofBits_neg_half, h, RmsBack.back_eq (by norm_num) he, add_assoc]

theorem back_add (x u : Fin 1024 → EReal) (j : Fin 1024) (y : EReal) :
    y + u j * RmsBack.root (Ideal.ofBits .f32 0x44800000#32) (Ideal.ofBits .f32 0x358637BD#32) x + x j * RmsBack.slope (Ideal.ofBits .f32 0x44800000#32) (Ideal.ofBits .f32 0x358637BD#32) (Ideal.ofBits .f32 0xBF000000#32) x u
      + RmsBack.slope (Ideal.ofBits .f32 0x44800000#32) (Ideal.ofBits .f32 0x358637BD#32) (Ideal.ofBits .f32 0xBF000000#32) x u * x j = y + RmsBack.back (Ideal.ofBits .f32 0x44800000#32) (Ideal.ofBits .f32 0x358637BD#32) x u j := by
  rw [← back_eq, add_assoc, add_assoc, ← add_assoc (u j * _)]

theorem dn_eq (a : FVec Ideal S8192x4096 .f32) (w : FVec Ideal S4096x1024 .f32) : dn a w = Cert.LossRefIdeal.Read.val_main_v0 (F := Ideal) a w := by
  funext i
  pointwise [dn, Cert.LossRefIdeal.Read.val_main_v0]

theorem err_eq (a : FVec Ideal S8192x4096 .f32) (w : FVec Ideal S4096x1024 .f32) (h : FVec Ideal S8192x1024 .f32) (y : FVec Ideal S8192x1024 .f32) (g : FVec Ideal S1x1024 .f32) : err (dn a w) h y g = Cert.LossRefIdeal.Read.val_main_v17 (F := Ideal) a w h y g := by
  rw [dn_eq]
  funext i
  pointwise [err, rt, RmsBack.root, Cert.LossRefIdeal.Read.val_main_v17, Cert.LossRefIdeal.Read.val_main_v16, Cert.LossRefIdeal.Read.val_main_v15, Cert.LossRefIdeal.Read.val_main_v13, Cert.LossRefIdeal.Read.val_main_v12, Cert.LossRefIdeal.Read.val_main_v8, Cert.LossRefIdeal.Read.val_main_v7, Cert.LossRefIdeal.Read.val_main_v5, Cert.LossRefIdeal.Read.val_main_v3, Cert.LossRefIdeal.Read.val_main_v2, Cert.LossRefIdeal.Read.val_main_v1, Cert.LossRefIdeal.Read.val_main_cst, Cert.LossRefIdeal.Read.val_main_v4, Cert.LossRefIdeal.Read.val_main_cst_0, Cert.LossRefIdeal.Read.val_main_v6, Cert.LossRefIdeal.Read.val_main_cst_1, Cert.LossRefIdeal.Read.val_main_v14]

/-- Half of the square's derivative, over the row's length, is one product. -/
theorem half (e : EReal) : e * Ideal.ofBits .f32 0x3A800000#32
    = Ideal.div (Ideal.ofBits .f32 0x3F000000#32 * 1) (Ideal.ofBits .f32 0x44800000#32) * (Ideal.ofBits .f32 0x40000000#32 * e) := by
  rw [RmsBack.ofBits_inv_1024, RmsBack.ofBits_half, RmsBack.ofBits_1024, RmsBack.ofBits_two, mul_one,
    Scalars.div_coe _ (by norm_num), ← mul_assoc, ← EReal.coe_mul, mul_comm]
  norm_num

theorem eq5 (a : FVec Ideal S8192x4096 .f32) (w : FVec Ideal S4096x1024 .f32) (h : FVec Ideal S8192x1024 .f32) (y : FVec Ideal S8192x1024 .f32) (g : FVec Ideal S1x1024 .f32) : dy (dn a w) h y g = Cert.LossRefIdeal.Read.val_main_v36 (F := Ideal) a w h y g := by
  unfold dy
  rw [err_eq]
  funext i
  refine (half _).trans ?_
  pointwise [Cert.LossRefIdeal.Read.val_main_v36, Cert.LossRefIdeal.Read.val_main_v35, Cert.LossRefIdeal.Read.val_main_v34, Cert.LossRefIdeal.Read.val_main_v32, Cert.LossRefIdeal.Read.val_main_v31, Cert.LossRefIdeal.Read.val_main_cst_10, Cert.LossRefIdeal.Read.val_main_cst_11, Cert.LossRefIdeal.Read.val_main_v33, Cert.LossRefIdeal.Read.val_main_cst_12, Cert.LossRefIdeal.Read.val_main_v20, Cert.LossRefIdeal.Read.val_main_v19, Cert.LossRefIdeal.Read.val_main_cst_3]

theorem eq7 (a : FVec Ideal S8192x4096 .f32) (w : FVec Ideal S4096x1024 .f32) (h : FVec Ideal S8192x1024 .f32) (y : FVec Ideal S8192x1024 .f32) (g : FVec Ideal S1x1024 .f32) : sq (err (dn a w) h y g) = Cert.LossRefIdeal.Read.val_main_v30 (F := Ideal) a w h y g := by
  rw [err_eq]
  funext i
  pointwise [sq, Cert.LossRefIdeal.Read.val_main_v30, Cert.LossRefIdeal.Read.val_main_v29, Cert.LossRefIdeal.Read.val_main_v26, Cert.LossRefIdeal.Read.val_main_cst_9]

theorem eq6 (a : FVec Ideal S8192x4096 .f32) (w : FVec Ideal S4096x1024 .f32) (h : FVec Ideal S8192x1024 .f32) (y : FVec Ideal S8192x1024 .f32) (g : FVec Ideal S1x1024 .f32) : back (dn a w) (dy (dn a w) h y g) g = Cert.LossRefIdeal.Read.val_main_v56 (F := Ideal) a w h y g := by
  rw [eq5, dn_eq]
  funext i
  refine (back_eq _ _ (i 1)).symm.trans ?_
  pointwise [RmsBack.slope, RmsBack.root, Cert.LossRefIdeal.Read.val_main_v56, Cert.LossRefIdeal.Read.val_main_v55, Cert.LossRefIdeal.Read.val_main_v53, Cert.LossRefIdeal.Read.val_main_v46, Cert.LossRefIdeal.Read.val_main_v41, Cert.LossRefIdeal.Read.val_main_v40, Cert.LossRefIdeal.Read.val_main_v45, Cert.LossRefIdeal.Read.val_main_v8, Cert.LossRefIdeal.Read.val_main_v7, Cert.LossRefIdeal.Read.val_main_v5, Cert.LossRefIdeal.Read.val_main_v3, Cert.LossRefIdeal.Read.val_main_v2, Cert.LossRefIdeal.Read.val_main_v1, Cert.LossRefIdeal.Read.val_main_cst, Cert.LossRefIdeal.Read.val_main_v4, Cert.LossRefIdeal.Read.val_main_cst_0, Cert.LossRefIdeal.Read.val_main_v6, Cert.LossRefIdeal.Read.val_main_cst_1, Cert.LossRefIdeal.Read.val_main_v52, Cert.LossRefIdeal.Read.val_main_v51, Cert.LossRefIdeal.Read.val_main_v50, Cert.LossRefIdeal.Read.val_main_v49, Cert.LossRefIdeal.Read.val_main_v47, Cert.LossRefIdeal.Read.val_main_v44, Cert.LossRefIdeal.Read.val_main_v43, Cert.LossRefIdeal.Read.val_main_v42, Cert.LossRefIdeal.Read.val_main_cst_14, Cert.LossRefIdeal.Read.val_main_v11, Cert.LossRefIdeal.Read.val_main_v10, Cert.LossRefIdeal.Read.val_main_cst_2, Cert.LossRefIdeal.Read.val_main_v9, Cert.LossRefIdeal.Read.val_main_v48, Cert.LossRefIdeal.Read.val_main_cst_15, Cert.LossRefIdeal.Read.val_main_cst_16, Cert.LossRefIdeal.Read.val_main_v54]
  simp only [Fin.sum_univ_one]

theorem eq8 (a : FVec Ideal S8192x4096 .f32) (w : FVec Ideal S4096x1024 .f32) (h : FVec Ideal S8192x1024 .f32) (y : FVec Ideal S8192x1024 .f32) (g : FVec Ideal S1x1024 .f32) : dgain (dy (dn a w) h y g) (dn a w) = Cert.LossRefIdeal.Read.val_main_v39 (F := Ideal) a w h y g := by
  rw [eq5, dn_eq]
  funext i
  pointwise [dgain, rt, RmsBack.root, Cert.LossRefIdeal.Read.val_main_v39, Cert.LossRefIdeal.Read.val_main_v38, Cert.LossRefIdeal.Read.val_main_v37, Cert.LossRefIdeal.Read.val_main_v13, Cert.LossRefIdeal.Read.val_main_v12, Cert.LossRefIdeal.Read.val_main_v8, Cert.LossRefIdeal.Read.val_main_v7, Cert.LossRefIdeal.Read.val_main_v5, Cert.LossRefIdeal.Read.val_main_v3, Cert.LossRefIdeal.Read.val_main_v2, Cert.LossRefIdeal.Read.val_main_v1, Cert.LossRefIdeal.Read.val_main_cst, Cert.LossRefIdeal.Read.val_main_v4, Cert.LossRefIdeal.Read.val_main_cst_0, Cert.LossRefIdeal.Read.val_main_v6, Cert.LossRefIdeal.Read.val_main_cst_1, Cert.LossRefIdeal.Read.val_main_cst_13]
  exact Finset.sum_congr rfl fun k _ => mul_comm _ _

end Cert.LossFinal
end
-- ==== Proof.LossRun.lean ====
module

public import proofs.«01_k».proof.Proof.Gen.LossRefIdeal.Read

/-! The run of the reference of the down-projection, the loss and the gradient of its norm. -/

@[expose] public section

set_option maxRecDepth 16384

noncomputable section

namespace Cert.LossRefIdeal

open Idealize.ShloMosaic Idealize.ShloMosaic.TcCoe Idealize.SL.Sem
open Cert.LossRefIdeal Cert.LossRefIdeal.Gen

/-- What the reference leaves, by the names of its stages. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨hv30, hv36, hv56, hv39, hargs⟩ := h c
    exact ⟨hv30, hv36, hv56.trans (Read.val_main_v56_eq m c), hv39, hargs⟩) (Cert.LossRefIdeal.Value.run m ρ)

end Cert.LossRefIdeal
end
-- ==== Proof.LossClaim.lean ====
module

public import proofs.«01_k».proof.Defs
public import proofs.«01_k».proof.Proof.LossEq
public import proofs.«01_k».proof.Proof.LossRun

/-! The claims about the down-projection, the loss and the gradient of its norm. -/

@[expose] public section

set_option maxRecDepth 16384

noncomputable section

namespace Cert.LossFinal

open Idealize.ShloMosaic Idealize.ShloMosaic.TcCoe Idealize.SL.Sem

/-- The reference leaves its arguments, and it has no counters. -/
theorem quiescent_ref : Cert.quiescent_LossRefIdeal := fun m g _ =>
  (θ_run Cert.LossRefIdeal.defs _ _).mono
    (fun r h => ⟨fun c => (h c).2.2.2.2, sem_eq_zero_of_no_sems (by decide) r.2⟩)
    (Cert.LossRefIdeal.run_ref m g)

/-- Both programs leave the same results. -/
theorem algebraic : Cert.algebraic_LossIdeal_LossRefIdeal := by
  pair_intro
  · run_from Cert.LossIdeal.Value.run_blocks m g
  · run_from Cert.LossRefIdeal.run_ref m' g'
    · exact ((final7 m c).trans (eq7 _ _ _ _ _)).symm
    · exact ((final5 m c).trans (eq5 _ _ _ _ _)).symm
    · exact ((final6 m c).trans (eq6 _ _ _ _ _)).symm
    · exact ((final8 m c).trans (eq8 _ _ _ _ _)).symm

end Cert.LossFinal

end
-- ==== Proof.DInputValue.lean ====
module

public import proofs.«01_k».proof.Proof.Gen.DInputIdeal.Value
public import proofs.«01_k».proof.Proof.Gen.DInputRefIdeal.Read
public import proofs.«01_k».proof.Proof.Scalars
public import Idealize.ShloMosaic.Lib.Pipeline.ValueKit
public import Idealize.ShloMosaic.Lib.Claim
public import Idealize.ShloMosaic.Lib.StableHlo.RunRead
public import proofs.«01_k».proof.Proof.RmsBack

/-! The gradient of the input: through the input projection and the norm before it. -/

@[expose] public section

set_option maxRecDepth 16384

noncomputable section

namespace Cert.DInputFinal

open Idealize.ShloMosaic Idealize.ShloMosaic.TcCoe Idealize.SL.Sem
open Idealize.ShloMosaic.Pipeline (Dat)
open Cert.DInputIdeal Cert.DInputIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![0, 0]
    ∧ win0_8.index t = ![t.val, 0]
    ∧ win0_9.index t = ![0, 0]
    ∧ win0_10.index t = ![t.val, 0]
    ∧ win0_11.index t = ![0, 0]
    ∧ win0_12.index t = ![t.val, 0]
    ∧ win0_13.index t = ![0, 0]
    ∧ win0_14.index t = ![t.val, 0]
    ∧ win0_15.index t = ![t.val, 0]
    ∧ win0_16.index t = ![0, 0]
    ∧ win0_17.index t = ![t.val, 0]
    ∧ win0_18.index t = ![0, 0] :=
  (by decide +kernel : ∀ t : Fin grid0.N, _)

/-- A column of the weight: `n` columns from `o` on. -/
def col (o n : ℕ) (h : o + n ≤ 4616) (k : Fin n) : Fin 4616 := ⟨o + k.val, Nat.lt_of_lt_of_le (Nat.add_lt_add_left k.isLt o) h⟩

/-- A part of the projections' gradients times its columns of the weight. -/
def part {n : ℕ} (d : Fin n → EReal) (w : FVec Ideal S1024x4616 .f32) (o : ℕ) (h : o + n ≤ 4616) (j : Fin 1024) : EReal :=
  ∑ k : Fin n, d k * w (ix2 j (col o n h k))

/-- The gradient of the norm's output: the gradients of the seven projections, each times its columns of the weight. -/
def gy (z : FVec Ideal S8192x1024 .f32) (q k v : FVec Ideal S8192x512 .f32) (a b : FVec Ideal S8192x1024 .f32) (f : FVec Ideal S8192x128 .f32) (w : FVec Ideal S1024x4616 .f32) : FVec Ideal S8192x1024 .f32 := fun i =>
  part (fun l : Fin 1024 => z (ix2 (i 0) l)) w 0 (by decide) (i 1) + part (fun l : Fin 512 => q (ix2 (i 0) l)) w 1024 (by decide) (i 1)
    + part (fun l : Fin 512 => k (ix2 (i 0) l)) w 1536 (by decide) (i 1) + part (fun l : Fin 512 => v (ix2 (i 0) l)) w 2048 (by decide) (i 1)
    + part (fun l : Fin 1024 => a (ix2 (i 0) l)) w 2568 (by decide) (i 1) + part (fun l : Fin 1024 => b (ix2 (i 0) l)) w 3592 (by decide) (i 1)
    + part (fun l : Fin 8 => f (ix2 (i 0) ⟨l.val, Nat.lt_of_lt_of_le l.isLt (by decide)⟩)) w 2560 (by decide) (i 1)

/-- The reciprocal of a row's root mean square. -/
def rt (x : FVec Ideal S8192x1024 .f32) (s : Fin 8192) : EReal :=
  RmsBack.root (Ideal.ofBits .f32 0x44800000#32) (Ideal.ofBits .f32 0x358637BD#32) fun k : Fin 1024 => x (ix2 s k)

/-- The gradient of the input: what comes past the norm and what comes through it. -/
def dx (d : FVec Ideal S8192x1024 .f32) (x : FVec Ideal S8192x1024 .f32) (h : FVec Ideal S8192x1024 .f32) (g : FVec Ideal S1x1024 .f32) : FVec Ideal S8192x1024 .f32 := fun i =>
  h i + RmsBack.back (Ideal.ofBits .f32 0x44800000#32) (Ideal.ofBits .f32 0x358637BD#32) (fun k : Fin 1024 => x (ix2 (i 0) k)) (fun k => d (ix2 (i 0) k) * g (ix2 0 k)) (i 1)

/-- The gradient of the gain. -/
def dgain (d : FVec Ideal S8192x1024 .f32) (x : FVec Ideal S8192x1024 .f32) : FVec Ideal S1x1024 .f32 := fun i => ∑ s : Fin 8192, d (ix2 s (i 1)) * (x (ix2 s (i 1)) * rt x s)

/-- The integer zero, as a float. -/
theorem zero_int (φ : FTy) : (FloatOps.sitofp (F := Ideal) φ 0#32 : Ideal φ) = (0 : EReal) := by
  show (((0#32).toInt : ℝ) : EReal) = 0
  simp

theorem cols1 (c : Dev nD) (i : S1024x1024.Idx) : V m c main_v1 i = (m ((c : Thread nD τ).loc main_arg7)) (ix2 (i 0) (col 0 1024 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

theorem cols3 (c : Dev nD) (i : S1024x512.Idx) : V m c main_v2 i = (m ((c : Thread nD τ).loc main_arg7)) (ix2 (i 0) (col 1024 512 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

theorem cols5 (c : Dev nD) (i : S1024x512.Idx) : V m c main_v3 i = (m ((c : Thread nD τ).loc main_arg7)) (ix2 (i 0) (col 1536 512 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

theorem cols7 (c : Dev nD) (i : S1024x512.Idx) : V m c main_v4 i = (m ((c : Thread nD τ).loc main_arg7)) (ix2 (i 0) (col 2048 512 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

theorem cols9 (c : Dev nD) (i : S1024x1024.Idx) : V m c main_v6 i = (m ((c : Thread nD τ).loc main_arg7)) (ix2 (i 0) (col 2568 1024 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

theorem cols11 (c : Dev nD) (i : S1024x1024.Idx) : V m c main_v7 i = (m ((c : Thread nD τ).loc main_arg7)) (ix2 (i 0) (col 3592 1024 (by decide) (i 1))) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]

/-- The forget gate's columns of the weight, as the host lines pad them. -/
theorem cols13 (c : Dev nD) (i : S1024x128.Idx) : V m c main_v8 i
    = if h : (i 1).val < 8 then (m ((c : Thread nD τ).loc main_arg7)) (ix2 (i 0) (col 2560 8 (by decide) ⟨(i 1).val, h⟩)) else (0 : EReal) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise [col]
  rw [zero_int]

theorem part1 (c : Dev nD) (t : Fin cfg0.N) (s : Fin 8192) (r : Fin 512) (hs : s.val = t.val * 512 + r.val) (j : Fin 1024) :
    ∑ k : Fin 1024, (show EReal from iblk m c 0 t (ix2 r k)) * (show EReal from iblk m c 1 t (ix2 j k))
      = part (fun l : Fin 1024 => (m ((c : Thread nD τ).loc main_arg0)) (ix2 s l)) (m ((c : Thread nD τ).loc main_arg7)) 0 (by decide) j := by
  refine Finset.sum_congr rfl fun k _ => congrArg₂ (HMul.hMul : EReal → EReal → EReal) ?_ ?_
  · blk_point [iblk, idx t, hs]
  · exact Eq.trans (b := V m c main_v1 (ix2 j k)) (by blk_ext [iblk, idx t]) (cols1 m c _)

theorem part3 (c : Dev nD) (t : Fin cfg0.N) (s : Fin 8192) (r : Fin 512) (hs : s.val = t.val * 512 + r.val) (j : Fin 1024) :
    ∑ k : Fin 512, (show EReal from iblk m c 2 t (ix2 r k)) * (show EReal from iblk m c 3 t (ix2 j k))
      = part (fun l : Fin 512 => (m ((c : Thread nD τ).loc main_arg1)) (ix2 s l)) (m ((c : Thread nD τ).loc main_arg7)) 1024 (by decide) j := by
  refine Finset.sum_congr rfl fun k _ => congrArg₂ (HMul.hMul : EReal → EReal → EReal) ?_ ?_
  · blk_point [iblk, idx t, hs]
  · exact Eq.trans (b := V m c main_v2 (ix2 j k)) (by blk_ext [iblk, idx t]) (cols3 m c _)

theorem part5 (c : Dev nD) (t : Fin cfg0.N) (s : Fin 8192) (r : Fin 512) (hs : s.val = t.val * 512 + r.val) (j : Fin 1024) :
    ∑ k : Fin 512, (show EReal from iblk m c 4 t (ix2 r k)) * (show EReal from iblk m c 5 t (ix2 j k))
      = part (fun l : Fin 512 => (m ((c : Thread nD τ).loc main_arg2)) (ix2 s l)) (m ((c : Thread nD τ).loc main_arg7)) 1536 (by decide) j := by
  refine Finset.sum_congr rfl fun k _ => congrArg₂ (HMul.hMul : EReal → EReal → EReal) ?_ ?_
  · blk_point [iblk, idx t, hs]
  · exact Eq.trans (b := V m c main_v3 (ix2 j k)) (by blk_ext [iblk, idx t]) (cols5 m c _)

theorem part7 (c : Dev nD) (t : Fin cfg0.N) (s : Fin 8192) (r : Fin 512) (hs : s.val = t.val * 512 + r.val) (j : Fin 1024) :
    ∑ k : Fin 512, (show EReal from iblk m c 6 t (ix2 r k)) * (show EReal from iblk m c 7 t (ix2 j k))
      = part (fun l : Fin 512 => (m ((c : Thread nD τ).loc main_arg3)) (ix2 s l)) (m ((c : Thread nD τ).loc main_arg7)) 2048 (by decide) j := by
  refine Finset.sum_congr rfl fun k _ => congrArg₂ (HMul.hMul : EReal → EReal → EReal) ?_ ?_
  · blk_point [iblk, idx t, hs]
  · exact Eq.trans (b := V m c main_v4 (ix2 j k)) (by blk_ext [iblk, idx t]) (cols7 m c _)

theorem part9 (c : Dev nD) (t : Fin cfg0.N) (s : Fin 8192) (r : Fin 512) (hs : s.val = t.val * 512 + r.val) (j : Fin 1024) :
    ∑ k : Fin 1024, (show EReal from iblk m c 8 t (ix2 r k)) * (show EReal from iblk m c 9 t (ix2 j k))
      = part (fun l : Fin 1024 => (m ((c : Thread nD τ).loc main_arg4)) (ix2 s l)) (m ((c : Thread nD τ).loc main_arg7)) 2568 (by decide) j := by
  refine Finset.sum_congr rfl fun k _ => congrArg₂ (HMul.hMul : EReal → EReal → EReal) ?_ ?_
  · blk_point [iblk, idx t, hs]
  · exact Eq.trans (b := V m c main_v6 (ix2 j k)) (by blk_ext [iblk, idx t]) (cols9 m c _)

theorem part11 (c : Dev nD) (t : Fin cfg0.N) (s : Fin 8192) (r : Fin 512) (hs : s.val = t.val * 512 + r.val) (j : Fin 1024) :
    ∑ k : Fin 1024, (show EReal from iblk m c 10 t (ix2 r k)) * (show EReal from iblk m c 11 t (ix2 j k))
      = part (fun l : Fin 1024 => (m ((c : Thread nD τ).loc main_arg5)) (ix2 s l)) (m ((c : Thread nD τ).loc main_arg7)) 3592 (by decide) j := by
  refine Finset.sum_congr rfl fun k _ => congrArg₂ (HMul.hMul : EReal → EReal → EReal) ?_ ?_
  · blk_point [iblk, idx t, hs]
  · exact Eq.trans (b := V m c main_v7 (ix2 j k)) (by blk_ext [iblk, idx t]) (cols11 m c _)

theorem part13 (c : Dev nD) (t : Fin cfg0.N) (s : Fin 8192) (r : Fin 512) (hs : s.val = t.val * 512 + r.val) (j : Fin 1024) :
    ∑ k : Fin 128, (show EReal from iblk m c 12 t (ix2 r k)) * (show EReal from iblk m c 13 t (ix2 j k))
      = part (fun l : Fin 8 => (m ((c : Thread nD τ).loc main_arg6)) (ix2 s ⟨l.val, Nat.lt_of_lt_of_le l.isLt (by decide)⟩)) (m ((c : Thread nD τ).loc main_arg7)) 2560 (by decide) j := by
  have e (k : Fin 128) : iblk m c 13 t (ix2 j k) = if h : k.val < 8 then (m ((c : Thread nD τ).loc main_arg7)) (ix2 j (col 2560 8 (by decide) ⟨k.val, h⟩)) else (0 : EReal) :=
    Eq.trans (b := V m c main_v8 (ix2 j k)) (by blk_ext [iblk, idx t]) (cols13 m c _)
  refine (Fin.sum_univ_add (a := 8) (b := 120) (M := EReal) _).trans ((congrArg₂ (HAdd.hAdd : EReal → EReal → EReal) ?_ ?_).trans (add_zero _))
  · refine Finset.sum_congr rfl fun k _ => congrArg₂ (HMul.hMul : EReal → EReal → EReal) ?_ ((e _).trans (dif_pos k.isLt))
    blk_point [iblk, idx t, hs]
    rfl
  · refine Finset.sum_eq_zero fun k _ => ?_
    exact (congrArg (fun b : EReal => (show EReal from iblk m c 12 t (ix2 r (Fin.natAdd 8 k))) * b) ((e _).trans (dif_neg (by simp)))).trans (mul_zero _)

/-- A block of the gradient of the norm's output. -/
theorem gyb (c : Dev nD) (t : Fin cfg0.N) (s : Fin 8192) (r : Fin 512) (hs : s.val = t.val * 512 + r.val) (j : Fin 1024) :
    k0_pay6 (k0_pay4 (iblk m c 0 t) (iblk m c 1 t) (iblk m c 2 t) (iblk m c 3 t) (iblk m c 4 t) (iblk m c 5 t) (iblk m c 6 t) (iblk m c 7 t)) (k0_pay5 (iblk m c 8 t) (iblk m c 9 t)) (iblk m c 10 t) (iblk m c 11 t) (iblk m c 12 t) (iblk m c 13 t) (ix2 r j) = (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (ix2 s j) := by
  pointwise [k0_pay6, k0_pay5, k0_pay4, gy]
  exact congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal)
    (part1 m c t s r hs j) (part3 m c t s r hs j)) (part5 m c t s r hs j)) (part7 m c t s r hs j)) (part9 m c t s r hs j)) (part11 m c t s r hs j)) (part13 m c t s r hs j)

/-- What a step stores of the input's gradient, of the norm's output's gradient `k0_pay6`. -/
theorem store17 (v25 v30 : FVec Ideal S512x1024 .f32) (v32 : FVec Ideal S512x1024 .bf16) (v34 : FVec Ideal S1024x1024 .bf16) (v38 : FVec Ideal S512x128 .bf16) (v40 : FVec Ideal S1024x128 .bf16)
    (x h : FVec Ideal S512x1024 .f32) (g : FVec Ideal S1x1024 .f32) (y) :
    k0_pay1 h (k0_pay9 v25 v30 v32 v34 v38 v40 x g) y = h y + RmsBack.back (Ideal.ofBits .f32 0x44800000#32) (Ideal.ofBits .f32 0x358637BD#32)
      (fun k : Fin 1024 => x (ix2 (y 0) k)) (fun k => k0_pay6 v25 v30 v32 v34 v38 v40 (ix2 (y 0) k) * g (ix2 0 k)) (y 1) := by
  pointwise [k0_pay1, k0_pay9, k0_pay8, k0_pay7, RmsBack.back, RmsBack.root]

/-- What a step adds to the gain's gradient. -/
theorem store18 (v25 v30 : FVec Ideal S512x1024 .f32) (v32 : FVec Ideal S512x1024 .bf16) (v34 : FVec Ideal S1024x1024 .bf16) (v38 : FVec Ideal S512x128 .bf16) (v40 : FVec Ideal S1024x128 .bf16)
    (x : FVec Ideal S512x1024 .f32) (r : Fin 512) (j : Fin 1024) :
    k0_pay10 v25 v30 v32 v34 v38 v40 x (ix2 r j) = k0_pay6 v25 v30 v32 v34 v38 v40 (ix2 r j)
      * (x (ix2 r j) * RmsBack.root (Ideal.ofBits .f32 0x44800000#32) (Ideal.ofBits .f32 0x358637BD#32) fun k : Fin 1024 => x (ix2 r k)) := by
  pointwise [k0_pay10, k0_pay8, k0_pay7, RmsBack.root]

theorem point17 (c : Dev nD) (t : Fin cfg0.N) (y) :
    k0_pay1 (iblk m c 15 t) (k0_pay9 (k0_pay4 (iblk m c 0 t) (iblk m c 1 t) (iblk m c 2 t) (iblk m c 3 t) (iblk m c 4 t) (iblk m c 5 t) (iblk m c 6 t) (iblk m c 7 t)) (k0_pay5 (iblk m c 8 t) (iblk m c 9 t)) (iblk m c 10 t) (iblk m c 11 t) (iblk m c 12 t) (iblk m c 13 t) (iblk m c 14 t) (iblk m c 16 t)) y
      = dx (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) (((cfg0.win 17).blk t).view.emb y) := by
  have hs : ((((cfg0.win 17).blk t).view.emb y) 0 : ℕ) = t.val * 512 + (y 0 : ℕ) := by blk_simp [idx t]
  have e (k : Fin 1024) := gyb m c t ((((cfg0.win 17).blk t).view.emb y) 0) (y 0) hs k
  refine (store17 _ _ _ _ _ _ _ _ _ _).trans ?_
  simp only [e]
  unfold dx
  generalize (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) = d
  blk_point [iblk, idx t]

theorem final17 (c : Dev nD) : (dats m 0 c).arrAt 17 cfg0.N = dx (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) := by
  refine (dats m 0 c).arrAt_eq_of_covers 17 _ (by decide +kernel) fun t _ y => ?_
  blk_simp
  rw [after0_17]
  by_cases h : t.val % 16 = 0
  · rw [outsAt0_A m c t h]; frame_out
    exact point17 m c t y
  · rw [outsAt0_B m c t h]; frame_out
    exact point17 m c t y

end Cert.DInputFinal

end
-- ==== Proof.DInputGain.lean ====
module

public import proofs.«01_k».proof.Proof.DInputValue

/-! The gradient of the gain of the norm before the input projection. -/

@[expose] public section

set_option maxRecDepth 16384

noncomputable section

namespace Cert.DInputFinal

open Idealize.ShloMosaic Idealize.ShloMosaic.TcCoe Idealize.SL.Sem
open Idealize.ShloMosaic.Pipeline (Dat)
open Cert.DInputIdeal Cert.DInputIdeal.Gen

variable (m : (ℓ : Loc nD τ sig) → Buf (Elt Ideal) ℓ)

theorem zero18 (j) : k0_pay3 (F := Ideal) j = 0 := by pointwise [k0_pay3]

/-- One step adds the sums over a block of 512 rows. -/
theorem step18 (a : FVec Ideal S512x1024 .f32) (acc : FVec Ideal S1x1024 .f32) (j) : k0_pay2 a acc j = acc j + ∑ k : Fin 512, a (ix2 k (j 1)) := by
  pointwise [k0_pay2]

theorem row18 (c : Dev nD) (t : Fin cfg0.N) (s : Fin 8192) (r : Fin 512) (hs : s.val = t.val * 512 + r.val) (j : Fin 1024) :
    k0_pay10 (k0_pay4 (iblk m c 0 t) (iblk m c 1 t) (iblk m c 2 t) (iblk m c 3 t) (iblk m c 4 t) (iblk m c 5 t) (iblk m c 6 t) (iblk m c 7 t)) (k0_pay5 (iblk m c 8 t) (iblk m c 9 t)) (iblk m c 10 t) (iblk m c 11 t) (iblk m c 12 t) (iblk m c 13 t) (iblk m c 14 t) (ix2 r j) = (show EReal from (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (ix2 s j)) * ((show EReal from (m ((c : Thread nD τ).loc main_arg8)) (ix2 s j)) * rt (m ((c : Thread nD τ).loc main_arg8)) s) := by
  refine (store18 _ _ _ _ _ _ _ _ _).trans ?_
  rw [gyb m c t s r hs j]
  unfold rt
  have x (l : Fin 1024) : iblk m c 14 t (ix2 r l) = (m ((c : Thread nD τ).loc main_arg8)) (ix2 s l) := by blk_point [iblk, idx t, hs]
  refine congrArg (HMul.hMul (show EReal from (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (ix2 s j))) (congrArg₂ (HMul.hMul : EReal → EReal → EReal) (x j) ?_)
  exact congrArg (RmsBack.root _ _) (funext x)

/-- What a step adds to the gain's gradient, by the step. -/
def add18 (c : Dev nD) (t : Fin cfg0.N) (j : S1x1024.Idx) : EReal :=
  ∑ k : Fin 512, k0_pay10 (k0_pay4 (iblk m c 0 t) (iblk m c 1 t) (iblk m c 2 t) (iblk m c 3 t) (iblk m c 4 t) (iblk m c 5 t) (iblk m c 6 t) (iblk m c 7 t)) (k0_pay5 (iblk m c 8 t) (iblk m c 9 t)) (iblk m c 10 t) (iblk m c 11 t) (iblk m c 12 t) (iblk m c 13 t) (iblk m c 14 t) (ix2 k (j 1))

theorem first18 (c : Dev nD) (t : Fin cfg0.N) (h : t.val % 16 = 0) (j) : (outsAt0 m c t.val t.isLt).2 j = 0 + add18 m c t j := by
  rw [outsAt0_A m c t h]; frame_out; rw [step18, zero18]; rfl

theorem next18 (c : Dev nD) (t : Fin cfg0.N) (h : ¬t.val % 16 = 0) (j) :
    (outsAt0 m c t.val t.isLt).2 j = (outsAt0 m c (t.val - 1) (Nat.lt_of_le_of_lt (Nat.sub_le _ _) t.isLt)).2 j + add18 m c t j := by
  rw [outsAt0_B m c t h]; frame_out; rw [step18]; rfl

theorem final18 (c : Dev nD) : (dats m 0 c).arrAt 18 cfg0.N = dgain (gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  refine (dats m 0 c).arrAt_eq_of_covers 18 _ (by decide +kernel) fun t hf y => ?_
  blk_simp
  rw [after0_18, Pipeline.eq_sum_fin_of_reset_step_apply_of_flush (fun n h => (outsAt0 m c n h).2) 16 (fun _ => 0) (add18 m c)
    (first18 m c) (next18 m c) t ((flush0_18 t).mp hf) _, zero_add]
  unfold dgain add18
  refine Fin.sum_mul_add_congr fun s k hl => ?_
  have e : (win0_18.blk t).view.emb y 1 = (y 1 : Fin 1024) := Fin.ext (by blk_simp [idx t])
  rw [e]
  refine row18 m c ⟨16 * (t.val / 16) + s.val, Pipeline.run_point_lt_of_flush t ((flush0_18 t).mp hf) s⟩ ⟨s.val * 512 + k.val, hl⟩ k ?_ _
  have h16 : t.val < 16 := t.isLt
  show s.val * 512 + k.val = (16 * (t.val / 16) + s.val) * 512 + k.val
  omega

end Cert.DInputFinal

end
-- ==== Proof.DInputEq.lean ====
module

public import proofs.«01_k».proof.Proof.DInputGain

/-! The reference's gradient of the input, one product with all columns of the weight, is the kernel's sum of seven. -/

@[expose] public section

set_option maxRecDepth 16384

noncomputable section

namespace Cert.DInputFinal

open Idealize.ShloMosaic Idealize.ShloMosaic.TcCoe Idealize.SL.Sem
open Cert.DInputIdeal

/-- A sum over columns, cut in two. -/
theorem cut (n₁ n₂ o : ℕ) (h : o + (n₁ + n₂) ≤ 4616) (f : Fin 4616 → EReal) :
    ∑ k : Fin (n₁ + n₂), f (col o (n₁ + n₂) h k) = ∑ k : Fin n₁, f (col o n₁ (by omega) k) + ∑ k : Fin n₂, f (col (o + n₁) n₂ (by omega) k) := by
  rw [Fin.sum_univ_add]
  refine congrArg₂ (HAdd.hAdd : EReal → EReal → EReal) rfl (Finset.sum_congr rfl fun k _ => congrArg f (Fin.ext ?_))
  exact (Nat.add_assoc o n₁ k.val).symm

/-- The sum over all columns by the seven projections. -/
theorem cuts (f : Fin 4616 → EReal) : ∑ k, f k = ∑ k : Fin 1024, f (col 0 1024 (by decide) k) + (∑ k : Fin 512, f (col 1024 512 (by decide) k)
    + (∑ k : Fin 512, f (col 1536 512 (by decide) k) + (∑ k : Fin 512, f (col 2048 512 (by decide) k) + (∑ k : Fin 8, f (col 2560 8 (by decide) k)
    + (∑ k : Fin 1024, f (col 2568 1024 (by decide) k) + ∑ k : Fin 1024, f (col 3592 1024 (by decide) k)))))) := by
  refine Eq.trans (b := ∑ k : Fin (1024 + 3592), f (col 0 (1024 + 3592) (by decide) k)) (Finset.sum_congr rfl fun k _ => congrArg f (Fin.ext (Nat.zero_add _).symm)) ?_
  refine (cut 1024 3592 0 _ f).trans (congrArg _ ?_)
  refine (cut 512 3080 1024 _ f).trans (congrArg _ ?_)
  refine (cut 512 2568 1536 _ f).trans (congrArg _ ?_)
  refine (cut 512 2056 2048 _ f).trans (congrArg _ ?_)
  refine (cut 8 2048 2560 _ f).trans (congrArg _ ?_)
  exact cut 1024 1024 2568 _ f

/-- The joined gradients at a column of a projection. -/
theorem join0 (z : FVec Ideal S8192x1024 .f32) (q k v : FVec Ideal S8192x512 .f32) (a b : FVec Ideal S8192x1024 .f32) (f : FVec Ideal S8192x128 .f32) (s : Fin 8192) (l : Fin 1024) :
    Cert.DInputRefIdeal.Read.val_main_v24 (F := Ideal) z q k v a b f (ix2 s (col 0 1024 (by decide) l)) = z (ix2 s l) := by
  have hl : l.val < 1024 := l.isLt
  pointwise [Cert.DInputRefIdeal.Read.val_main_v24, Cert.DInputRefIdeal.Read.val_main_v23, col]

theorem piece0 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 1024, Cert.DInputRefIdeal.Read.val_main_v24 (F := Ideal) z q k v a b f (ix2 s (col 0 1024 (by decide) l)) * w (ix2 j (col 0 1024 (by decide) l))
      = part (fun l : Fin 1024 => z (ix2 s l)) w 0 (by decide) j :=
  Finset.sum_congr rfl fun l _ => congrArg (fun r : EReal => r * w (ix2 j (col 0 1024 (by decide) l))) (join0 z q k v a b f s l)

/-- The joined gradients at a column of a projection. -/
theorem join1 (z : FVec Ideal S8192x1024 .f32) (q k v : FVec Ideal S8192x512 .f32) (a b : FVec Ideal S8192x1024 .f32) (f : FVec Ideal S8192x128 .f32) (s : Fin 8192) (l : Fin 512) :
    Cert.DInputRefIdeal.Read.val_main_v24 (F := Ideal) z q k v a b f (ix2 s (col 1024 512 (by decide) l)) = q (ix2 s l) := by
  have hl : l.val < 512 := l.isLt
  pointwise [Cert.DInputRefIdeal.Read.val_main_v24, Cert.DInputRefIdeal.Read.val_main_v23, col]

theorem piece1 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 512, Cert.DInputRefIdeal.Read.val_main_v24 (F := Ideal) z q k v a b f (ix2 s (col 1024 512 (by decide) l)) * w (ix2 j (col 1024 512 (by decide) l))
      = part (fun l : Fin 512 => q (ix2 s l)) w 1024 (by decide) j :=
  Finset.sum_congr rfl fun l _ => congrArg (fun r : EReal => r * w (ix2 j (col 1024 512 (by decide) l))) (join1 z q k v a b f s l)

/-- The joined gradients at a column of a projection. -/
theorem join2 (z : FVec Ideal S8192x1024 .f32) (q k v : FVec Ideal S8192x512 .f32) (a b : FVec Ideal S8192x1024 .f32) (f : FVec Ideal S8192x128 .f32) (s : Fin 8192) (l : Fin 512) :
    Cert.DInputRefIdeal.Read.val_main_v24 (F := Ideal) z q k v a b f (ix2 s (col 1536 512 (by decide) l)) = k (ix2 s l) := by
  have hl : l.val < 512 := l.isLt
  pointwise [Cert.DInputRefIdeal.Read.val_main_v24, Cert.DInputRefIdeal.Read.val_main_v23, col]
  rw [dif_neg (by omega), dif_neg (by omega), dif_pos (by omega)]
  exact congrArg (fun r : Fin 512 => k (ix2 s r)) (Fin.ext (by simp only []; omega))

theorem piece2 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 512, Cert.DInputRefIdeal.Read.val_main_v24 (F := Ideal) z q k v a b f (ix2 s (col 1536 512 (by decide) l)) * w (ix2 j (col 1536 512 (by decide) l))
      = part (fun l : Fin 512 => k (ix2 s l)) w 1536 (by decide) j :=
  Finset.sum_congr rfl fun l _ => congrArg (fun r : EReal => r * w (ix2 j (col 1536 512 (by decide) l))) (join2 z q k v a b f s l)

/-- The joined gradients at a column of a projection. -/
theorem join3 (z : FVec Ideal S8192x1024 .f32) (q k v : FVec Ideal S8192x512 .f32) (a b : FVec Ideal S8192x1024 .f32) (f : FVec Ideal S8192x128 .f32) (s : Fin 8192) (l : Fin 512) :
    Cert.DInputRefIdeal.Read.val_main_v24 (F := Ideal) z q k v a b f (ix2 s (col 2048 512 (by decide) l)) = v (ix2 s l) := by
  have hl : l.val < 512 := l.isLt
  pointwise [Cert.DInputRefIdeal.Read.val_main_v24, Cert.DInputRefIdeal.Read.val_main_v23, col]
  rw [dif_neg (by omega), dif_neg (by omega), dif_neg (by omega), dif_pos (by omega)]
  exact congrArg (fun r : Fin 512 => v (ix2 s r)) (Fin.ext (by simp only []; omega))

theorem piece3 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 512, Cert.DInputRefIdeal.Read.val_main_v24 (F := Ideal) z q k v a b f (ix2 s (col 2048 512 (by decide) l)) * w (ix2 j (col 2048 512 (by decide) l))
      = part (fun l : Fin 512 => v (ix2 s l)) w 2048 (by decide) j :=
  Finset.sum_congr rfl fun l _ => congrArg (fun r : EReal => r * w (ix2 j (col 2048 512 (by decide) l))) (join3 z q k v a b f s l)

/-- The joined gradients at a column of a projection. -/
theorem join4 (z : FVec Ideal S8192x1024 .f32) (q k v : FVec Ideal S8192x512 .f32) (a b : FVec Ideal S8192x1024 .f32) (f : FVec Ideal S8192x128 .f32) (s : Fin 8192) (l : Fin 8) :
    Cert.DInputRefIdeal.Read.val_main_v24 (F := Ideal) z q k v a b f (ix2 s (col 2560 8 (by decide) l)) = f (ix2 s ⟨l.val, Nat.lt_of_lt_of_le l.isLt (by decide)⟩) := by
  have hl : l.val < 8 := l.isLt
  pointwise [Cert.DInputRefIdeal.Read.val_main_v24, Cert.DInputRefIdeal.Read.val_main_v23, col]
  rw [dif_neg (by omega), dif_neg (by omega), dif_neg (by omega), dif_neg (by omega), dif_pos (by omega)]
  exact congrArg (fun r : Fin 128 => f (ix2 s r)) (Fin.ext (by simp only []; omega))

theorem piece4 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 8, Cert.DInputRefIdeal.Read.val_main_v24 (F := Ideal) z q k v a b f (ix2 s (col 2560 8 (by decide) l)) * w (ix2 j (col 2560 8 (by decide) l))
      = part (fun l : Fin 8 => f (ix2 s ⟨l.val, Nat.lt_of_lt_of_le l.isLt (by decide)⟩)) w 2560 (by decide) j :=
  Finset.sum_congr rfl fun l _ => congrArg (fun r : EReal => r * w (ix2 j (col 2560 8 (by decide) l))) (join4 z q k v a b f s l)

/-- The joined gradients at a column of a projection. -/
theorem join5 (z : FVec Ideal S8192x1024 .f32) (q k v : FVec Ideal S8192x512 .f32) (a b : FVec Ideal S8192x1024 .f32) (f : FVec Ideal S8192x128 .f32) (s : Fin 8192) (l : Fin 1024) :
    Cert.DInputRefIdeal.Read.val_main_v24 (F := Ideal) z q k v a b f (ix2 s (col 2568 1024 (by decide) l)) = a (ix2 s l) := by
  have hl : l.val < 1024 := l.isLt
  pointwise [Cert.DInputRefIdeal.Read.val_main_v24, Cert.DInputRefIdeal.Read.val_main_v23, col]
  rw [dif_neg (by omega), dif_neg (by omega), dif_neg (by omega), dif_neg (by omega), dif_neg (by omega), dif_pos (by omega)]
  exact congrArg (fun r : Fin 1024 => a (ix2 s r)) (Fin.ext (by simp only []; omega))

theorem piece5 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 1024, Cert.DInputRefIdeal.Read.val_main_v24 (F := Ideal) z q k v a b f (ix2 s (col 2568 1024 (by decide) l)) * w (ix2 j (col 2568 1024 (by decide) l))
      = part (fun l : Fin 1024 => a (ix2 s l)) w 2568 (by decide) j :=
  Finset.sum_congr rfl fun l _ => congrArg (fun r : EReal => r * w (ix2 j (col 2568 1024 (by decide) l))) (join5 z q k v a b f s l)

/-- The joined gradients at a column of a projection. -/
theorem join6 (z : FVec Ideal S8192x1024 .f32) (q k v : FVec Ideal S8192x512 .f32) (a b : FVec Ideal S8192x1024 .f32) (f : FVec Ideal S8192x128 .f32) (s : Fin 8192) (l : Fin 1024) :
    Cert.DInputRefIdeal.Read.val_main_v24 (F := Ideal) z q k v a b f (ix2 s (col 3592 1024 (by decide) l)) = b (ix2 s l) := by
  have hl : l.val < 1024 := l.isLt
  pointwise [Cert.DInputRefIdeal.Read.val_main_v24, Cert.DInputRefIdeal.Read.val_main_v23, col]
  rw [dif_neg (by omega), dif_neg (by omega), dif_neg (by omega), dif_neg (by omega), dif_neg (by omega), dif_neg (by omega)]
  exact congrArg (fun r : Fin 1024 => b (ix2 s r)) (Fin.ext (by simp only []; omega))

theorem piece6 (z : FVec Ideal S8192x1024 .f32) (q k v : FVec Ideal S8192x512 .f32) (a b : FVec Ideal S8192x1024 .f32) (f : FVec Ideal S8192x128 .f32) (w : FVec Ideal S1024x4616 .f32) (s : Fin 8192) (j : Fin 1024) :
    ∑ l : Fin 1024, Cert.DInputRefIdeal.Read.val_main_v24 (F := Ideal) z q k v a b f (ix2 s (col 3592 1024 (by decide) l)) * w (ix2 j (col 3592 1024 (by decide) l))
      = part (fun l : Fin 1024 => b (ix2 s l)) w 3592 (by decide) j :=
  Finset.sum_congr rfl fun l _ => congrArg (fun r : EReal => r * w (ix2 j (col 3592 1024 (by decide) l))) (join6 z q k v a b f s l)

/-- Seven terms, in the order of the weight's columns and in the kernel's. -/
theorem order (z q k v a b f : EReal) : z + q + k + v + a + b + f = z + (q + (k + (v + (f + (a + b))))) := by ac_rfl

theorem gy_eq (z : FVec Ideal S8192x1024 .f32) (q k v : FVec Ideal S8192x512 .f32) (a b : FVec Ideal S8192x1024 .f32) (f : FVec Ideal S8192x128 .f32) (w : FVec Ideal S1024x4616 .f32) : gy z q k v a b f w = Cert.DInputRefIdeal.Read.val_main_v25 (F := Ideal) z q k v a b f w := by
  funext i
  have e : Cert.DInputRefIdeal.Read.val_main_v25 (F := Ideal) z q k v a b f w i = ∑ l : Fin 4616, Cert.DInputRefIdeal.Read.val_main_v24 (F := Ideal) z q k v a b f (ix2 (i 0) l) * w (ix2 (i 1) l) := by
    pointwise [Cert.DInputRefIdeal.Read.val_main_v25]
  rw [e, cuts fun l => Cert.DInputRefIdeal.Read.val_main_v24 (F := Ideal) z q k v a b f (ix2 (i 0) l) * w (ix2 (i 1) l)]
  refine Eq.trans (order _ _ _ _ _ _ _) ?_
  exact congrArg₂ (HAdd.hAdd : EReal → EReal → EReal) (piece0 z q k v a b f w (i 0) (i 1)).symm (congrArg₂ (HAdd.hAdd : EReal → EReal → EReal) (piece1 z q k v a b f w (i 0) (i 1)).symm
    (congrArg₂ (HAdd.hAdd : EReal → EReal → EReal) (piece2 z q k v a b f w (i 0) (i 1)).symm (congrArg₂ (HAdd.hAdd : EReal → EReal → EReal) (piece3 z q k v a b f w (i 0) (i 1)).symm
    (congrArg₂ (HAdd.hAdd : EReal → EReal → EReal) (piece4 z q k v a b f w (i 0) (i 1)).symm (congrArg₂ (HAdd.hAdd : EReal → EReal → EReal) (piece5 z q k v a b f w (i 0) (i 1)).symm
    (piece6 z q k v a b f w (i 0) (i 1)).symm)))))

/-- The three terms that the derivative of `rsqrt` gives are the kernel's one. -/
theorem back_add (x u : Fin 1024 → EReal) (j : Fin 1024) (y : EReal) :
    y + u j * RmsBack.root (Ideal.ofBits .f32 0x44800000#32) (Ideal.ofBits .f32 0x358637BD#32) x + x j * RmsBack.slope (Ideal.ofBits .f32 0x44800000#32) (Ideal.ofBits .f32 0x358637BD#32) (Ideal.ofBits .f32 0xBF000000#32) x u
      + RmsBack.slope (Ideal.ofBits .f32 0x44800000#32) (Ideal.ofBits .f32 0x358637BD#32) (Ideal.ofBits .f32 0xBF000000#32) x u * x j = y + RmsBack.back (Ideal.ofBits .f32 0x44800000#32) (Ideal.ofBits .f32 0x358637BD#32) x u j := by
  obtain ⟨e, he, h⟩ := RmsBack.ofBits_eps
  rw [RmsBack.ofBits_1024, RmsBack.ofBits_neg_half, h, add_assoc, add_assoc, RmsBack.back_eq (by norm_num) he]

theorem eq17 (z : FVec Ideal S8192x1024 .f32) (q k v : FVec Ideal S8192x512 .f32) (a b : FVec Ideal S8192x1024 .f32) (f : FVec Ideal S8192x128 .f32) (w : FVec Ideal S1024x4616 .f32) (x h : FVec Ideal S8192x1024 .f32) (g : FVec Ideal S1x1024 .f32) :
    dx (gy z q k v a b f w) x h g = Cert.DInputRefIdeal.Read.val_main_v45 (F := Ideal) z q k v a b f w x h g := by
  rw [gy_eq]
  funext i
  refine (back_add _ _ (i 1) (h i)).symm.trans ?_
  pointwise [RmsBack.slope, RmsBack.root, Cert.DInputRefIdeal.Read.val_main_v45, Cert.DInputRefIdeal.Read.val_main_v44, Cert.DInputRefIdeal.Read.val_main_v43, Cert.DInputRefIdeal.Read.val_main_v42, Cert.DInputRefIdeal.Read.val_main_v41, Cert.DInputRefIdeal.Read.val_main_v40, Cert.DInputRefIdeal.Read.val_main_cst_6, Cert.DInputRefIdeal.Read.val_main_v39, Cert.DInputRefIdeal.Read.val_main_v38, Cert.DInputRefIdeal.Read.val_main_cst_5, Cert.DInputRefIdeal.Read.val_main_v37, Cert.DInputRefIdeal.Read.val_main_v36, Cert.DInputRefIdeal.Read.val_main_v35, Cert.DInputRefIdeal.Read.val_main_v34, Cert.DInputRefIdeal.Read.val_main_v33, Cert.DInputRefIdeal.Read.val_main_v32, Cert.DInputRefIdeal.Read.val_main_cst_4, Cert.DInputRefIdeal.Read.val_main_v31, Cert.DInputRefIdeal.Read.val_main_v30, Cert.DInputRefIdeal.Read.val_main_v29, Cert.DInputRefIdeal.Read.val_main_v10, Cert.DInputRefIdeal.Read.val_main_v9, Cert.DInputRefIdeal.Read.val_main_cst_2, Cert.DInputRefIdeal.Read.val_main_v8, Cert.DInputRefIdeal.Read.val_main_v7, Cert.DInputRefIdeal.Read.val_main_v6, Cert.DInputRefIdeal.Read.val_main_v5, Cert.DInputRefIdeal.Read.val_main_cst_1, Cert.DInputRefIdeal.Read.val_main_v4, Cert.DInputRefIdeal.Read.val_main_v3, Cert.DInputRefIdeal.Read.val_main_cst_0, Cert.DInputRefIdeal.Read.val_main_v2, Cert.DInputRefIdeal.Read.val_main_v1, Cert.DInputRefIdeal.Read.val_main_cst, Cert.DInputRefIdeal.Read.val_main_v0]
  simp only [Fin.sum_univ_one]

theorem eq18 (z : FVec Ideal S8192x1024 .f32) (q k v : FVec Ideal S8192x512 .f32) (a b : FVec Ideal S8192x1024 .f32) (f : FVec Ideal S8192x128 .f32) (w : FVec Ideal S1024x4616 .f32) (x : FVec Ideal S8192x1024 .f32) :
    dgain (gy z q k v a b f w) x = Cert.DInputRefIdeal.Read.val_main_v28 (F := Ideal) z q k v a b f w x := by
  rw [gy_eq]
  funext i
  pointwise [dgain, rt, RmsBack.root, Cert.DInputRefIdeal.Read.val_main_v28, Cert.DInputRefIdeal.Read.val_main_v27, Cert.DInputRefIdeal.Read.val_main_cst_3, Cert.DInputRefIdeal.Read.val_main_v26, Cert.DInputRefIdeal.Read.val_main_v12, Cert.DInputRefIdeal.Read.val_main_v11, Cert.DInputRefIdeal.Read.val_main_v7, Cert.DInputRefIdeal.Read.val_main_v6, Cert.DInputRefIdeal.Read.val_main_v5, Cert.DInputRefIdeal.Read.val_main_cst_1, Cert.DInputRefIdeal.Read.val_main_v4, Cert.DInputRefIdeal.Read.val_main_v3, Cert.DInputRefIdeal.Read.val_main_cst_0, Cert.DInputRefIdeal.Read.val_main_v2, Cert.DInputRefIdeal.Read.val_main_v1, Cert.DInputRefIdeal.Read.val_main_cst, Cert.DInputRefIdeal.Read.val_main_v0]
  exact Finset.sum_congr rfl fun k _ => mul_comm _ _

end Cert.DInputFinal

end
-- ==== Proof.DInputRun.lean ====
module

public import proofs.«01_k».proof.Proof.Gen.DInputRefIdeal.Read

/-! The run of the reference of the input's gradient. -/

@[expose] public section

set_option maxRecDepth 16384

noncomputable section

namespace Cert.DInputRefIdeal

open Idealize.ShloMosaic Idealize.ShloMosaic.TcCoe Idealize.SL.Sem
open Cert.DInputRefIdeal Cert.DInputRefIdeal.Gen

/-- What the reference leaves, by the names of its stages. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v28) = Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h45, h28, hargs⟩ := h c
    exact ⟨h45.trans (Read.val_main_v45_eq m c), h28, hargs⟩) (Cert.DInputRefIdeal.Value.run m ρ)

end Cert.DInputRefIdeal

end
-- ==== Proof.DInputClaim.lean ====
module

public import proofs.«01_k».proof.Defs
public import proofs.«01_k».proof.Proof.DInputEq
public import proofs.«01_k».proof.Proof.DInputRun

/-! The claims about the gradient of the input. -/

@[expose] public section

set_option maxRecDepth 16384

noncomputable section

namespace Cert.DInputFinal

open Idealize.ShloMosaic Idealize.ShloMosaic.TcCoe Idealize.SL.Sem

/-- The reference leaves its arguments, and it has no counters. -/
theorem quiescent_ref : Cert.quiescent_DInputRefIdeal := fun m g _ =>
  (θ_run Cert.DInputRefIdeal.defs _ _).mono
    (fun r h => ⟨fun c => (h c).2.2, sem_eq_zero_of_no_sems (by decide) r.2⟩)
    (Cert.DInputRefIdeal.run_ref m g)

/-- Both programs leave the same results. -/
theorem algebraic : Cert.algebraic_DInputIdeal_DInputRefIdeal := by
  pair_intro
  · run_from Cert.DInputIdeal.Value.run_blocks m g
  · run_from Cert.DInputRefIdeal.run_ref m' g'
    · exact ((final17 m c).trans (eq17 _ _ _ _ _ _ _ _ _ _ _)).symm
    · exact ((final18 m c).trans (eq18 _ _ _ _ _ _ _ _ _)).symm

end Cert.DInputFinal

end
-- ==== Proof.DwDownValue.lean ====
module

public import proofs.«01_k».proof.Proof.Gen.DwDownIdeal.Value
public import proofs.«01_k».proof.Proof.Gen.DwDownRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of the down-projection's weight. -/

@[expose] public section

set_option maxRecDepth 16384

noncomputable section

namespace Cert.DwDownFinal

open Idealize.ShloMosaic Idealize.ShloMosaic.TcCoe Idealize.SL.Sem
open Idealize.ShloMosaic.Pipeline (Dat)
open Cert.DwDownIdeal Cert.DwDownIdeal.Gen

variable (m : (ℓ : Loc nD τ sig) → Buf (Elt Ideal) ℓ)

/-- The gradient of the weight: the product of the layer's input, transposed, with the output's gradient. -/
def dw (x : FVec Ideal S8192x4096 .f32) (d : FVec Ideal S8192x1024 .f32) : FVec Ideal S4096x1024 .f32 := fun i =>
  ∑ k : Fin 8192, x (ix2 k (i 0)) * d (ix2 k (i 1))

theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem zero_at (j) : k0_pay1 (F := Ideal) j = 0 := by pointwise [k0_pay1]

/-- One step adds the product of a block of 2048 rows. -/
theorem step_at (acc : FVec Ideal S1024x1024 .f32) (x : FVec Ideal S2048x1024 .bf16) (d : FVec Ideal S2048x1024 .bf16) (j) :
    k0_pay2 acc x d j = acc j + ∑ k : Fin 2048, x (ix2 k (j 0)) * d (ix2 k (j 1)) := by
  pointwise [k0_pay2]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add]
  unfold dw
  refine Fin.sum_mul_add_congr fun s k hl => ?_
  blk_point [iblk, idx t, idx ⟨_, Pipeline.run_point_lt_of_flush t ((flush0_2 t).mp hf) s⟩]

theorem dw_eq (x : FVec Ideal S8192x4096 .f32) (d : FVec Ideal S8192x1024 .f32) :
    dw x d = Cert.DwDownRefIdeal.Read.val_main_v3 (F := Ideal) x d := by
  funext i
  pointwise [dw, DwDownRefIdeal.Read.val_main_v3, DwDownRefIdeal.Read.val_main_v2]
  exact Finset.sum_congr rfl fun k _ => mul_comm _ _

end Cert.DwDownFinal

end
-- ==== Proof.DwDownClaim.lean ====
module

public import proofs.«01_k».proof.Defs
public import proofs.«01_k».proof.Proof.DwDownValue
public import proofs.«01_k».proof.Proof.Gen.DwDownRefIdeal.Run

/-! The claims about the gradient of the down-projection's weight. -/

@[expose] public section

set_option maxRecDepth 16384

noncomputable section

namespace Cert.DwDownFinal

open Idealize.ShloMosaic Idealize.ShloMosaic.TcCoe Idealize.SL.Sem

/-- The reference leaves its arguments, and it has no counters. -/
theorem quiescent_ref : Cert.quiescent_DwDownRefIdeal := fun m g _ =>
  (θ_run Cert.DwDownRefIdeal.defs _ _).mono
    (fun r h => ⟨fun c => (h c).2, sem_eq_zero_of_no_sems (by decide) r.2⟩)
    (Cert.DwDownRefIdeal.Value.run m g)

/-- Both programs leave the same results. -/
theorem algebraic : Cert.algebraic_DwDownIdeal_DwDownRefIdeal := by
  pair_intro
  · run_from Cert.DwDownIdeal.Value.run_blocks m g
  · run_from Cert.DwDownRefIdeal.Value.run m' g'
    exact ((final m c).trans (dw_eq _ _)).symm

end Cert.DwDownFinal

end
-- ==== Proof.DwUpValue.lean ====
module

public import proofs.«01_k».proof.Proof.Gen.DwUpIdeal.Value
public import proofs.«01_k».proof.Proof.Gen.DwUpRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of the up-projection's weight, its columns dealt to the four chips. -/

@[expose] public section

set_option maxRecDepth 16384

noncomputable section

namespace Cert.DwUpFinal

open Idealize.ShloMosaic Idealize.ShloMosaic.TcCoe Idealize.SL.Sem
open Idealize.ShloMosaic.Pipeline (Dat)
open Cert.DwUpIdeal Cert.DwUpIdeal.Gen

variable (m : (ℓ : Loc nD τ sig) → Buf (Elt Ideal) ℓ)

/-- The gradient of the weight, chip by chip: the product of the layer's input, transposed, with the output's gradient. -/
def dw (x : FVec Ideal S8192x1024 .f32) (d : FVec Ideal S8192x4096 .f32) : FVec Ideal S4x1024x1024 .f32 := fun i =>
  ∑ k : Fin 8192, x (ix2 k (i 1)) * d (ix2 k ⟨(i 0).val * 1024 + (i 2).val, by have := (i 0).isLt; have := (i 2).isLt; simp only [Matrix.cons_val] at *; omega⟩)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem zero_at (j) : k0_pay1 (F := Ideal) j = 0 := by pointwise [k0_pay1]

/-- One step adds the product of a block of 2048 rows. -/
theorem step_at (acc : FVec Ideal S1x1024x1024 .f32) (x : FVec Ideal S2048x1024 .bf16) (d : FVec Ideal S2048x1024 .bf16) (j) :
    k0_pay2 acc x d j = acc j + ∑ k : Fin 2048, x (ix2 k (j 1)) * d (ix2 k (j 2)) := by
  pointwise [k0_pay2]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add]
  unfold dw
  refine Fin.sum_mul_add_congr fun s k hl => ?_
  blk_point [iblk, idx t, idx ⟨_, Pipeline.run_point_lt_of_flush t ((flush0_2 t).mp hf) s⟩]

theorem dw_eq (x : FVec Ideal S8192x1024 .f32) (d : FVec Ideal S8192x4096 .f32) :
    dw x d = Cert.DwUpRefIdeal.Read.val_main_v5 (F := Ideal) x d := by
  funext i
  pointwise [dw, DwUpRefIdeal.Read.val_main_v5, DwUpRefIdeal.Read.val_main_v4, DwUpRefIdeal.Read.val_main_v3, DwUpRefIdeal.Read.val_main_v2]
  exact Finset.sum_congr rfl fun k _ => mul_comm _ _

end Cert.DwUpFinal

end
-- ==== Proof.DwUpClaim.lean ====
module

public import proofs.«01_k».proof.Defs
public import proofs.«01_k».proof.Proof.DwUpValue
public import proofs.«01_k».proof.Proof.Gen.DwUpRefIdeal.Run

/-! The claims about the gradient of the up-projection's weight, its columns dealt to the four chips. -/

@[expose] public section

set_option maxRecDepth 16384

noncomputable section

namespace Cert.DwUpFinal

open Idealize.ShloMosaic Idealize.ShloMosaic.TcCoe Idealize.SL.Sem

/-- The reference leaves its arguments, and it has no counters. -/
theorem quiescent_ref : Cert.quiescent_DwUpRefIdeal := fun m g _ =>
  (θ_run Cert.DwUpRefIdeal.defs _ _).mono
    (fun r h => ⟨fun c => (h c).2, sem_eq_zero_of_no_sems (by decide) r.2⟩)
    (Cert.DwUpRefIdeal.Value.run m g)

/-- Both programs leave the same results. -/
theorem algebraic : Cert.algebraic_DwUpIdeal_DwUpRefIdeal := by
  pair_intro
  · run_from Cert.DwUpIdeal.Value.run_blocks m g
  · run_from Cert.DwUpRefIdeal.Value.run m' g'
    exact ((final m c).trans (dw_eq _ _)).symm

end Cert.DwUpFinal

end
-- ==== Proof.DwOutValue.lean ====
module

public import proofs.«01_k».proof.Proof.Gen.DwOutIdeal.Value
public import proofs.«01_k».proof.Proof.Gen.DwOutRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of the output projection's weight. -/

@[expose] public section

set_option maxRecDepth 16384

noncomputable section

namespace Cert.DwOutFinal

open Idealize.ShloMosaic Idealize.ShloMosaic.TcCoe Idealize.SL.Sem
open Idealize.ShloMosaic.Pipeline (Dat)
open Cert.DwOutIdeal Cert.DwOutIdeal.Gen

variable (m : (ℓ : Loc nD τ sig) → Buf (Elt Ideal) ℓ)

/-- The gradient of the weight: the product of the layer's input, transposed, with the output's gradient. -/
def dw (x : FVec Ideal S8192x1024 .f32) (d : FVec Ideal S8192x1024 .f32) : FVec Ideal S1024x1024 .f32 := fun i =>
  ∑ k : Fin 8192, x (ix2 k (i 0)) * d (ix2 k (i 1))

theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem zero_at (j) : k0_pay1 (F := Ideal) j = 0 := by pointwise [k0_pay1]

/-- One step adds the product of a block of 2048 rows. -/
theorem step_at (acc : FVec Ideal S1024x1024 .f32) (x : FVec Ideal S2048x1024 .bf16) (d : FVec Ideal S2048x1024 .bf16) (j) :
    k0_pay2 acc x d j = acc j + ∑ k : Fin 2048, x (ix2 k (j 0)) * d (ix2 k (j 1)) := by
  pointwise [k0_pay2]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add]
  unfold dw
  refine Fin.sum_mul_add_congr fun s k hl => ?_
  blk_point [iblk, idx t, idx ⟨_, Pipeline.run_point_lt_of_flush t ((flush0_2 t).mp hf) s⟩]

theorem dw_eq (x : FVec Ideal S8192x1024 .f32) (d : FVec Ideal S8192x1024 .f32) :
    dw x d = Cert.DwOutRefIdeal.Read.val_main_v3 (F := Ideal) x d := by
  funext i
  pointwise [dw, DwOutRefIdeal.Read.val_main_v3, DwOutRefIdeal.Read.val_main_v2]
  exact Finset.sum_congr rfl fun k _ => mul_comm _ _

end Cert.DwOutFinal

end
-- ==== Proof.DwOutClaim.lean ====
module

public import proofs.«01_k».proof.Defs
public import proofs.«01_k».proof.Proof.DwOutValue
public import proofs.«01_k».proof.Proof.Gen.DwOutRefIdeal.Run

/-! The claims about the gradient of the output projection's weight. -/

@[expose] public section

set_option maxRecDepth 16384

noncomputable section

namespace Cert.DwOutFinal

open Idealize.ShloMosaic Idealize.ShloMosaic.TcCoe Idealize.SL.Sem

/-- The reference leaves its arguments, and it has no counters. -/
theorem quiescent_ref : Cert.quiescent_DwOutRefIdeal := fun m g _ =>
  (θ_run Cert.DwOutRefIdeal.defs _ _).mono
    (fun r h => ⟨fun c => (h c).2, sem_eq_zero_of_no_sems (by decide) r.2⟩)
    (Cert.DwOutRefIdeal.Value.run m g)

/-- Both programs leave the same results. -/
theorem algebraic : Cert.algebraic_DwOutIdeal_DwOutRefIdeal := by
  pair_intro
  · run_from Cert.DwOutIdeal.Value.run_blocks m g
  · run_from Cert.DwOutRefIdeal.Value.run m' g'
    exact ((final m c).trans (dw_eq _ _)).symm

end Cert.DwOutFinal

end
-- ==== Proof.DwBranchValue.lean ====
module

public import proofs.«01_k».proof.Proof.Gen.DwBranchIdeal.Value
public import proofs.«01_k».proof.Proof.Gen.DwBranchRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of a branch's weight. -/

@[expose] public section

set_option maxRecDepth 16384

noncomputable section

namespace Cert.DwBranchFinal

open Idealize.ShloMosaic Idealize.ShloMosaic.TcCoe Idealize.SL.Sem
open Idealize.ShloMosaic.Pipeline (Dat)
open Cert.DwBranchIdeal Cert.DwBranchIdeal.Gen

variable (m : (ℓ : Loc nD τ sig) → Buf (Elt Ideal) ℓ)

/-- The gradient of the weight: the product of the layer's input, transposed, with the output's gradient. -/
def dw (x : FVec Ideal S8192x512 .f32) (d : FVec Ideal S8192x1024 .f32) : FVec Ideal S512x1024 .f32 := fun i =>
  ∑ k : Fin 8192, x (ix2 k (i 0)) * d (ix2 k (i 1))

theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem zero_at (j) : k0_pay1 (F := Ideal) j = 0 := by pointwise [k0_pay1]

/-- One step adds the product of a block of 2048 rows. -/
theorem step_at (acc : FVec Ideal S512x1024 .f32) (x : FVec Ideal S2048x512 .bf16) (d : FVec Ideal S2048x1024 .bf16) (j) :
    k0_pay2 acc x d j = acc j + ∑ k : Fin 2048, x (ix2 k (j 0)) * d (ix2 k (j 1)) := by
  pointwise [k0_pay2]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add]
  unfold dw
  refine Fin.sum_mul_add_congr fun s k hl => ?_
  blk_point [iblk, idx t, idx ⟨_, Pipeline.run_point_lt_of_flush t ((flush0_2 t).mp hf) s⟩]

theorem dw_eq (x : FVec Ideal S8192x512 .f32) (d : FVec Ideal S8192x1024 .f32) :
    dw x d = Cert.DwBranchRefIdeal.Read.val_main_v3 (F := Ideal) x d := by
  funext i
  pointwise [dw, DwBranchRefIdeal.Read.val_main_v3, DwBranchRefIdeal.Read.val_main_v2]
  exact Finset.sum_congr rfl fun k _ => mul_comm _ _

end Cert.DwBranchFinal

end
-- ==== Proof.DwBranchClaim.lean ====
module

public import proofs.«01_k».proof.Defs
public import proofs.«01_k».proof.Proof.DwBranchValue
public import proofs.«01_k».proof.Proof.Gen.DwBranchRefIdeal.Run

/-! The claims about the gradient of a branch's weight. -/

@[expose] public section

set_option maxRecDepth 16384

noncomputable section

namespace Cert.DwBranchFinal

open Idealize.ShloMosaic Idealize.ShloMosaic.TcCoe Idealize.SL.Sem

/-- The reference leaves its arguments, and it has no counters. -/
theorem quiescent_ref : Cert.quiescent_DwBranchRefIdeal := fun m g _ =>
  (θ_run Cert.DwBranchRefIdeal.defs _ _).mono
    (fun r h => ⟨fun c => (h c).2, sem_eq_zero_of_no_sems (by decide) r.2⟩)
    (Cert.DwBranchRefIdeal.Value.run m g)

/-- Both programs leave the same results. -/
theorem algebraic : Cert.algebraic_DwBranchIdeal_DwBranchRefIdeal := by
  pair_intro
  · run_from Cert.DwBranchIdeal.Value.run_blocks m g
  · run_from Cert.DwBranchRefIdeal.Value.run m' g'
    exact ((final m c).trans (dw_eq _ _)).symm

end Cert.DwBranchFinal

end
-- ==== Proof.DwMixValue.lean ====
module

public import proofs.«01_k».proof.Proof.Gen.DwMixIdeal.Value
public import proofs.«01_k».proof.Proof.Gen.DwMixRefIdeal.Read
public import proofs.«01_k».proof.Proof.Scalars
public import Idealize.ShloMosaic.Lib.Pipeline.ValueKit
public import Idealize.ShloMosaic.Lib.Claim
public import Idealize.ShloMosaic.Lib.StableHlo.RunRead

/-! The gradients of the five weights of the input projection that feed the two branches. -/

@[expose] public section

set_option maxRecDepth 16384

noncomputable section

namespace Cert.DwMixFinal

open Idealize.ShloMosaic Idealize.ShloMosaic.TcCoe Idealize.SL.Sem
open Idealize.ShloMosaic.Pipeline (Dat)
open Cert.DwMixIdeal Cert.DwMixIdeal.Gen

variable (m : (ℓ : Loc nD τ sig) → Buf (Elt Ideal) ℓ)

/-- The gradient of a weight `n` wide: the product of the layer's input, transposed, with the output's gradient. -/
def dw {n : ℕ} (x : FVec Ideal S8192x1024 .f32) (d : FVec Ideal ⟨2, ![8192, n]⟩ .f32) : FVec Ideal ⟨2, ![1024, n]⟩ .f32 := fun i =>
  ∑ k : Fin 8192, x (ix2 k (i 0)) * d (ix2 k (i 1))

theorem idx : ∀ t : Fin cfg0.N, win0_0.index t = ![t.val % 8, t.val / 8]
    ∧ win0_1.index t = ![t.val % 8, 0]
    ∧ win0_2.index t = ![t.val % 8, 0]
    ∧ win0_3.index t = ![t.val % 8, 0]
    ∧ win0_4.index t = ![t.val % 8, 0]
    ∧ win0_5.index t = ![t.val % 8, 0]
    ∧ win0_6.index t = ![t.val / 8, 0]
    ∧ win0_7.index t = ![t.val / 8, 0]
    ∧ win0_8.index t = ![t.val / 8, 0]
    ∧ win0_9.index t = ![t.val / 8, 0]
    ∧ win0_10.index t = ![t.val / 8, 0] :=
  (by decide +kernel : ∀ t : Fin grid0.N, _)

theorem zero_at1 (j) : k0_pay3 (F := Ideal) j = 0 := by pointwise [k0_pay3]

theorem step_at1 (acc : FVec Ideal S1024x1024 .f32) (x : FVec Ideal S1024x1024 .bf16) (d : FVec Ideal S1024x1024 .bf16) (j) :
    k0_pay9 x acc d j = acc j + ∑ k : Fin 1024, x (ix2 k (j 0)) * d (ix2 k (j 1)) := by
  pointwise [k0_pay9, k0_pay8]

theorem final1 (c : Dev nD) : (dats m 0 c).arrAt 6 cfg0.N = dw (m ((c : Thread nD τ).loc main_arg0)) (m ((c : Thread nD τ).loc main_arg1)) := by
  refine (dats m 0 c).arrAt_eq_of_covers 6 _ (by decide +kernel) fun t hf y => ?_
  blk_simp
  rw [after0_6, Pipeline.eq_sum_fin_of_reset_step_apply_of_flush (fun n h => (outsAt0 m c n h).1) 8 (fun _ => 0) _
    (fun t h j => by rw [outsAt0_A m c t h]; frame_out; rw [step_at1, zero_at1])
    (fun t h j => by rw [outsAt0_B m c t h]; frame_out; rw [step_at1])
    t ((flush0_6 t).mp hf) _, zero_add]
  unfold dw
  refine Fin.sum_mul_add_congr fun s k hl => ?_
  blk_point [iblk, idx t, idx ⟨_, Pipeline.run_point_lt_of_flush t ((flush0_6 t).mp hf) s⟩]

theorem zero_at2 (j) : k0_pay4 (F := Ideal) j = 0 := by pointwise [k0_pay4]

theorem step_at2 (acc : FVec Ideal S1024x512 .f32) (x : FVec Ideal S1024x1024 .bf16) (d : FVec Ideal S1024x512 .bf16) (j) :
    k0_pay10 x acc d j = acc j + ∑ k : Fin 1024, x (ix2 k (j 0)) * d (ix2 k (j 1)) := by
  pointwise [k0_pay10, k0_pay8]

theorem final2 (c : Dev nD) : (dats m 0 c).arrAt 7 cfg0.N = dw (m ((c : Thread nD τ).loc main_arg0)) (m ((c : Thread nD τ).loc main_arg2)) := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0) _
    (fun t h j => by rw [outsAt0_A m c t h]; frame_out; rw [step_at2, zero_at2])
    (fun t h j => by rw [outsAt0_B m c t h]; frame_out; rw [step_at2])
    t ((flush0_7 t).mp hf) _, zero_add]
  unfold dw
  refine Fin.sum_mul_add_congr fun s k hl => ?_
  blk_point [iblk, idx t, idx ⟨_, Pipeline.run_point_lt_of_flush t ((flush0_7 t).mp hf) s⟩]

theorem zero_at3 (j) : k0_pay5 (F := Ideal) j = 0 := by pointwise [k0_pay5]

theorem step_at3 (acc : FVec Ideal S1024x512 .f32) (x : FVec Ideal S1024x1024 .bf16) (d : FVec Ideal S1024x512 .bf16) (j) :
    k0_pay11 x acc d j = acc j + ∑ k : Fin 1024, x (ix2 k (j 0)) * d (ix2 k (j 1)) := by
  pointwise [k0_pay11, k0_pay8]

theorem final3 (c : Dev nD) : (dats m 0 c).arrAt 8 cfg0.N = dw (m ((c : Thread nD τ).loc main_arg0)) (m ((c : Thread nD τ).loc main_arg3)) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0) _
    (fun t h j => by rw [outsAt0_A m c t h]; frame_out; rw [step_at3, zero_at3])
    (fun t h j => by rw [outsAt0_B m c t h]; frame_out; rw [step_at3])
    t ((flush0_8 t).mp hf) _, zero_add]
  unfold dw
  refine Fin.sum_mul_add_congr fun s k hl => ?_
  blk_point [iblk, idx t, idx ⟨_, Pipeline.run_point_lt_of_flush t ((flush0_8 t).mp hf) s⟩]

theorem zero_at4 (j) : k0_pay6 (F := Ideal) j = 0 := by pointwise [k0_pay6]

theorem step_at4 (acc : FVec Ideal S1024x512 .f32) (x : FVec Ideal S1024x1024 .bf16) (d : FVec Ideal S1024x512 .bf16) (j) :
    k0_pay1 (k0_pay8 x) (k0_pay12 acc) d j = acc j + ∑ k : Fin 1024, x (ix2 k (j 0)) * d (ix2 k (j 1)) := by
  pointwise [k0_pay1, k0_pay8, k0_pay12]

theorem final4 (c : Dev nD) : (dats m 0 c).arrAt 9 cfg0.N = dw (m ((c : Thread nD τ).loc main_arg0)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 8 (fun _ => 0) _
    (fun t h j => by rw [outsAt0_A m c t h]; frame_out; rw [step_at4, zero_at4])
    (fun t h j => by rw [outsAt0_B m c t h]; frame_out; rw [step_at4])
    t ((flush0_9 t).mp hf) _, zero_add]
  unfold dw
  refine Fin.sum_mul_add_congr fun s k hl => ?_
  blk_point [iblk, idx t, idx ⟨_, Pipeline.run_point_lt_of_flush t ((flush0_9 t).mp hf) s⟩]

theorem zero_at5 (j) : k0_pay7 (F := Ideal) j = 0 := by pointwise [k0_pay7]

theorem step_at5 (acc : FVec Ideal S1024x128 .f32) (x : FVec Ideal S1024x1024 .bf16) (d : FVec Ideal S1024x128 .bf16) (j) :
    k0_pay2 (k0_pay8 x) acc d j = acc j + ∑ k : Fin 1024, x (ix2 k (j 0)) * d (ix2 k (j 1)) := by
  pointwise [k0_pay2, k0_pay8]

theorem final5 (c : Dev nD) : (dats m 0 c).arrAt 10 cfg0.N = dw (m ((c : Thread nD τ).loc main_arg0)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 8 (fun _ => 0) _
    (fun t h j => by rw [outsAt0_A m c t h]; frame_out; rw [step_at5, zero_at5])
    (fun t h j => by rw [outsAt0_B m c t h]; frame_out; rw [step_at5])
    t ((flush0_10 t).mp hf) _, zero_add]
  unfold dw
  refine Fin.sum_mul_add_congr fun s k hl => ?_
  blk_point [iblk, idx t, idx ⟨_, Pipeline.run_point_lt_of_flush t ((flush0_10 t).mp hf) s⟩]

theorem dw_eq1 (x : FVec Ideal S8192x1024 .f32) (d : FVec Ideal S8192x1024 .f32) :
    dw x d = Cert.DwMixRefIdeal.Read.val_main_v3 (F := Ideal) x d := by
  funext i
  pointwise [dw, DwMixRefIdeal.Read.val_main_v3, DwMixRefIdeal.Read.val_main_v2]
  exact Finset.sum_congr rfl fun k _ => mul_comm _ _

theorem dw_eq2 (x : FVec Ideal S8192x1024 .f32) (d : FVec Ideal S8192x512 .f32) :
    dw x d = Cert.DwMixRefIdeal.Read.val_main_v7 (F := Ideal) x d := by
  funext i
  pointwise [dw, DwMixRefIdeal.Read.val_main_v7, DwMixRefIdeal.Read.val_main_v6]
  exact Finset.sum_congr rfl fun k _ => mul_comm _ _

theorem dw_eq3 (x : FVec Ideal S8192x1024 .f32) (d : FVec Ideal S8192x512 .f32) :
    dw x d = Cert.DwMixRefIdeal.Read.val_main_v11 (F := Ideal) x d := by
  funext i
  pointwise [dw, DwMixRefIdeal.Read.val_main_v11, DwMixRefIdeal.Read.val_main_v10]
  exact Finset.sum_congr rfl fun k _ => mul_comm _ _

theorem dw_eq4 (x : FVec Ideal S8192x1024 .f32) (d : FVec Ideal S8192x512 .f32) :
    dw x d = Cert.DwMixRefIdeal.Read.val_main_v15 (F := Ideal) x d := by
  funext i
  pointwise [dw, DwMixRefIdeal.Read.val_main_v15, DwMixRefIdeal.Read.val_main_v14]
  exact Finset.sum_congr rfl fun k _ => mul_comm _ _

theorem dw_eq5 (x : FVec Ideal S8192x1024 .f32) (d : FVec Ideal S8192x128 .f32) :
    dw x d = Cert.DwMixRefIdeal.Read.val_main_v19 (F := Ideal) x d := by
  funext i
  pointwise [dw, DwMixRefIdeal.Read.val_main_v19, DwMixRefIdeal.Read.val_main_v18]
  exact Finset.sum_congr rfl fun k _ => mul_comm _ _

end Cert.DwMixFinal

end
-- ==== Proof.DwMixClaim.lean ====
module

public import proofs.«01_k».proof.Defs
public import proofs.«01_k».proof.Proof.DwMixValue
public import proofs.«01_k».proof.Proof.Gen.DwMixRefIdeal.Run

/-! The claims about the gradients of the five weights of the input projection that feed the two branches. -/

@[expose] public section

set_option maxRecDepth 16384

noncomputable section

namespace Cert.DwMixFinal

open Idealize.ShloMosaic Idealize.ShloMosaic.TcCoe Idealize.SL.Sem

/-- The reference leaves its arguments, and it has no counters. -/
theorem quiescent_ref : Cert.quiescent_DwMixRefIdeal := fun m g _ =>
  (θ_run Cert.DwMixRefIdeal.defs _ _).mono
    (fun r h => ⟨fun c => (h c).2.2.2.2.2, sem_eq_zero_of_no_sems (by decide) r.2⟩)
    (Cert.DwMixRefIdeal.Value.run m g)

/-- Both programs leave the same results. -/
theorem algebraic : Cert.algebraic_DwMixIdeal_DwMixRefIdeal := by
  pair_intro
  · run_from Cert.DwMixIdeal.Value.run_blocks m g
  · run_from Cert.DwMixRefIdeal.Value.run m' g'
    · exact ((final1 m c).trans (dw_eq1 _ _)).symm
    · exact ((final2 m c).trans (dw_eq2 _ _)).symm
    · exact ((final3 m c).trans (dw_eq3 _ _)).symm
    · exact ((final4 m c).trans (dw_eq4 _ _)).symm
    · exact ((final5 m c).trans (dw_eq5 _ _)).symm

end Cert.DwMixFinal

end
-- ==== Proof.DwGatesValue.lean ====
module

public import proofs.«01_k».proof.Proof.Gen.DwGatesIdeal.Value
public import proofs.«01_k».proof.Proof.Gen.DwGatesRefIdeal.Read
public import proofs.«01_k».proof.Proof.Scalars
public import Idealize.ShloMosaic.Lib.Pipeline.ValueKit
public import Idealize.ShloMosaic.Lib.Claim
public import Idealize.ShloMosaic.Lib.StableHlo.RunRead

/-! The gradients of the two weights of the gates. -/

@[expose] public section

set_option maxRecDepth 16384

noncomputable section

namespace Cert.DwGatesFinal

open Idealize.ShloMosaic Idealize.ShloMosaic.TcCoe Idealize.SL.Sem
open Idealize.ShloMosaic.Pipeline (Dat)
open Cert.DwGatesIdeal Cert.DwGatesIdeal.Gen

variable (m : (ℓ : Loc nD τ sig) → Buf (Elt Ideal) ℓ)

/-- The gradient of a weight `n` wide: the product of the layer's input, transposed, with the output's gradient. -/
def dw {n : ℕ} (x : FVec Ideal S8192x1024 .f32) (d : FVec Ideal ⟨2, ![8192, n]⟩ .f32) : FVec Ideal ⟨2, ![1024, n]⟩ .f32 := fun i =>
  ∑ k : Fin 8192, x (ix2 k (i 0)) * d (ix2 k (i 1))

theorem idx : ∀ t : Fin cfg0.N, win0_0.index t = ![t.val % 8, t.val / 8]
    ∧ win0_1.index t = ![t.val % 8, 0]
    ∧ win0_2.index t = ![t.val % 8, 0]
    ∧ win0_3.index t = ![t.val / 8, 0]
    ∧ win0_4.index t = ![t.val / 8, 0] :=
  (by decide +kernel : ∀ t : Fin grid0.N, _)

theorem zero_at1 (j) : k0_pay1 (F := Ideal) j = 0 := by pointwise [k0_pay1]

theorem step_at1 (acc : FVec Ideal S1024x1024 .f32) (x : FVec Ideal S1024x1024 .bf16) (d : FVec Ideal S1024x1024 .bf16) (j) :
    k0_pay4 x acc d j = acc j + ∑ k : Fin 1024, x (ix2 k (j 0)) * d (ix2 k (j 1)) := by
  pointwise [k0_pay4, k0_pay3]

theorem final1 (c : Dev nD) : (dats m 0 c).arrAt 3 cfg0.N = dw (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h).1) 8 (fun _ => 0) _
    (fun t h j => by rw [outsAt0_A m c t h]; frame_out; rw [step_at1, zero_at1])
    (fun t h j => by rw [outsAt0_B m c t h]; frame_out; rw [step_at1])
    t ((flush0_3 t).mp hf) _, zero_add]
  unfold dw
  refine Fin.sum_mul_add_congr fun s k hl => ?_
  blk_point [iblk, idx t, idx ⟨_, Pipeline.run_point_lt_of_flush t ((flush0_3 t).mp hf) s⟩]

theorem zero_at2 (j) : k0_pay2 (F := Ideal) j = 0 := by pointwise [k0_pay2]

theorem step_at2 (acc : FVec Ideal S1024x1024 .f32) (x : FVec Ideal S1024x1024 .bf16) (d : FVec Ideal S1024x1024 .bf16) (j) :
    k0_pay5 x acc d j = acc j + ∑ k : Fin 1024, x (ix2 k (j 0)) * d (ix2 k (j 1)) := by
  pointwise [k0_pay5, k0_pay3]

theorem final2 (c : Dev nD) : (dats m 0 c).arrAt 4 cfg0.N = dw (m ((c : Thread nD τ).loc main_arg0)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) _
    (fun t h j => by rw [outsAt0_A m c t h]; frame_out; rw [step_at2, zero_at2])
    (fun t h j => by rw [outsAt0_B m c t h]; frame_out; rw [step_at2])
    t ((flush0_4 t).mp hf) _, zero_add]
  unfold dw
  refine Fin.sum_mul_add_congr fun s k hl => ?_
  blk_point [iblk, idx t, idx ⟨_, Pipeline.run_point_lt_of_flush t ((flush0_4 t).mp hf) s⟩]

theorem dw_eq1 (x : FVec Ideal S8192x1024 .f32) (d : FVec Ideal S8192x1024 .f32) :
    dw x d = Cert.DwGatesRefIdeal.Read.val_main_v3 (F := Ideal) x d := by
  funext i
  pointwise [dw, DwGatesRefIdeal.Read.val_main_v3, DwGatesRefIdeal.Read.val_main_v2]
  exact Finset.sum_congr rfl fun k _ => mul_comm _ _

theorem dw_eq2 (x : FVec Ideal S8192x1024 .f32) (d : FVec Ideal S8192x1024 .f32) :
    dw x d = Cert.DwGatesRefIdeal.Read.val_main_v7 (F := Ideal) x d := by
  funext i
  pointwise [dw, DwGatesRefIdeal.Read.val_main_v7, DwGatesRefIdeal.Read.val_main_v6]
  exact Finset.sum_congr rfl fun k _ => mul_comm _ _

end Cert.DwGatesFinal

end
-- ==== Proof.DwGatesClaim.lean ====
module

public import proofs.«01_k».proof.Defs
public import proofs.«01_k».proof.Proof.DwGatesValue
public import proofs.«01_k».proof.Proof.Gen.DwGatesRefIdeal.Run

/-! The claims about the gradients of the two weights of the gates. -/

@[expose] public section

set_option maxRecDepth 16384

noncomputable section

namespace Cert.DwGatesFinal

open Idealize.ShloMosaic Idealize.ShloMosaic.TcCoe Idealize.SL.Sem

/-- The reference leaves its arguments, and it has no counters. -/
theorem quiescent_ref : Cert.quiescent_DwGatesRefIdeal := fun m g _ =>
  (θ_run Cert.DwGatesRefIdeal.defs _ _).mono
    (fun r h => ⟨fun c => (h c).2.2, sem_eq_zero_of_no_sems (by decide) r.2⟩)
    (Cert.DwGatesRefIdeal.Value.run m g)

/-- Both programs leave the same results. -/
theorem algebraic : Cert.algebraic_DwGatesIdeal_DwGatesRefIdeal := by
  pair_intro
  · run_from Cert.DwGatesIdeal.Value.run_blocks m g
  · run_from Cert.DwGatesRefIdeal.Value.run m' g'
    · exact ((final1 m c).trans (dw_eq1 _ _)).symm
    · exact ((final2 m c).trans (dw_eq2 _ _)).symm

end Cert.DwGatesFinal

end
-- ==== Proof.DBranchValue.lean ====
module

public import proofs.«01_k».proof.Proof.Gen.DBranchIdeal.Value
public import proofs.«01_k».proof.Proof.Gen.DBranchRefIdeal.Read
public import proofs.«01_k».proof.Proof.Scalars
public import Idealize.ShloMosaic.Lib.Pipeline.ValueKit
public import Idealize.ShloMosaic.Lib.Claim
public import Idealize.ShloMosaic.Lib.StableHlo.RunRead

/-! The gradient of a branch's output. -/

@[expose] public section

set_option maxRecDepth 16384

noncomputable section

namespace Cert.DBranchFinal

open Idealize.ShloMosaic Idealize.ShloMosaic.TcCoe Idealize.SL.Sem
open Idealize.ShloMosaic.Pipeline (Dat)
open Cert.DBranchIdeal Cert.DBranchIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] :=
  (by decide +kernel : ∀ t : Fin grid0.N, _)

/-- The gradient `da @ wᵀ`. -/
def dy (d : FVec Ideal S8192x1024 .f32) (w : FVec Ideal S512x1024 .f32) : FVec Ideal S8192x512 .f32 := fun i => ∑ k : Fin 1024, d (ix2 (i 0) k) * w (ix2 (i 1) k)

theorem point2 (c : Dev nD) (t : Fin cfg0.N) (y) : k0_pay1 (iblk m c 0 t) (iblk m c 1 t) y
    = dy (m ((c : Thread nD τ).loc main_arg0)) (m ((c : Thread nD τ).loc main_arg1)) (((cfg0.win 2).blk t).view.emb y) := by
  pointwise [k0_pay1, dy]
  blk_point [iblk, idx t]

theorem final2 (c : Dev nD) : (dats m 0 c).arrAt 2 cfg0.N = dy (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

theorem eq2 (d : FVec Ideal S8192x1024 .f32) (w : FVec Ideal S512x1024 .f32) : dy d w = Cert.DBranchRefIdeal.Read.val_main_v2 (F := Ideal) d w := by
  funext i
  pointwise [dy, DBranchRefIdeal.Read.val_main_v2]

end Cert.DBranchFinal

end
-- ==== Proof.DBranchClaim.lean ====
module

public import proofs.«01_k».proof.Defs
public import proofs.«01_k».proof.Proof.DBranchValue
public import proofs.«01_k».proof.Proof.Gen.DBranchRefIdeal.Run

/-! The claims about the gradient of a branch's output. -/

@[expose] public section

set_option maxRecDepth 16384

noncomputable section

namespace Cert.DBranchFinal

open Idealize.ShloMosaic Idealize.ShloMosaic.TcCoe Idealize.SL.Sem

/-- The reference leaves its arguments, and it has no counters. -/
theorem quiescent_ref : Cert.quiescent_DBranchRefIdeal := fun m g _ =>
  (θ_run Cert.DBranchRefIdeal.defs _ _).mono
    (fun r h => ⟨fun c => (h c).2, sem_eq_zero_of_no_sems (by decide) r.2⟩)
    (Cert.DBranchRefIdeal.Value.run m g)

/-- Both programs leave the same results. -/
theorem algebraic : Cert.algebraic_DBranchIdeal_DBranchRefIdeal := by
  pair_intro
  · run_from Cert.DBranchIdeal.Value.run_blocks m g
  · run_from Cert.DBranchRefIdeal.Value.run m' g'
    exact ((final2 m c).trans (eq2 _ _)).symm

end Cert.DBranchFinal

end
-- ==== Proof.UpValue.lean ====
module

public import proofs.«01_k».proof.Proof.Gen.UpIdeal.Value
public import proofs.«01_k».proof.Proof.Gen.UpRefIdeal.Read
public import proofs.«01_k».proof.Proof.Scalars
public import Idealize.ShloMosaic.Lib.Pipeline.ValueKit
public import Idealize.ShloMosaic.Lib.Claim
public import Idealize.ShloMosaic.Lib.StableHlo.RunRead

/-! The squared-ReLU hidden layer. -/

@[expose] public section

set_option maxRecDepth 16384

noncomputable section

namespace Cert.UpFinal

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0] :=
  (by decide +kernel : ∀ t : Fin grid0.N, _)

/-- The pre-activation, and the square of its positive part. -/
def up (x : FVec Ideal S8192x1024 .f32) (w : FVec Ideal S1024x4096 .f32) : FVec Ideal S8192x4096 .f32 := fun i => ∑ k : Fin 1024, x (ix2 (i 0) k) * w (ix2 k (i 1))
def hid (x : FVec Ideal S8192x1024 .f32) (w : FVec Ideal S1024x4096 .f32) : FVec Ideal S8192x4096 .bf16 := fun i => max (up x w i) 0 * max (up x w i) 0

theorem point2 (c : Dev nD) (t : Fin cfg0.N) (y) : k0_pay1 (iblk m c 0 t) (iblk m c 1 t) y
    = hid (m ((c : Thread nD τ).loc main_arg0)) (m ((c : Thread nD τ).loc main_arg1)) (((cfg0.win 2).blk t).view.emb y) := by
  pointwise [k0_pay1, hid, up]
  blk_point [iblk, idx t]

theorem final2 (c : Dev nD) : (dats m 0 c).arrAt 2 cfg0.N = hid (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

theorem eq2 (x : FVec Ideal S8192x1024 .f32) (w : FVec Ideal S1024x4096 .f32) : hid x w = Cert.UpRefIdeal.Read.val_main_v3 (F := Ideal) x w := by
  funext i
  pointwise [hid, up, UpRefIdeal.Read.val_main_v3, UpRefIdeal.Read.val_main_v2, UpRefIdeal.Read.val_main_v1, UpRefIdeal.Read.val_main_v0, UpRefIdeal.Read.val_main_call0_v0, UpRefIdeal.Read.val_main_call0_cst]

end Cert.UpFinal

end
-- ==== Proof.UpClaim.lean ====
module

public import proofs.«01_k».proof.Defs
public import proofs.«01_k».proof.Proof.UpValue
public import proofs.«01_k».proof.Proof.Gen.UpRefIdeal.Run

/-! The claims about the squared-ReLU hidden layer. -/

@[expose] public section

set_option maxRecDepth 16384

noncomputable section

namespace Cert.UpFinal

open Idealize.ShloMosaic Idealize.ShloMosaic.TcCoe Idealize.SL.Sem

/-- The reference leaves its arguments, and it has no counters. -/
theorem quiescent_ref : Cert.quiescent_UpRefIdeal := fun m g _ =>
  (θ_run Cert.UpRefIdeal.defs _ _).mono
    (fun r h => ⟨fun c => (h c).2, sem_eq_zero_of_no_sems (by decide) r.2⟩)
    (Cert.UpRefIdeal.Value.run m g)

/-- Both programs leave the same results. -/
theorem algebraic : Cert.algebraic_UpIdeal_UpRefIdeal := by
  pair_intro
  · run_from Cert.UpIdeal.Value.run_blocks m g
  · run_from Cert.UpRefIdeal.Value.run m' g'
    exact ((final2 m c).trans (eq2 _ _)).symm

end Cert.UpFinal

end
-- ==== Proof.ProjValue.lean ====
module

public import proofs.«01_k».proof.Proof.Gen.ProjIdeal.Value
public import proofs.«01_k».proof.Proof.Gen.ProjRefIdeal.Read
public import proofs.«01_k».proof.Proof.Scalars
public import Idealize.ShloMosaic.Lib.Pipeline.ValueKit
public import Idealize.ShloMosaic.Lib.Claim
public import Idealize.ShloMosaic.Lib.StableHlo.RunRead

/-! The input projection: the two branches' inputs, the gates' logits and the forget gate's. -/

@[expose] public section

set_option maxRecDepth 16384

noncomputable section

namespace Cert.ProjFinal

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The input of the gated branch. -/
def pz (x : FVec Ideal S8192x1024 .f32) (w : FVec Ideal S1024x4616 .f32) : FVec Ideal S8192x1024 .f32 := fun i => ∑ k : Fin 1024, x (ix2 (i 0) k) * w (ix2 k ⟨(i 1).val, Nat.lt_of_lt_of_le (i 1).isLt (by decide)⟩)

/-- Queries, keys and values. -/
def pqkv (x : FVec Ideal S8192x1024 .f32) (w : FVec Ideal S1024x4616 .f32) : FVec Ideal S8192x1536 .bf16 := fun i => ∑ k : Fin 1024, x (ix2 (i 0) k) * w (ix2 k ⟨1024 + (i 1).val, Nat.lt_of_lt_of_le (Nat.add_lt_add_left (i 1).isLt 1024) (by decide)⟩)

/-- The gates' logits. -/
def pg (x : FVec Ideal S8192x1024 .f32) (w : FVec Ideal S1024x4616 .f32) : FVec Ideal S8192x2048 .bf16 := fun i => ∑ k : Fin 1024, x (ix2 (i 0) k) * w (ix2 k ⟨2568 + (i 1).val, Nat.lt_of_lt_of_le (Nat.add_lt_add_left (i 1).isLt 2568) (by decide)⟩)

/-- The forget gate's logits, padded with zeros. -/
def pf (x : FVec Ideal S8192x1024 .f32) (w : FVec Ideal S1024x4616 .f32) : FVec Ideal S8192x128 .f32 := fun i =>
  if h : (i 1).val < 8 then ∑ k : Fin 1024, x (ix2 (i 0) k) * w (ix2 k ⟨2560 + (i 1).val, by omega⟩) else 0

/-- The integer zero, as a float. -/
theorem zero_int (φ : FTy) : (FloatOps.sitofp (F := Ideal) φ 0#32 : Ideal φ) = (0 : EReal) := by
  show (((0#32).toInt : ℝ) : EReal) = 0
  simp

/-- The columns of the weight that the host lines cut out. -/
theorem cols1 (c : Dev nD) (i : S1024x1024.Idx) : V m c main_v1 i = (m ((c : Thread nD τ).loc main_arg1)) (ix2 (i 0) ⟨(i 1).val, Nat.lt_of_lt_of_le (i 1).isLt (by decide)⟩) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise []

theorem point5 (c : Dev nD) (t : Fin cfg0.N) (y) : k0_pay2 (iblk m c 0 t) (iblk m c 1 t) y
    = pz (m ((c : Thread nD τ).loc main_arg0)) (m ((c : Thread nD τ).loc main_arg1)) (((cfg0.win 5).blk t).view.emb y) := by
  pointwise [k0_pay2, k0_pay1, pz]
  refine Finset.sum_congr rfl fun k _ => ?_
  rw [show iblk m c 1 t (ix2 k (y 1)) = V m c main_v1 (ix2 k (y 1)) from by blk_ext [iblk, idx t], cols1]
  blk_point [iblk, idx t]

theorem final5 (c : Dev nD) : (dats m 0 c).arrAt 5 cfg0.N = pz (m ((c : Thread nD τ).loc main_arg0)) (m ((c : Thread nD τ).loc main_arg1)) := by
  refine (dats m 0 c).arrAt_eq_of_covers 5 _ (by decide +kernel) fun t _ y => ?_
  blk_simp
  rw [after0_5]; frame_out
  exact point5 m c t y

/-- The columns of the weight that the host lines cut out. -/
theorem cols2 (c : Dev nD) (i : S1024x1536.Idx) : V m c main_v2 i = (m ((c : Thread nD τ).loc main_arg1)) (ix2 (i 0) ⟨1024 + (i 1).val, Nat.lt_of_lt_of_le (Nat.add_lt_add_left (i 1).isLt 1024) (by decide)⟩) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise []

theorem point6 (c : Dev nD) (t : Fin cfg0.N) (y) : k0_pay3 (iblk m c 0 t) (iblk m c 2 t) y
    = pqkv (m ((c : Thread nD τ).loc main_arg0)) (m ((c : Thread nD τ).loc main_arg1)) (((cfg0.win 6).blk t).view.emb y) := by
  pointwise [k0_pay3, k0_pay1, pqkv]
  refine Finset.sum_congr rfl fun k _ => ?_
  rw [show iblk m c 2 t (ix2 k (y 1)) = V m c main_v2 (ix2 k (y 1)) from by blk_ext [iblk, idx t], cols2]
  blk_point [iblk, idx t]

theorem final6 (c : Dev nD) : (dats m 0 c).arrAt 6 cfg0.N = pqkv (m ((c : Thread nD τ).loc main_arg0)) (m ((c : Thread nD τ).loc main_arg1)) := by
  refine (dats m 0 c).arrAt_eq_of_covers 6 _ (by decide +kernel) fun t _ y => ?_
  blk_simp
  rw [after0_6]; frame_out
  exact point6 m c t y

/-- The columns of the weight that the host lines cut out. -/
theorem cols3 (c : Dev nD) (i : S1024x2048.Idx) : V m c main_v4 i = (m ((c : Thread nD τ).loc main_arg1)) (ix2 (i 0) ⟨2568 + (i 1).val, Nat.lt_of_lt_of_le (Nat.add_lt_add_left (i 1).isLt 2568) (by decide)⟩) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise []

theorem point7 (c : Dev nD) (t : Fin cfg0.N) (y) : k0_pay4 (iblk m c 0 t) (iblk m c 3 t) y
    = pg (m ((c : Thread nD τ).loc main_arg0)) (m ((c : Thread nD τ).loc main_arg1)) (((cfg0.win 7).blk t).view.emb y) := by
  pointwise [k0_pay4, k0_pay1, pg]
  refine Finset.sum_congr rfl fun k _ => ?_
  rw [show iblk m c 3 t (ix2 k (y 1)) = V m c main_v4 (ix2 k (y 1)) from by blk_ext [iblk, idx t], cols3]
  blk_point [iblk, idx t]

theorem final7 (c : Dev nD) : (dats m 0 c).arrAt 7 cfg0.N = pg (m ((c : Thread nD τ).loc main_arg0)) (m ((c : Thread nD τ).loc main_arg1)) := by
  refine (dats m 0 c).arrAt_eq_of_covers 7 _ (by decide +kernel) fun t _ y => ?_
  blk_simp
  rw [after0_7]; frame_out
  exact point7 m c t y

/-- The forget gate's columns of the weight, as the host lines pad them. -/
theorem cols4 (c : Dev nD) (i : S1024x128.Idx) : V m c main_v5 i
    = if h : (i 1).val < 8 then (m ((c : Thread nD τ).loc main_arg1)) (ix2 (i 0) ⟨2560 + (i 1).val, by omega⟩) else (0 : EReal) := by
  unfold V hostOps0 hostOps0_1 hostOps0_2
  simp only [List.flatten_cons, List.flatten_nil, List.append_nil, List.cons_append, List.nil_append,
    StableHlo.TRef.nullary, StableHlo.TRef.unary, StableHlo.TRef.binary, StableHlo.TRef.toBuf, StableHlo.TRef.ofBuf, cast_eq]
  after_reads_simp
  pointwise []
  rw [zero_int]

theorem point8 (c : Dev nD) (t : Fin cfg0.N) (y) : k0_pay5 (iblk m c 0 t) (iblk m c 4 t) y
    = pf (m ((c : Thread nD τ).loc main_arg0)) (m ((c : Thread nD τ).loc main_arg1)) (((cfg0.win 8).blk t).view.emb y) := by
  pointwise [k0_pay5, k0_pay1, pf]
  have e (k) : iblk m c 4 t (ix2 k (y 1)) = if h : (y 1 : ℕ) < 8 then (m ((c : Thread nD τ).loc main_arg1)) (ix2 k ⟨2560 + (y 1 : ℕ), by omega⟩) else (0 : EReal) :=
    Eq.trans (b := V m c main_v5 (ix2 k (y 1))) (by blk_ext [iblk, idx t]) (cols4 m c _)
  have hy : ((((cfg0.win 8).blk t).view.emb y) 1 : ℕ) = (y 1 : ℕ) := by blk_simp [idx t]
  by_cases h : (y 1 : ℕ) < 8
  · rw [dif_pos (by exact lt_of_eq_of_lt hy h)]
    refine Finset.sum_congr rfl fun k _ => ?_
    refine congrArg₂ (HMul.hMul : EReal → EReal → EReal) ?_ ((e k).trans ((dif_pos h).trans ?_)) <;> blk_point [iblk, idx t]
  · rw [dif_neg (fun h' => h (lt_of_eq_of_lt hy.symm h'))]
    refine Finset.sum_eq_zero fun k _ => ?_
    exact (congrArg (fun b : EReal => (show EReal from iblk m c 0 t (ix2 (y 0) k)) * b) ((e k).trans (dif_neg h))).trans (mul_zero _)

theorem final8 (c : Dev nD) : (dats m 0 c).arrAt 8 cfg0.N = pf (m ((c : Thread nD τ).loc main_arg0)) (m ((c : Thread nD τ).loc main_arg1)) := by
  refine (dats m 0 c).arrAt_eq_of_covers 8 _ (by decide +kernel) fun t _ y => ?_
  blk_simp
  rw [after0_8]; frame_out
  exact point8 m c t y

theorem eq5 (x : FVec Ideal S8192x1024 .f32) (w : FVec Ideal S1024x4616 .f32) : pz x w = Cert.ProjRefIdeal.Read.val_main_v1 (F := Ideal) x w := by
  funext i
  pointwise [pz, ProjRefIdeal.Read.val_main_v1, ProjRefIdeal.Read.val_main_v0]

theorem eq6 (x : FVec Ideal S8192x1024 .f32) (w : FVec Ideal S1024x4616 .f32) : pqkv x w = Cert.ProjRefIdeal.Read.val_main_v5 (F := Ideal) x w := by
  funext i
  pointwise [pqkv, ProjRefIdeal.Read.val_main_v5, ProjRefIdeal.Read.val_main_v2, ProjRefIdeal.Read.val_main_v0]

theorem eq7 (x : FVec Ideal S8192x1024 .f32) (w : FVec Ideal S1024x4616 .f32) : pg x w = Cert.ProjRefIdeal.Read.val_main_v6 (F := Ideal) x w := by
  funext i
  pointwise [pg, ProjRefIdeal.Read.val_main_v6, ProjRefIdeal.Read.val_main_v4, ProjRefIdeal.Read.val_main_v0]

theorem eq8 (x : FVec Ideal S8192x1024 .f32) (w : FVec Ideal S1024x4616 .f32) : pf x w = Cert.ProjRefIdeal.Read.val_main_v7 (F := Ideal) x w := by
  funext i
  pointwise [pf, ProjRefIdeal.Read.val_main_v7, ProjRefIdeal.Read.val_main_v3, ProjRefIdeal.Read.val_main_v0, ProjRefIdeal.Read.val_main_call0_v0, ProjRefIdeal.Read.val_main_c]
  rw [zero_int]

end Cert.ProjFinal

end
-- ==== Proof.ProjClaim.lean ====
module

public import proofs.«01_k».proof.Defs
public import proofs.«01_k».proof.Proof.ProjValue
public import proofs.«01_k».proof.Proof.Gen.ProjRefIdeal.Run

/-! The claims about the input projection. -/

@[expose] public section

set_option maxRecDepth 16384

noncomputable section

namespace Cert.ProjFinal

open Idealize.ShloMosaic Idealize.ShloMosaic.TcCoe Idealize.SL.Sem

/-- The reference leaves its arguments, and it has no counters. -/
theorem quiescent_ref : Cert.quiescent_ProjRefIdeal := fun m g _ =>
  (θ_run Cert.ProjRefIdeal.defs _ _).mono
    (fun r h => ⟨fun c => (h c).2.2.2.2, sem_eq_zero_of_no_sems (by decide) r.2⟩)
    (Cert.ProjRefIdeal.Value.run m g)

/-- Both programs leave the same results. -/
theorem algebraic : Cert.algebraic_ProjIdeal_ProjRefIdeal := by
  pair_intro
  · run_from Cert.ProjIdeal.Value.run_blocks m g
  · run_from Cert.ProjRefIdeal.Value.run m' g'
    · exact ((final5 m c).trans (eq5 _ _)).symm
    · exact ((final6 m c).trans (eq6 _ _)).symm
    · exact ((final7 m c).trans (eq7 _ _)).symm
    · exact ((final8 m c).trans (eq8 _ _)).symm

end Cert.ProjFinal

end
-- ==== Proof.MergeValue.lean ====
module

public import proofs.«01_k».proof.Proof.Gen.MergeIdeal.Value
public import proofs.«01_k».proof.Proof.Gen.MergeRefIdeal.Read
public import proofs.«01_k».proof.Proof.Scalars
public import Idealize.ShloMosaic.Lib.Pipeline.ValueKit
public import Idealize.ShloMosaic.Lib.Claim
public import Idealize.ShloMosaic.Lib.StableHlo.RunRead

/-! The two branches and their gated sum. -/

@[expose] public section

set_option maxRecDepth 16384

noncomputable section

namespace Cert.MergeFinal

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

theorem idx : ∀ t : Fin cfg0.N, win0_0.index t = ![t.val / 2, 0]
    ∧ win0_1.index t = ![t.val / 2, 0]
    ∧ win0_2.index t = ![0, t.val % 2]
    ∧ win0_3.index t = ![0, t.val % 2]
    ∧ win0_4.index t = ![t.val / 2, t.val % 2]
    ∧ win0_5.index t = ![t.val / 2, t.val % 2 + 2]
    ∧ win0_6.index t = ![t.val / 2, t.val % 2]
    ∧ win0_7.index t = ![t.val / 2, t.val % 2]
    ∧ win0_8.index t = ![t.val / 2, t.val % 2] :=
  (by decide +kernel : ∀ t : Fin grid0.N, _)

/-- A branch's projection. -/
def br (y : FVec Ideal S8192x512 .f32) (w : FVec Ideal S512x1024 .f32) : FVec Ideal S8192x1024 .bf16 := fun i => ∑ k : Fin 512, y (ix2 (i 0) k) * w (ix2 k (i 1))

/-- The sum of the two projections, each times its gate. -/
def merged (ys : FVec Ideal S8192x512 .f32) (ya : FVec Ideal S8192x512 .f32) (ws : FVec Ideal S512x1024 .f32) (wa : FVec Ideal S512x1024 .f32) (l : FVec Ideal S8192x2048 .f32) : FVec Ideal S8192x1024 .bf16 := fun i =>
  Ideal.logistic (l (ix2 (i 0) ⟨(i 1).val, Nat.lt_of_lt_of_le (i 1).isLt (by decide)⟩)) * br ys ws i
    + Ideal.logistic (l (ix2 (i 0) ⟨1024 + (i 1).val, Nat.add_lt_add_left (i 1).isLt 1024⟩)) * br ya wa i

theorem point6 (c : Dev nD) (t : Fin cfg0.N) (y) : k0_pay3 (iblk m c 0 t) (iblk m c 2 t) y
    = br (m ((c : Thread nD τ).loc main_arg0)) (m ((c : Thread nD τ).loc main_arg2)) (((cfg0.win 6).blk t).view.emb y) := by
  pointwise [k0_pay3, k0_pay1, br]
  blk_point [iblk, idx t]

theorem final6 (c : Dev nD) : (dats m 0 c).arrAt 6 cfg0.N = br (m ((c : Thread nD τ).loc main_arg0)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay4 (iblk m c 1 t) (iblk m c 3 t) y
    = br (m ((c : Thread nD τ).loc main_arg1)) (m ((c : Thread nD τ).loc main_arg3)) (((cfg0.win 7).blk t).view.emb y) := by
  pointwise [k0_pay4, k0_pay2, br]
  blk_point [iblk, idx t]

theorem final7 (c : Dev nD) : (dats m 0 c).arrAt 7 cfg0.N = br (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem point8 (c : Dev nD) (t : Fin cfg0.N) (y) : k0_pay5 (iblk m c 0 t) (iblk m c 2 t) (iblk m c 1 t) (iblk m c 3 t) (iblk m c 4 t) (iblk m c 5 t) y
    = merged (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  pointwise [k0_pay5, k0_pay1, k0_pay2, merged, br]
  blk_point [iblk, idx t]

theorem final8 (c : Dev nD) : (dats m 0 c).arrAt 8 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  exact point8 m c t y

theorem eq6 (y : FVec Ideal S8192x512 .f32) (w : FVec Ideal S512x1024 .f32) : br y w = Cert.MergeRefIdeal.Read.val_main_v13 (F := Ideal) y w := by
  funext i
  pointwise [br, MergeRefIdeal.Read.val_main_v13, MergeRefIdeal.Read.val_main_v6]

theorem eq7 (y : FVec Ideal S8192x512 .f32) (w : FVec Ideal S512x1024 .f32) : br y w = Cert.MergeRefIdeal.Read.val_main_v14 (F := Ideal) y w := by
  funext i
  pointwise [br, MergeRefIdeal.Read.val_main_v14, MergeRefIdeal.Read.val_main_v7]

theorem eq8 (ys : FVec Ideal S8192x512 .f32) (ya : FVec Ideal S8192x512 .f32) (ws : FVec Ideal S512x1024 .f32) (wa : FVec Ideal S512x1024 .f32) (l : FVec Ideal S8192x2048 .f32) : merged ys ya ws wa l = Cert.MergeRefIdeal.Read.val_main_v15 (F := Ideal) ys ya ws wa l := by
  funext i
  pointwise [merged, br, Ideal.logistic, MergeRefIdeal.Read.val_main_v15, MergeRefIdeal.Read.val_main_v12, MergeRefIdeal.Read.val_main_v9, MergeRefIdeal.Read.val_main_v8, MergeRefIdeal.Read.val_main_v5, MergeRefIdeal.Read.val_main_v4, MergeRefIdeal.Read.val_main_cst_0, MergeRefIdeal.Read.val_main_v3, MergeRefIdeal.Read.val_main_v2, MergeRefIdeal.Read.val_main_cst, MergeRefIdeal.Read.val_main_v1, MergeRefIdeal.Read.val_main_v0, MergeRefIdeal.Read.val_main_v6, MergeRefIdeal.Read.val_main_v11, MergeRefIdeal.Read.val_main_v10, MergeRefIdeal.Read.val_main_v7]

end Cert.MergeFinal

end
-- ==== Proof.MergeClaim.lean ====
module

public import proofs.«01_k».proof.Defs
public import proofs.«01_k».proof.Proof.MergeValue
public import proofs.«01_k».proof.Proof.Gen.MergeRefIdeal.Run

/-! The claims about the two branches and their gated sum. -/

@[expose] public section

set_option maxRecDepth 16384

noncomputable section

namespace Cert.MergeFinal

open Idealize.ShloMosaic Idealize.ShloMosaic.TcCoe Idealize.SL.Sem

/-- The reference leaves its arguments, and it has no counters. -/
theorem quiescent_ref : Cert.quiescent_MergeRefIdeal := fun m g _ =>
  (θ_run Cert.MergeRefIdeal.defs _ _).mono
    (fun r h => ⟨fun c => (h c).2.2.2, sem_eq_zero_of_no_sems (by decide) r.2⟩)
    (Cert.MergeRefIdeal.Value.run m g)

/-- Both programs leave the same results. -/
theorem algebraic : Cert.algebraic_MergeIdeal_MergeRefIdeal := by
  pair_intro
  · run_from Cert.MergeIdeal.Value.run_blocks m g
  · run_from Cert.MergeRefIdeal.Value.run m' g'
    · exact ((final6 m c).trans (eq6 _ _)).symm
    · exact ((final7 m c).trans (eq7 _ _)).symm
    · exact ((final8 m c).trans (eq8 _ _ _ _ _)).symm

end Cert.MergeFinal

end
-- ==== Proof.OutValue.lean ====
module

public import proofs.«01_k».proof.Proof.Gen.OutIdeal.Value
public import proofs.«01_k».proof.Proof.Gen.OutRefIdeal.Read
public import proofs.«01_k».proof.Proof.Scalars
public import Idealize.ShloMosaic.Lib.Pipeline.ValueKit
public import Idealize.ShloMosaic.Lib.Claim
public import Idealize.ShloMosaic.Lib.StableHlo.RunRead

/-! The output projection, the residual and the two norms around it. -/

@[expose] public section

set_option maxRecDepth 16384

noncomputable section

namespace Cert.OutFinal

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![t.val, 0] :=
  (by decide +kernel : ∀ t : Fin grid0.N, _)

/-- The projection. -/
def o (a : FVec Ideal S8192x1024 .f32) (w : FVec Ideal S1024x1024 .f32) : FVec Ideal S8192x1024 .f32 := fun i => ∑ k : Fin 1024, a (ix2 (i 0) k) * w (ix2 k (i 1))

/-- A row over the root of its mean square, times the gain. -/
def norm (x : FVec Ideal S8192x1024 .f32) (g : FVec Ideal S1x1024 .f32) : FVec Ideal S8192x1024 .f32 := fun i =>
  x i * Ideal.rsqrt (Ideal.div (∑ k : Fin 1024, x (ix2 (i 0) k) * x (ix2 (i 0) k)) (Ideal.ofBits .f32 0x44800000#32) + Ideal.ofBits .f32 0x358637BD#32)
    * g (ix2 0 (i 1))

/-- The residual. -/
def h (a : FVec Ideal S8192x1024 .f32) (w : FVec Ideal S1024x1024 .f32) (x : FVec Ideal S8192x1024 .f32) (g : FVec Ideal S1x1024 .f32) : FVec Ideal S8192x1024 .f32 := fun i => x i + norm (o a w) g i

/-- The normalised residual. -/
def hn (a : FVec Ideal S8192x1024 .f32) (w : FVec Ideal S1024x1024 .f32) (x : FVec Ideal S8192x1024 .f32) (g : FVec Ideal S1x1024 .f32) (g' : FVec Ideal S1x1024 .f32) : FVec Ideal S8192x1024 .bf16 := norm (h a w x g) g'

theorem point5 (c : Dev nD) (t : Fin cfg0.N) (y) : k0_pay1 (iblk m c 0 t) (iblk m c 1 t) y
    = o (m ((c : Thread nD τ).loc main_arg0)) (m ((c : Thread nD τ).loc main_arg1)) (((cfg0.win 5).blk t).view.emb y) := by
  pointwise [k0_pay1, o]
  blk_point [iblk, idx t]

theorem final5 (c : Dev nD) : (dats m 0 c).arrAt 5 cfg0.N = o (m ((c : Thread nD τ).loc main_arg0)) (m ((c : Thread nD τ).loc main_arg1)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (iblk m c 0 t) (iblk m c 1 t) (iblk m c 2 t) (iblk m c 3 t) y
    = h (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, k0_pay1, h, norm, o]
  blk_point [iblk, idx t]

theorem final6 (c : Dev nD) : (dats m 0 c).arrAt 6 cfg0.N = h (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (iblk m c 0 t) (iblk m c 1 t) (iblk m c 2 t) (iblk m c 3 t) (iblk m c 4 t) y
    = hn (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay3, k0_pay2, k0_pay1, hn, h, norm, o]
  blk_point [iblk, idx t]

theorem final7 (c : Dev nD) : (dats m 0 c).arrAt 7 cfg0.N = hn (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point7 m c t y

theorem eq5 (a : FVec Ideal S8192x1024 .f32) (w : FVec Ideal S1024x1024 .f32) : o a w = Cert.OutRefIdeal.Read.val_main_v0 (F := Ideal) a w := by
  funext i
  pointwise [o, OutRefIdeal.Read.val_main_v0]

theorem eq6 (a : FVec Ideal S8192x1024 .f32) (w : FVec Ideal S1024x1024 .f32) (x : FVec Ideal S8192x1024 .f32) (g : FVec Ideal S1x1024 .f32) : h a w x g = Cert.OutRefIdeal.Read.val_main_v13 (F := Ideal) a w x g := by
  funext i
  pointwise [h, norm, o, OutRefIdeal.Read.val_main_v13, OutRefIdeal.Read.val_main_v12, OutRefIdeal.Read.val_main_v10, OutRefIdeal.Read.val_main_v0, OutRefIdeal.Read.val_main_v9, OutRefIdeal.Read.val_main_v8, OutRefIdeal.Read.val_main_v7, OutRefIdeal.Read.val_main_v5, OutRefIdeal.Read.val_main_v3, OutRefIdeal.Read.val_main_v2, OutRefIdeal.Read.val_main_v1, OutRefIdeal.Read.val_main_cst, OutRefIdeal.Read.val_main_v4, OutRefIdeal.Read.val_main_cst_0, OutRefIdeal.Read.val_main_v6, OutRefIdeal.Read.val_main_cst_1, OutRefIdeal.Read.val_main_v11]

theorem eq7 (a : FVec Ideal S8192x1024 .f32) (w : FVec Ideal S1024x1024 .f32) (x : FVec Ideal S8192x1024 .f32) (g : FVec Ideal S1x1024 .f32) (g' : FVec Ideal S1x1024 .f32) : hn a w x g g' = Cert.OutRefIdeal.Read.val_main_v26 (F := Ideal) a w x g g' := by
  funext i
  pointwise [hn, h, norm, o, OutRefIdeal.Read.val_main_v26, OutRefIdeal.Read.val_main_v25, OutRefIdeal.Read.val_main_v23, OutRefIdeal.Read.val_main_v13, OutRefIdeal.Read.val_main_v12, OutRefIdeal.Read.val_main_v10, OutRefIdeal.Read.val_main_v0, OutRefIdeal.Read.val_main_v9, OutRefIdeal.Read.val_main_v8, OutRefIdeal.Read.val_main_v7, OutRefIdeal.Read.val_main_v5, OutRefIdeal.Read.val_main_v3, OutRefIdeal.Read.val_main_v2, OutRefIdeal.Read.val_main_v1, OutRefIdeal.Read.val_main_cst, OutRefIdeal.Read.val_main_v4, OutRefIdeal.Read.val_main_cst_0, OutRefIdeal.Read.val_main_v6, OutRefIdeal.Read.val_main_cst_1, OutRefIdeal.Read.val_main_v11, OutRefIdeal.Read.val_main_v22, OutRefIdeal.Read.val_main_v21, OutRefIdeal.Read.val_main_v20, OutRefIdeal.Read.val_main_v18, OutRefIdeal.Read.val_main_v16, OutRefIdeal.Read.val_main_v15, OutRefIdeal.Read.val_main_v14, OutRefIdeal.Read.val_main_cst_2, OutRefIdeal.Read.val_main_v17, OutRefIdeal.Read.val_main_cst_3, OutRefIdeal.Read.val_main_v19, OutRefIdeal.Read.val_main_cst_4, OutRefIdeal.Read.val_main_v24]

end Cert.OutFinal

end
-- ==== Proof.OutClaim.lean ====
module

public import proofs.«01_k».proof.Defs
public import proofs.«01_k».proof.Proof.OutValue
public import proofs.«01_k».proof.Proof.Gen.OutRefIdeal.Run

/-! The claims about the output projection and the norms around the residual. -/

@[expose] public section

set_option maxRecDepth 16384

noncomputable section

namespace Cert.OutFinal

open Idealize.ShloMosaic Idealize.ShloMosaic.TcCoe Idealize.SL.Sem

/-- The reference leaves its arguments, and it has no counters. -/
theorem quiescent_ref : Cert.quiescent_OutRefIdeal := fun m g _ =>
  (θ_run Cert.OutRefIdeal.defs _ _).mono
    (fun r h => ⟨fun c => (h c).2.2.2, sem_eq_zero_of_no_sems (by decide) r.2⟩)
    (Cert.OutRefIdeal.Value.run m g)

/-- Both programs leave the same results. -/
theorem algebraic : Cert.algebraic_OutIdeal_OutRefIdeal := by
  pair_intro
  · run_from Cert.OutIdeal.Value.run_blocks m g
  · run_from Cert.OutRefIdeal.Value.run m' g'
    · exact ((final5 m c).trans (eq5 _ _)).symm
    · exact ((final6 m c).trans (eq6 _ _ _ _)).symm
    · exact ((final7 m c).trans (eq7 _ _ _ _ _)).symm

end Cert.OutFinal

end
-- ==== Proof.SguMix.lean ====
module

public import proofs.«01_k».proof.Proof.Gen.SguIdeal.Value
public import Idealize.ShloMosaic.Lib.Pipeline.ValueKit
public import Idealize.ShloMosaic.Lib.Claim

/-! The spatial mix of one chunk of rows: each group of lanes by its own matrix. -/

@[expose] public section

set_option maxRecDepth 16384

noncomputable section

namespace Cert.SguFinal

open Idealize.ShloMosaic Idealize.ShloMosaic.TcCoe Idealize.SL.Sem
open Cert.SguIdeal Cert.SguIdeal.Gen

/-- The mix of one chunk, from the chunk's rows and the eight matrices. -/
def stack (v : FVec Ideal S128x512 .bf16) (ws : Vec Ideal S8x128x128 .bf16) : FVec Ideal S128x512 .f32 :=
  k0_pay27 (F := Ideal) k0_pay5 v (extractStridedSlice S128x128 ![0, 0] v slices_S128x512_o0_0_S128x128) (k0_pay26 (View.ld ws r0_2)) (View.ld ws r0_3)
    (View.ld ws r0_4) (View.ld ws r0_5) (View.ld ws r0_6) (View.ld ws r0_7) (View.ld ws r0_8) (View.ld ws r0_9)

/-- A lane below 64 is of the block's first group, another of its second. -/
theorem lane_lt : ∀ l : Fin 128, IntOp.cmpi .slt (BitVec.ofNat 32 l.val) 64#32 = if l.val < 64 then 1#1 else 0#1 := by decide +kernel

/-- The lane decides between the two groups of its block. -/
theorem pick (f : Fin 8 → Fin 512 → EReal) (g a b : Fin 8) (j j' : Fin 512) (l : ℕ) (hl : l < 128) (hj : j' = j)
    (ha : l < 64 → a = g) (hb : ¬ l < 64 → b = g) :
    Scalar.select (IntOp.cmpi .slt (BitVec.ofNat 32 l) 64#32) (f a j') (f b j') = f g j := by
  rw [lane_lt ⟨l, hl⟩, hj]
  by_cases h : l < 64
  · rw [if_pos h, ha h]; rfl
  · rw [if_neg h, hb h]; rfl

/-- Row `x` of group `j / 64`'s matrix times the chunk's column `j`. -/
theorem stack_at (v : FVec Ideal S128x512 .bf16) (ws : Vec Ideal S8x128x128 .bf16) (x : Fin 128) (j : Fin 512) :
    stack v ws (ix2 x j) = ∑ s : Fin 128, ws (ix3 ⟨j.val / 64, by omega⟩ x s) * v (ix2 s j) := by
  pointwise [stack, k0_pay27, k0_pay26, k0_pay5]
  have hj := j.isLt
  let f : Fin 8 → Fin 512 → EReal := fun g j => ∑ s : Fin 128, ws (ix3 g x s) * v (ix2 s j)
  split
  · exact pick f _ 0 1 j j _ (by omega) rfl (fun _ => Fin.ext (by show 0 = j.val / 64; omega)) fun _ => Fin.ext (by show 1 = j.val / 64; omega)
  split
  · exact pick f _ 2 3 j _ _ (by omega) (Fin.ext (by dsimp only; omega)) (fun _ => Fin.ext (by show 2 = j.val / 64; omega)) fun _ => Fin.ext (by show 3 = j.val / 64; omega)
  split
  · exact pick f _ 4 5 j _ _ (by omega) (Fin.ext (by dsimp only; omega)) (fun _ => Fin.ext (by show 4 = j.val / 64; omega)) fun _ => Fin.ext (by show 5 = j.val / 64; omega)
  · exact pick f _ 6 7 j _ _ (by omega) (Fin.ext (by dsimp only; omega)) (fun _ => Fin.ext (by show 6 = j.val / 64; omega)) fun _ => Fin.ext (by show 7 = j.val / 64; omega)

/-- A chunk's stored rows: its rows of `u` times the mix and the bias. -/
def gated (u : FVec Ideal S128x512 .f32) (v : FVec Ideal S128x512 .bf16) (ws : Vec Ideal S8x128x128 .bf16) (b : Vec Ideal S128x512 .f32) : FVec Ideal S128x512 .bf16 :=
  truncf .bf16 (mulf u (addf (stack v ws) (shapeCast S128x512 (View.ld b r0_10) shapeCasts_S128x512_S128x512))) bitsLt_bf16_f32

theorem gated_at (u : FVec Ideal S128x512 .f32) (v : FVec Ideal S128x512 .bf16) (ws : Vec Ideal S8x128x128 .bf16) (b : Vec Ideal S128x512 .f32) (x : Fin 128) (j : Fin 512) :
    gated u v ws b (ix2 x j) = u (ix2 x j) * ((∑ s : Fin 128, ws (ix3 ⟨j.val / 64, by omega⟩ x s) * v (ix2 s j)) + b (ix2 x j)) := by
  pointwise [gated, stack_at]

/-- The four chunks' stores are the four chunks' gated rows. -/
theorem tile0 (x0 x1 x2 x3 x4) : k0_pay12 (F := Ideal) (k0_pay28 x0 x1 x2 x3 x4) (k0_pay30 x0 x1 x2 x3 x4) (k0_pay7 (k0_pay30 x0 x1 x2 x3 x4) (k0_pay31 x0 x1 x2 x3 x4) (View.ld x3 r0_2) (View.ld x3 r0_3)) (k0_pay8 (k0_pay30 x0 x1 x2 x3 x4) (k0_pay31 x0 x1 x2 x3 x4) (View.ld x3 r0_4) (View.ld x3 r0_5)) (k0_pay9 (k0_pay30 x0 x1 x2 x3 x4) (k0_pay31 x0 x1 x2 x3 x4) (View.ld x3 r0_6) (View.ld x3 r0_7)) (k0_pay10 (k0_pay31 x0 x1 x2 x3 x4)) (k0_pay11 (k0_pay31 x0 x1 x2 x3 x4) (View.ld x3 r0_8)) (View.ld x3 r0_9) (View.ld x4 r0_10)
    = gated (extractStridedSlice S128x512 ![0, 0] (k0_pay3 (View.ld x0 r0_0)) slices_S512x512_o0_0_S128x512) (extractStridedSlice S128x512 ![0, 0] (k0_pay4 (View.ld x0 r0_0) (View.ld x1 r0_1) (View.ld x2 r0_1)) slices_S512x512_o0_0_S128x512) x3 x4 := rfl

theorem tile1 (x0 x1 x2 x3 x4) : k0_pay18 (F := Ideal) (k0_pay28 x0 x1 x2 x3 x4) (k0_pay30 x0 x1 x2 x3 x4) (k0_pay13 (k0_pay29 x0 x1 x2 x3 x4)) (k0_pay14 (k0_pay29 x0 x1 x2 x3 x4) (k0_pay30 x0 x1 x2 x3 x4) (View.ld x3 r0_2) (View.ld x3 r0_3)) (k0_pay15 (k0_pay29 x0 x1 x2 x3 x4) (k0_pay30 x0 x1 x2 x3 x4) (View.ld x3 r0_4) (View.ld x3 r0_5)) (k0_pay16 (k0_pay29 x0 x1 x2 x3 x4)) (k0_pay17 (k0_pay29 x0 x1 x2 x3 x4) (View.ld x3 r0_6)) (View.ld x3 r0_7) (View.ld x3 r0_8) (View.ld x3 r0_9) (View.ld x4 r0_10)
    = gated (extractStridedSlice S128x512 ![128, 0] (k0_pay3 (View.ld x0 r0_0)) slices_S512x512_o128_0_S128x512) (extractStridedSlice S128x512 ![128, 0] (k0_pay4 (View.ld x0 r0_0) (View.ld x1 r0_1) (View.ld x2 r0_1)) slices_S512x512_o128_0_S128x512) x3 x4 := rfl

theorem tile2 (x0 x1 x2 x3 x4) : k0_pay23 (F := Ideal) (k0_pay28 x0 x1 x2 x3 x4) (k0_pay30 x0 x1 x2 x3 x4) (k0_pay19 (k0_pay29 x0 x1 x2 x3 x4)) (k0_pay20 (k0_pay29 x0 x1 x2 x3 x4) (k0_pay30 x0 x1 x2 x3 x4) (View.ld x3 r0_2) (View.ld x3 r0_3)) (k0_pay21 (k0_pay29 x0 x1 x2 x3 x4)) (k0_pay22 (k0_pay29 x0 x1 x2 x3 x4) (View.ld x3 r0_4)) (View.ld x3 r0_5) (View.ld x3 r0_6) (View.ld x3 r0_7) (View.ld x3 r0_8) (View.ld x3 r0_9) (View.ld x4 r0_10)
    = gated (extractStridedSlice S128x512 ![256, 0] (k0_pay3 (View.ld x0 r0_0)) slices_S512x512_o256_0_S128x512) (extractStridedSlice S128x512 ![256, 0] (k0_pay4 (View.ld x0 r0_0) (View.ld x1 r0_1) (View.ld x2 r0_1)) slices_S512x512_o256_0_S128x512) x3 x4 := rfl

theorem tile3 (x0 x1 x2 x3 x4) : k0_pay1 (F := Ideal) (k0_pay28 x0 x1 x2 x3 x4) (k0_pay27 (k0_pay30 x0 x1 x2 x3 x4) (k0_pay24 (k0_pay29 x0 x1 x2 x3 x4)) (k0_pay25 (k0_pay29 x0 x1 x2 x3 x4)) (k0_pay26 (View.ld x3 r0_2)) (View.ld x3 r0_3) (View.ld x3 r0_4) (View.ld x3 r0_5) (View.ld x3 r0_6) (View.ld x3 r0_7) (View.ld x3 r0_8) (View.ld x3 r0_9)) (View.ld x4 r0_10)
    = gated (extractStridedSlice S128x512 ![384, 0] (k0_pay3 (View.ld x0 r0_0)) slices_S512x512_o384_0_S128x512) (extractStridedSlice S128x512 ![384, 0] (k0_pay4 (View.ld x0 r0_0) (View.ld x1 r0_1) (View.ld x2 r0_1)) slices_S512x512_o384_0_S128x512) x3 x4 := rfl

/-- The gated rows of a block of four chunks. -/
def mixed (u : FVec Ideal S512x512 .f32) (v : FVec Ideal S512x512 .bf16) (ws : Vec Ideal S8x128x128 .bf16) (b : Vec Ideal S128x512 .f32) : FVec Ideal S512x512 .bf16 := fun i =>
  u i * ((∑ s : Fin 128, ws (ix3 ⟨(i 1).val / 64, Nat.div_lt_of_lt_mul (i 1).isLt⟩ ⟨(i 0).val % 128, Nat.mod_lt _ (by decide)⟩ s)
      * v (ix2 ⟨(i 0).val / 128 * 128 + s.val, by have : (i 0).val < 512 := (i 0).isLt; omega⟩ (i 1)))
    + b (ix2 ⟨(i 0).val % 128, Nat.mod_lt _ (by decide)⟩ (i 1)))

/-- A chunk's gated rows are the block's rows of that chunk. -/
theorem gated_mixed (u : FVec Ideal S512x512 .f32) (v : FVec Ideal S512x512 .bf16) (ws : Vec Ideal S8x128x128 .bf16) (b : Vec Ideal S128x512 .f32)
    (U : FVec Ideal S128x512 .f32) (W : FVec Ideal S128x512 .bf16) (n : ℕ) (hn : n < 4)
    (hU : ∀ (x : Fin 128) (j : Fin 512), U (ix2 x j) = u (ix2 ⟨128 * n + x.val, by omega⟩ j))
    (hW : ∀ (x : Fin 128) (j : Fin 512), W (ix2 x j) = v (ix2 ⟨128 * n + x.val, by omega⟩ j))
    (y : S512x512.Idx) (x : S128x512.Idx) (h0 : (y 0).val = 128 * n + (x 0).val) (h1 : (y 1).val = (x 1).val) :
    gated U W ws b x = mixed u v ws b y := by
  have hx : (x 0).val < 128 := (x 0).isLt
  have hlt : 128 * n + (x 0).val < 512 := by omega
  obtain rfl : y = ix2 (⟨128 * n + (x 0).val, hlt⟩ : Fin 512) (x 1 : Fin 512) := by
    funext a; match a with | ⟨0, _⟩ => exact Fin.ext h0 | ⟨1, _⟩ => exact Fin.ext h1
  refine (congrArg _ (eq_ix2 x)).trans ((gated_at U W ws b (x 0) (x 1)).trans ?_)
  have em : (⟨(128 * n + (x 0).val) % 128, Nat.mod_lt _ (by decide)⟩ : Fin 128) = x 0 := Fin.ext (by show (128 * n + (x 0).val) % 128 = (x 0).val; omega)
  have ev (s : Fin 128) : (⟨(128 * n + (x 0).val) / 128 * 128 + s.val, by omega⟩ : Fin 512) = ⟨128 * n + s.val, by omega⟩ :=
    Fin.ext (by show (128 * n + (x 0).val) / 128 * 128 + s.val = 128 * n + s.val; omega)
  show _ = u (ix2 (⟨128 * n + (x 0).val, _⟩ : Fin 512) (x 1)) * ((∑ s : Fin 128, ws (ix3 ⟨(x 1).val / 64, _⟩ (⟨(128 * n + (x 0).val) % 128, _⟩ : Fin 128) s)
      * v (ix2 (⟨(128 * n + (x 0).val) / 128 * 128 + s.val, _⟩ : Fin 512) (x 1))) + b (ix2 (⟨(128 * n + (x 0).val) % 128, _⟩ : Fin 128) (x 1)))
  simp only [em, ev]
  exact congrArg₂ (HMul.hMul : EReal → EReal → EReal) (hU _ _)
    (congrArg (· + b (ix2 (x 0) (x 1))) (Finset.sum_congr rfl fun s _ => congrArg (_ * ·) (hW _ _)))

theorem out_at (x0 : Vec Ideal S512x1024 .f32) (x1 x2 : Vec Ideal S1x512 .f32) (x3 : Vec Ideal S8x128x128 .bf16) (x4 : Vec Ideal S128x512 .f32) (y) :
    out0_5 (F := Ideal) x0 x1 x2 x3 x4 y = mixed (k0_pay3 x0) (k0_pay4 x0 x1 x2) x3 x4 y := by
  have e0 : View.ld x0 r0_0 = x0 := by funext i; pointwise []
  have e1 : View.ld x1 r0_1 = x1 := by
    funext i; pointwise []
    exact congrArg x1 (funext fun a => match a with | ⟨0, _⟩ => Subsingleton.elim (α := Fin 1) _ _ | ⟨1, _⟩ => rfl)
  have e2 : View.ld x2 r0_1 = x2 := by
    funext i; pointwise []
    exact congrArg x2 (funext fun a => match a with | ⟨0, _⟩ => Subsingleton.elim (α := Fin 1) _ _ | ⟨1, _⟩ => rfl)
  unfold out0_5
  rw [tile0, tile1, tile2, tile3, e0, e1, e2]
  generalize k0_pay3 (F := Ideal) x0 = u
  generalize k0_pay4 (F := Ideal) x0 x1 x2 = v
  canon_tiles x h
  · exact gated_mixed u v x3 x4 _ _ 3 (by decide) (fun x j => by pointwise []) (fun x j => by pointwise []) y x h0 h1
  · exact gated_mixed u v x3 x4 _ _ 2 (by decide) (fun x j => by pointwise []) (fun x j => by pointwise []) y x h0 h1
  · exact gated_mixed u v x3 x4 _ _ 1 (by decide) (fun x j => by pointwise []) (fun x j => by pointwise []) y x h0 h1
  · exact gated_mixed u v x3 x4 _ _ 0 (by decide) (fun x j => by pointwise []) (fun x j => by pointwise []) y x (by omega) h1

end Cert.SguFinal

end
-- ==== Proof.SguValue.lean ====
module

public import proofs.«01_k».proof.Proof.SguMix
public import proofs.«01_k».proof.Proof.Scalars
public import Idealize.ShloMosaic.Lib.StableHlo.RunRead

/-! The spatial gating unit. -/

@[expose] public section

set_option maxRecDepth 16384

noncomputable section

namespace Cert.SguFinal

open Idealize.ShloMosaic Idealize.ShloMosaic.TcCoe Idealize.SL.Sem
open Idealize.ShloMosaic.Pipeline (Dat)
open Cert.SguIdeal Cert.SguIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- The tanh approximation of `gelu`. -/
def gelu (x : EReal) : EReal :=
  Ideal.ofBits .f32 0x3F000000#32 * x
    * (Ideal.ofBits .f32 0x3F800000#32 + Ideal.tanh (Ideal.ofBits .f32 0x3F4C422A#32 * (x + Ideal.ofBits .f32 0x3D372713#32 * (x * x * x))))

/-- A row less its mean. -/
def centre (x : Fin 512 → EReal) (j : Fin 512) : EReal := x j - Ideal.div (∑ k, x k) (Ideal.ofBits .f32 0x44000000#32)

/-- The layer norm of a row. -/
def norm (x g b : Fin 512 → EReal) (j : Fin 512) : EReal :=
  centre x j * Ideal.rsqrt (Ideal.div (∑ k, centre x k * centre x k) (Ideal.ofBits .f32 0x44000000#32) + Ideal.ofBits .f32 0x358637BD#32) * g j + b j

/-- The half of the activations that is normed and mixed. -/
def vn (z : FVec Ideal S8192x1024 .f32) (g b : FVec Ideal S1x512 .f32) (s : Fin 8192) (j : Fin 512) : EReal :=
  norm (fun k => gelu (z (ix2 s ⟨512 + k.val, by omega⟩))) (fun k => g (ix2 0 k)) (fun k => b (ix2 0 k)) j

/-- The other half times the mix of the chunk's rows and the bias. -/
def sgu (z : FVec Ideal S8192x1024 .f32) (g b : FVec Ideal S1x512 .f32) (w : FVec Ideal S8x128x128 .bf16) (p : FVec Ideal S128x512 .f32) : FVec Ideal S8192x512 .bf16 := fun i =>
  gelu (z (ix2 (i 0) ⟨(i 1).val, Nat.lt_of_lt_of_le (i 1).isLt (by decide)⟩))
    * ((∑ s : Fin 128, w (ix3 ⟨(i 1).val / 64, Nat.div_lt_of_lt_mul (i 1).isLt⟩ ⟨(i 0).val % 128, Nat.mod_lt _ (by decide)⟩ s)
        * vn z g b ⟨(i 0).val / 128 * 128 + s.val, by have : (i 0).val < 8192 := (i 0).isLt; omega⟩ (i 1))
      + p (ix2 ⟨(i 0).val % 128, Nat.mod_lt _ (by decide)⟩ (i 1)))

/-- The two halves of a block. -/
theorem left_at (x : Vec Ideal S512x1024 .f32) (i j : Fin 512) :
    k0_pay3 (F := Ideal) x (ix2 i j) = gelu (x (ix2 i ⟨j.val, by omega⟩)) := by
  pointwise [k0_pay3, k0_pay2, gelu]

theorem right_at (x : Vec Ideal S512x1024 .f32) (g b : Vec Ideal S1x512 .f32) (i j : Fin 512) :
    k0_pay4 (F := Ideal) x g b (ix2 i j) = norm (fun k => gelu (x (ix2 i ⟨512 + k.val, by omega⟩))) (fun k => g (ix2 0 k)) (fun k => b (ix2 0 k)) j := by
  pointwise [k0_pay4, k0_pay2, norm, centre, gelu]

/-- Where a block's rows lie in the whole arrays. -/
def at_row (t : Fin cfg0.N) (i : Fin 512) : Fin 8192 := ⟨t.val * 512 + i.val, by have : t.val < 16 := t.isLt; omega⟩

theorem blk0 (c : Dev nD) (t : Fin cfg0.N) (i : Fin 512) (k : Fin 1024) :
    iblk m c 0 t (ix2 i k) = (m ((c : Thread nD τ).loc main_arg0)) (ix2 (at_row t i) k) := by
  unfold at_row
  blk_ext [iblk, idx t]

theorem blk1 (c : Dev nD) (t : Fin cfg0.N) (k : Fin 512) : iblk m c 1 t (ix2 0 k) = (m ((c : Thread nD τ).loc main_arg1)) (ix2 0 k) := by
  blk_ext [iblk, idx t]

theorem blk2 (c : Dev nD) (t : Fin cfg0.N) (k : Fin 512) : iblk m c 2 t (ix2 0 k) = (m ((c : Thread nD τ).loc main_arg2)) (ix2 0 k) := by
  blk_ext [iblk, idx t]

theorem blk3 (c : Dev nD) (t : Fin cfg0.N) (h : Fin 8) (i s : Fin 128) : iblk m c 3 t (ix3 h i s) = V m c main_v4 (ix3 h i s) := by
  blk_ext [iblk, idx t]

theorem blk4 (c : Dev nD) (t : Fin cfg0.N) (i : Fin 128) (k : Fin 512) : iblk m c 4 t (ix2 i k) = V m c main_v7 (ix2 i k) := by
  blk_ext [iblk, idx t]

theorem emb5 (t : Fin cfg0.N) (i j : Fin 512) : ((cfg0.win 5).blk t).view.emb (ix2 i j) = ix2 (at_row t i) j := by
  unfold at_row
  blk_ext [idx t]

/-- The two halves of a block, of the whole arrays. -/
theorem left_blk (c : Dev nD) (t : Fin cfg0.N) (i j : Fin 512) :
    k0_pay3 (F := Ideal) (iblk m c 0 t) (ix2 i j) = gelu ((m ((c : Thread nD τ).loc main_arg0)) (ix2 (at_row t i) ⟨j.val, by omega⟩)) :=
  (left_at _ i j).trans (congrArg gelu (blk0 m c t i _))

theorem right_blk (c : Dev nD) (t : Fin cfg0.N) (i j : Fin 512) :
    k0_pay4 (F := Ideal) (iblk m c 0 t) (iblk m c 1 t) (iblk m c 2 t) (ix2 i j)
      = vn (m ((c : Thread nD τ).loc main_arg0)) (m ((c : Thread nD τ).loc main_arg1)) (m ((c : Thread nD τ).loc main_arg2)) (at_row t i) j := by
  refine (right_at _ _ _ i j).trans ?_
  unfold vn
  rw [show (fun k : Fin 512 => gelu ((iblk m c 0 t) (ix2 i ⟨512 + k.val, by omega⟩))) = fun k => gelu ((m ((c : Thread nD τ).loc main_arg0)) (ix2 (at_row t i) ⟨512 + k.val, by omega⟩))
      from funext fun k => congrArg gelu (blk0 m c t i _),
    show (fun k : Fin 512 => (iblk m c 1 t) (ix2 0 k)) = fun k => (m ((c : Thread nD τ).loc main_arg1)) (ix2 0 k) from funext fun k => blk1 m c t k,
    show (fun k : Fin 512 => (iblk m c 2 t) (ix2 0 k)) = fun k => (m ((c : Thread nD τ).loc main_arg2)) (ix2 0 k) from funext fun k => blk2 m c t k]

theorem point_at (c : Dev nD) (t : Fin cfg0.N) (i j : Fin 512) :
    mixed (k0_pay3 (F := Ideal) (iblk m c 0 t)) (k0_pay4 (F := Ideal) (iblk m c 0 t) (iblk m c 1 t) (iblk m c 2 t)) (iblk m c 3 t) (iblk m c 4 t) (ix2 i j)
      = sgu (m ((c : Thread nD τ).loc main_arg0)) (m ((c : Thread nD τ).loc main_arg1)) (m ((c : Thread nD τ).loc main_arg2)) (V m c main_v4) (V m c main_v7) (ix2 (at_row t i) j) := by
  have hr : (⟨(at_row t i).val % 128, Nat.mod_lt _ (by decide)⟩ : Fin 128) = ⟨i.val % 128, Nat.mod_lt _ (by decide)⟩ :=
    Fin.ext (show (t.val * 512 + i.val) % 128 = i.val % 128 by omega)
  refine congrArg₂ (fun a b : EReal => a * b) (left_blk m c t i j) (congrArg₂ (fun a b : EReal => a + b) (Finset.sum_congr rfl fun s _ => ?_) ?_)
  · refine congrArg₂ (fun a b : EReal => a * b) ((blk3 m c t _ _ s).trans (congrArg (fun r => V m c main_v4 (ix3 _ r s)) hr.symm)) ((right_blk m c t _ j).trans ?_)
    refine congrArg (fun r => vn _ _ _ r j) (Fin.ext ?_)
    show t.val * 512 + (i.val / 128 * 128 + s.val) = (t.val * 512 + i.val) / 128 * 128 + s.val
    omega
  · exact (blk4 m c t _ j).trans (congrArg (fun r => V m c main_v7 (ix2 r j)) hr.symm)

theorem point5 (c : Dev nD) (t : Fin cfg0.N) (y : S512x512.Idx) :
    mixed (k0_pay3 (F := Ideal) (iblk m c 0 t)) (k0_pay4 (F := Ideal) (iblk m c 0 t) (iblk m c 1 t) (iblk m c 2 t)) (iblk m c 3 t) (iblk m c 4 t) y
      = sgu (m ((c : Thread nD τ).loc main_arg0)) (m ((c : Thread nD τ).loc main_arg1)) (m ((c : Thread nD τ).loc main_arg2)) (V m c main_v4) (V m c main_v7) (((cfg0.win 5).blk t).view.emb y) := by
  have e := eq_ix2 y
  refine (congrArg _ e).trans ((point_at m c t (y 0) (y 1)).trans ?_)
  exact congrArg _ ((emb5 t (y 0) (y 1)).symm.trans (congrArg _ e.symm))

theorem final5 (c : Dev nD) : (dats m 0 c).arrAt 5 cfg0.N
    = sgu (m ((c : Thread nD τ).loc main_arg0)) (m ((c : Thread nD τ).loc main_arg1)) (m ((c : Thread nD τ).loc main_arg2)) (V m c main_v4) (V m c main_v7) := by
  refine (dats m 0 c).arrAt_eq_of_covers 5 _ (by decide +kernel) fun t _ y => ?_
  blk_simp
  rw [after0_5]
  exact (out_at _ _ _ _ _ y).trans (point5 m c t y)

end Cert.SguFinal

end
-- ==== Proof.SguEq.lean ====
module

public import proofs.«01_k».proof.Proof.SguValue
public import proofs.«01_k».proof.Proof.Gen.SguRefIdeal.Read

/-! The spatial gating unit against its reference. -/

@[expose] public section

set_option maxRecDepth 16384

noncomputable section

namespace Cert.SguFinal

open Idealize.ShloMosaic Idealize.ShloMosaic.TcCoe Idealize.SL.Sem
open Cert.SguIdeal Cert.SguIdeal.Gen
open Cert.SguRefIdeal.Read

variable (m : (ℓ : Loc nD τ sig) → Buf (Elt Ideal) ℓ)

/-- The mixing weights, causal: zero above the diagonal. -/
def causal (w : FVec Ideal S8x128x128 .f32) : FVec Ideal S8x128x128 .bf16 := fun i =>
  Scalar.select (Scalar.select (IntOp.cmpi .sge (IntOp.addi (BitVec.ofNat 32 (i 1).val) 0#32) (BitVec.ofNat 32 (i 2).val)) 1#1 0#1) (w i) 0

/-- The bias of every head, along its columns. -/
def plane (p : FVec Ideal S8x128 .f32) : FVec Ideal S128x512 .f32 := fun i => p (ix2 ⟨(i 1).val / 64, Nat.div_lt_of_lt_mul (i 1).isLt⟩ (i 0))

theorem causal_host (c : Dev nD) : V m c main_v4 = causal (m ((c : Thread nD τ).loc main_arg3)) := by
  funext i
  unfold V hostOps0 hostOps0_1 hostOps0_2 hostOps0_3 hostOps0_4
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_reads_simp
  pointwise [causal]
  exact congrArg (Scalar.select _ _) (show constant (F := Ideal) S_ .f32 0#32 ix0 = 0 by pointwise [])

theorem plane_host (c : Dev nD) : V m c main_v7 = plane (m ((c : Thread nD τ).loc main_arg4)) := by
  funext i
  unfold V hostOps0 hostOps0_1 hostOps0_2 hostOps0_3 hostOps0_4
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_reads_simp
  pointwise [plane]

theorem causal_ref (w : FVec Ideal S8x128x128 .f32) (i) : val_main_v40 (F := Ideal) w i = causal w i := by
  pointwise [causal, val_main_v40, val_main_call1_v0, val_main_v38, val_main_v37, val_main_call0_v4, val_main_call0_v2, val_main_call0_v0, val_main_call0_v1, val_main_call0_c, val_main_call0_v3, val_main_call0_v5, val_main_call0_c_0, val_main_v36, val_main_c, val_main_v39, val_main_cst_8]

theorem gelu_ref (z : FVec Ideal S8192x1024 .f32) (i) : val_main_v12 (F := Ideal) z i = gelu (z i) := by
  pointwise [gelu, val_main_v12, val_main_v11, val_main_v10, val_main_cst_2, val_main_v9, val_main_v8, val_main_cst_1, val_main_v7, val_main_v6, val_main_v5, val_main_cst_0, val_main_v4, val_main_v3, val_main_v2, val_main_cst, val_main_v1, val_main_v0]
  exact (mul_assoc _ _ _).symm.trans (congrArg (· * _) (mul_comm _ _))

theorem norm_ref (z : FVec Ideal S8192x1024 .f32) (g b : FVec Ideal S1x512 .f32) (s : Fin 8192) (j : Fin 512) :
    val_main_v34 (F := Ideal) z g b (ix2 s j) = vn z g b s j := by
  pointwise [vn, norm, centre, gelu_ref, val_main_v34, val_main_v32, val_main_v30, val_main_v20, val_main_v14, val_main_v19, val_main_v18, val_main_v16, val_main_v15, val_main_cst_3, val_main_v17, val_main_cst_4, val_main_v29, val_main_v28, val_main_v27, val_main_v25, val_main_v23, val_main_v22, val_main_v21, val_main_cst_5, val_main_v24, val_main_cst_6, val_main_v26, val_main_cst_7, val_main_v31, val_main_v33]

/-- The kernel's rows are the reference's. -/
theorem eq5 (z : FVec Ideal S8192x1024 .f32) (g b : FVec Ideal S1x512 .f32) (w : FVec Ideal S8x128x128 .f32) (p : FVec Ideal S8x128 .f32) :
    sgu z g b (causal w) (plane p) = val_main_v49 (F := Ideal) z g b w p := by
  funext i
  pointwise [sgu, plane, gelu_ref, causal_ref, val_main_v49, val_main_v48, val_main_v13, val_main_v47, val_main_v46, val_main_v42, val_main_v45, val_main_v44, val_main_v43, val_main_v41, val_main_v35]
  refine congrArg (_ * ·) (congrArg (· + _) (Finset.sum_congr rfl fun s _ => (mul_comm _ _).trans ?_))
  exact congrArg (· * _) (norm_ref z g b _ (i 1)).symm

end Cert.SguFinal

end
-- ==== Proof.SguRun.lean ====
module

public import proofs.«01_k».proof.Proof.Gen.SguRefIdeal.Read

/-! The run of the reference of the spatial gating unit. -/

@[expose] public section

set_option maxRecDepth 16384

noncomputable section

namespace Cert.SguRefIdeal

open Idealize.ShloMosaic Idealize.ShloMosaic.TcCoe Idealize.SL.Sem
open Cert.SguRefIdeal Cert.SguRefIdeal.Gen

/-- What the reference leaves, by the names of its stages. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨hv49, hargs⟩ := h c
    exact ⟨hv49.trans (Read.val_main_v49_eq m c), hargs⟩) (Cert.SguRefIdeal.Value.run m ρ)

end Cert.SguRefIdeal
end
-- ==== Proof.SguClaim.lean ====
module

public import proofs.«01_k».proof.Defs
public import proofs.«01_k».proof.Proof.SguEq
public import proofs.«01_k».proof.Proof.SguRun

/-! The claims about the spatial gating unit. -/

@[expose] public section

set_option maxRecDepth 16384

noncomputable section

namespace Cert.SguFinal

open Idealize.ShloMosaic Idealize.ShloMosaic.TcCoe Idealize.SL.Sem

/-- The reference leaves its arguments, and it has no counters. -/
theorem quiescent_ref : Cert.quiescent_SguRefIdeal := fun m g _ =>
  (θ_run Cert.SguRefIdeal.defs _ _).mono
    (fun r h => ⟨fun c => (h c).2, sem_eq_zero_of_no_sems (by decide) r.2⟩)
    (Cert.SguRefIdeal.run_ref m g)

/-- Both programs leave the same results. -/
theorem algebraic : Cert.algebraic_SguIdeal_SguRefIdeal := by
  pair_intro
  · run_from Cert.SguIdeal.Value.run_blocks m g
  · run_from Cert.SguRefIdeal.run_ref m' g'
    exact ((final5 m c).trans (by rw [causal_host, plane_host]; exact eq5 _ _ _ _ _)).symm

end Cert.SguFinal

end
-- ==== Proof.AdamwStep.lean ====
module

public import Idealize.ShloMosaic.PureOps.Ideal
public import Idealize.ShloMosaic.PureOps

/-! One entry of an AdamW step. -/

@[expose] public section

noncomputable section

namespace Cert.AdamwStep

open Idealize.ShloMosaic

/-- The first moment: `β₁ u + (1 - β₁) g`. -/
def mom (g u : EReal) : EReal := Ideal.ofBits .f32 0x3F666666#32 * u + Ideal.ofBits .f32 0x3DCCCCCD#32 * g

/-- The second moment: `β₂ v + (1 - β₂) g²`. -/
def sqm (g v : EReal) : EReal := Ideal.ofBits .f32 0x3F7FBE77#32 * v + Ideal.ofBits .f32 0x3A83126F#32 * (g * g)

/-- The step, from the weight and the two new moments: `-η (û / (√v̂ + ε) + λ w)`, each moment over its bias. -/
def delta (w u v : EReal) : EReal :=
  Ideal.ofBits .f32 0xBA83126F#32 * (Ideal.div (Ideal.div u (Ideal.ofBits .f32 0x3F26BD02#32))
    (Ideal.sqrt (Ideal.div v (Ideal.ofBits .f32 0x3C231ACC#32)) + Ideal.ofBits .f32 0x322BCC77#32) + Ideal.ofBits .f32 0x3C23D70A#32 * w)

end Cert.AdamwStep

end
-- ==== Proof.AdamwValue.lean ====
module

public import proofs.«01_k».proof.Proof.Gen.AdamwIdeal.Value
public import proofs.«01_k».proof.Proof.Gen.AdamwRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of a shard of the up- or the down-projection. -/

@[expose] public section

set_option maxRecDepth 16384

noncomputable section

namespace Cert.AdamwFinal

open Idealize.ShloMosaic Idealize.ShloMosaic.TcCoe Idealize.SL.Sem
open Idealize.ShloMosaic.Pipeline (Dat)
open Cert.AdamwIdeal Cert.AdamwIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1024x1024 .f32) : FVec Ideal S1x1024x1024 .f32 := fun i => g (ix2 (i 1) (i 2))
def mom (g : FVec Ideal S1024x1024 .f32) (u : FVec Ideal S1x1024x1024 .f32) : FVec Ideal S1x1024x1024 .f32 := fun i => AdamwStep.mom (g (ix2 (i 1) (i 2))) (u i)
def sqm (g : FVec Ideal S1024x1024 .f32) (v : FVec Ideal S1x1024x1024 .f32) : FVec Ideal S1x1024x1024 .f32 := fun i => AdamwStep.sqm (g (ix2 (i 1) (i 2))) (v i)
def delta (w : FVec Ideal S1x1024x1024 .f32) (g : FVec Ideal S1024x1024 .f32) (u v : FVec Ideal S1x1024x1024 .f32) : FVec Ideal S1x1024x1024 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1024x1024 .f32) : grad g = Cert.AdamwRefIdeal.Read.val_main_v26 (F := Ideal) g := by
  funext i
  pointwise [grad, AdamwRefIdeal.Read.val_main_v26]

theorem eq5 (w : FVec Ideal S1x1024x1024 .f32) (g : FVec Ideal S1024x1024 .f32) (u v : FVec Ideal S1x1024x1024 .f32) : delta w g u v = Cert.AdamwRefIdeal.Read.val_main_v25 (F := Ideal) w g u v := by
  funext i
  pointwise [delta, mom, sqm, AdamwStep.mom, AdamwStep.sqm, AdamwStep.delta, AdamwRefIdeal.Read.val_main_v25, AdamwRefIdeal.Read.val_main_v24, AdamwRefIdeal.Read.val_main_cst_7, AdamwRefIdeal.Read.val_main_v23, AdamwRefIdeal.Read.val_main_v20, AdamwRefIdeal.Read.val_main_v14, AdamwRefIdeal.Read.val_main_v5, AdamwRefIdeal.Read.val_main_v1, AdamwRefIdeal.Read.val_main_v0, AdamwRefIdeal.Read.val_main_cst, AdamwRefIdeal.Read.val_main_v4, AdamwRefIdeal.Read.val_main_v3, AdamwRefIdeal.Read.val_main_v2, AdamwRefIdeal.Read.val_main_cst_0, AdamwRefIdeal.Read.val_main_v13, AdamwRefIdeal.Read.val_main_cst_3, AdamwRefIdeal.Read.val_main_v19, AdamwRefIdeal.Read.val_main_v17, AdamwRefIdeal.Read.val_main_v16, AdamwRefIdeal.Read.val_main_v12, AdamwRefIdeal.Read.val_main_v7, AdamwRefIdeal.Read.val_main_v6, AdamwRefIdeal.Read.val_main_cst_1, AdamwRefIdeal.Read.val_main_v11, AdamwRefIdeal.Read.val_main_v10, AdamwRefIdeal.Read.val_main_v9, AdamwRefIdeal.Read.val_main_cst_2, AdamwRefIdeal.Read.val_main_v8, AdamwRefIdeal.Read.val_main_v15, AdamwRefIdeal.Read.val_main_cst_4, AdamwRefIdeal.Read.val_main_v18, AdamwRefIdeal.Read.val_main_cst_5, AdamwRefIdeal.Read.val_main_v22, AdamwRefIdeal.Read.val_main_v21, AdamwRefIdeal.Read.val_main_cst_6]

theorem eq6 (g : FVec Ideal S1024x1024 .f32) (u : FVec Ideal S1x1024x1024 .f32) : mom g u = Cert.AdamwRefIdeal.Read.val_main_v5 (F := Ideal) g u := by
  funext i
  pointwise [mom, AdamwStep.mom, AdamwRefIdeal.Read.val_main_v5, AdamwRefIdeal.Read.val_main_v1, AdamwRefIdeal.Read.val_main_v0, AdamwRefIdeal.Read.val_main_cst, AdamwRefIdeal.Read.val_main_v4, AdamwRefIdeal.Read.val_main_v3, AdamwRefIdeal.Read.val_main_v2, AdamwRefIdeal.Read.val_main_cst_0]

theorem eq7 (g : FVec Ideal S1024x1024 .f32) (v : FVec Ideal S1x1024x1024 .f32) : sqm g v = Cert.AdamwRefIdeal.Read.val_main_v12 (F := Ideal) g v := by
  funext i
  pointwise [sqm, AdamwStep.sqm, AdamwRefIdeal.Read.val_main_v12, AdamwRefIdeal.Read.val_main_v7, AdamwRefIdeal.Read.val_main_v6, AdamwRefIdeal.Read.val_main_cst_1, AdamwRefIdeal.Read.val_main_v11, AdamwRefIdeal.Read.val_main_v10, AdamwRefIdeal.Read.val_main_v9, AdamwRefIdeal.Read.val_main_cst_2, AdamwRefIdeal.Read.val_main_v8]

end Cert.AdamwFinal

end
-- ==== Proof.AdamwClaim.lean ====
module

public import proofs.«01_k».proof.Defs
public import proofs.«01_k».proof.Proof.AdamwValue
public import proofs.«01_k».proof.Proof.Gen.AdamwRefIdeal.Run

/-! The claims about the AdamW update of a shard of the up- or the down-projection. -/

@[expose] public section

set_option maxRecDepth 16384

noncomputable section

namespace Cert.AdamwFinal

open Idealize.ShloMosaic Idealize.ShloMosaic.TcCoe Idealize.SL.Sem

/-- The reference leaves its arguments, and it has no counters. -/
theorem quiescent_ref : Cert.quiescent_AdamwRefIdeal := fun m g _ =>
  (θ_run Cert.AdamwRefIdeal.defs _ _).mono
    (fun r h => ⟨fun c => (h c).2.2.2.2, sem_eq_zero_of_no_sems (by decide) r.2⟩)
    (Cert.AdamwRefIdeal.Value.run m g)

/-- Both programs leave the same results. -/
theorem algebraic : Cert.algebraic_AdamwIdeal_AdamwRefIdeal := by
  pair_intro
  · run_from Cert.AdamwIdeal.Value.run_blocks m g
  · run_from Cert.AdamwRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwFinal

end
-- ==== Proof.AdamwInValue.lean ====
module

public import proofs.«01_k».proof.Proof.Gen.AdamwInIdeal.Value
public import proofs.«01_k».proof.Proof.Gen.AdamwInRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of a shard of the input projection. -/

@[expose] public section

set_option maxRecDepth 16384

noncomputable section

namespace Cert.AdamwInFinal

open Idealize.ShloMosaic Idealize.ShloMosaic.TcCoe Idealize.SL.Sem
open Idealize.ShloMosaic.Pipeline (Dat)
open Cert.AdamwInIdeal Cert.AdamwInIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1024x1154 .f32) : FVec Ideal S1x1024x1154 .f32 := fun i => g (ix2 (i 1) (i 2))
def mom (g : FVec Ideal S1024x1154 .f32) (u : FVec Ideal S1x1024x1154 .f32) : FVec Ideal S1x1024x1154 .f32 := fun i => AdamwStep.mom (g (ix2 (i 1) (i 2))) (u i)
def sqm (g : FVec Ideal S1024x1154 .f32) (v : FVec Ideal S1x1024x1154 .f32) : FVec Ideal S1x1024x1154 .f32 := fun i => AdamwStep.sqm (g (ix2 (i 1) (i 2))) (v i)
def delta (w : FVec Ideal S1x1024x1154 .f32) (g : FVec Ideal S1024x1154 .f32) (u v : FVec Ideal S1x1024x1154 .f32) : FVec Ideal S1x1024x1154 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1024x1154 .f32) : grad g = Cert.AdamwInRefIdeal.Read.val_main_v26 (F := Ideal) g := by
  funext i
  pointwise [grad, AdamwInRefIdeal.Read.val_main_v26]

theorem eq5 (w : FVec Ideal S1x1024x1154 .f32) (g : FVec Ideal S1024x1154 .f32) (u v : FVec Ideal S1x1024x1154 .f32) : delta w g u v = Cert.AdamwInRefIdeal.Read.val_main_v25 (F := Ideal) w g u v := by
  funext i
  pointwise [delta, mom, sqm, AdamwStep.mom, AdamwStep.sqm, AdamwStep.delta, AdamwInRefIdeal.Read.val_main_v25, AdamwInRefIdeal.Read.val_main_v24, AdamwInRefIdeal.Read.val_main_cst_7, AdamwInRefIdeal.Read.val_main_v23, AdamwInRefIdeal.Read.val_main_v20, AdamwInRefIdeal.Read.val_main_v14, AdamwInRefIdeal.Read.val_main_v5, AdamwInRefIdeal.Read.val_main_v1, AdamwInRefIdeal.Read.val_main_v0, AdamwInRefIdeal.Read.val_main_cst, AdamwInRefIdeal.Read.val_main_v4, AdamwInRefIdeal.Read.val_main_v3, AdamwInRefIdeal.Read.val_main_v2, AdamwInRefIdeal.Read.val_main_cst_0, AdamwInRefIdeal.Read.val_main_v13, AdamwInRefIdeal.Read.val_main_cst_3, AdamwInRefIdeal.Read.val_main_v19, AdamwInRefIdeal.Read.val_main_v17, AdamwInRefIdeal.Read.val_main_v16, AdamwInRefIdeal.Read.val_main_v12, AdamwInRefIdeal.Read.val_main_v7, AdamwInRefIdeal.Read.val_main_v6, AdamwInRefIdeal.Read.val_main_cst_1, AdamwInRefIdeal.Read.val_main_v11, AdamwInRefIdeal.Read.val_main_v10, AdamwInRefIdeal.Read.val_main_v9, AdamwInRefIdeal.Read.val_main_cst_2, AdamwInRefIdeal.Read.val_main_v8, AdamwInRefIdeal.Read.val_main_v15, AdamwInRefIdeal.Read.val_main_cst_4, AdamwInRefIdeal.Read.val_main_v18, AdamwInRefIdeal.Read.val_main_cst_5, AdamwInRefIdeal.Read.val_main_v22, AdamwInRefIdeal.Read.val_main_v21, AdamwInRefIdeal.Read.val_main_cst_6]

theorem eq6 (g : FVec Ideal S1024x1154 .f32) (u : FVec Ideal S1x1024x1154 .f32) : mom g u = Cert.AdamwInRefIdeal.Read.val_main_v5 (F := Ideal) g u := by
  funext i
  pointwise [mom, AdamwStep.mom, AdamwInRefIdeal.Read.val_main_v5, AdamwInRefIdeal.Read.val_main_v1, AdamwInRefIdeal.Read.val_main_v0, AdamwInRefIdeal.Read.val_main_cst, AdamwInRefIdeal.Read.val_main_v4, AdamwInRefIdeal.Read.val_main_v3, AdamwInRefIdeal.Read.val_main_v2, AdamwInRefIdeal.Read.val_main_cst_0]

theorem eq7 (g : FVec Ideal S1024x1154 .f32) (v : FVec Ideal S1x1024x1154 .f32) : sqm g v = Cert.AdamwInRefIdeal.Read.val_main_v12 (F := Ideal) g v := by
  funext i
  pointwise [sqm, AdamwStep.sqm, AdamwInRefIdeal.Read.val_main_v12, AdamwInRefIdeal.Read.val_main_v7, AdamwInRefIdeal.Read.val_main_v6, AdamwInRefIdeal.Read.val_main_cst_1, AdamwInRefIdeal.Read.val_main_v11, AdamwInRefIdeal.Read.val_main_v10, AdamwInRefIdeal.Read.val_main_v9, AdamwInRefIdeal.Read.val_main_cst_2, AdamwInRefIdeal.Read.val_main_v8]

end Cert.AdamwInFinal

end
-- ==== Proof.AdamwInClaim.lean ====
module

public import proofs.«01_k».proof.Defs
public import proofs.«01_k».proof.Proof.AdamwInValue
public import proofs.«01_k».proof.Proof.Gen.AdamwInRefIdeal.Run

/-! The claims about the AdamW update of a shard of the input projection. -/

@[expose] public section

set_option maxRecDepth 16384

noncomputable section

namespace Cert.AdamwInFinal

open Idealize.ShloMosaic Idealize.ShloMosaic.TcCoe Idealize.SL.Sem

/-- The reference leaves its arguments, and it has no counters. -/
theorem quiescent_ref : Cert.quiescent_AdamwInRefIdeal := fun m g _ =>
  (θ_run Cert.AdamwInRefIdeal.defs _ _).mono
    (fun r h => ⟨fun c => (h c).2.2.2.2, sem_eq_zero_of_no_sems (by decide) r.2⟩)
    (Cert.AdamwInRefIdeal.Value.run m g)

/-- Both programs leave the same results. -/
theorem algebraic : Cert.algebraic_AdamwInIdeal_AdamwInRefIdeal := by
  pair_intro
  · run_from Cert.AdamwInIdeal.Value.run_blocks m g
  · run_from Cert.AdamwInRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwInFinal

end
-- ==== Proof.AdamwBranchValue.lean ====
module

public import proofs.«01_k».proof.Proof.Gen.AdamwBranchIdeal.Value
public import proofs.«01_k».proof.Proof.Gen.AdamwBranchRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of a shard of a branch's projection. -/

@[expose] public section

set_option maxRecDepth 16384

noncomputable section

namespace Cert.AdamwBranchFinal

open Idealize.ShloMosaic Idealize.ShloMosaic.TcCoe Idealize.SL.Sem
open Idealize.ShloMosaic.Pipeline (Dat)
open Cert.AdamwBranchIdeal Cert.AdamwBranchIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S512x256 .f32) : FVec Ideal S1x512x256 .f32 := fun i => g (ix2 (i 1) (i 2))
def mom (g : FVec Ideal S512x256 .f32) (u : FVec Ideal S1x512x256 .f32) : FVec Ideal S1x512x256 .f32 := fun i => AdamwStep.mom (g (ix2 (i 1) (i 2))) (u i)
def sqm (g : FVec Ideal S512x256 .f32) (v : FVec Ideal S1x512x256 .f32) : FVec Ideal S1x512x256 .f32 := fun i => AdamwStep.sqm (g (ix2 (i 1) (i 2))) (v i)
def delta (w : FVec Ideal S1x512x256 .f32) (g : FVec Ideal S512x256 .f32) (u v : FVec Ideal S1x512x256 .f32) : FVec Ideal S1x512x256 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S512x256 .f32) : grad g = Cert.AdamwBranchRefIdeal.Read.val_main_v26 (F := Ideal) g := by
  funext i
  pointwise [grad, AdamwBranchRefIdeal.Read.val_main_v26]

theorem eq5 (w : FVec Ideal S1x512x256 .f32) (g : FVec Ideal S512x256 .f32) (u v : FVec Ideal S1x512x256 .f32) : delta w g u v = Cert.AdamwBranchRefIdeal.Read.val_main_v25 (F := Ideal) w g u v := by
  funext i
  pointwise [delta, mom, sqm, AdamwStep.mom, AdamwStep.sqm, AdamwStep.delta, AdamwBranchRefIdeal.Read.val_main_v25, AdamwBranchRefIdeal.Read.val_main_v24, AdamwBranchRefIdeal.Read.val_main_cst_7, AdamwBranchRefIdeal.Read.val_main_v23, AdamwBranchRefIdeal.Read.val_main_v20, AdamwBranchRefIdeal.Read.val_main_v14, AdamwBranchRefIdeal.Read.val_main_v5, AdamwBranchRefIdeal.Read.val_main_v1, AdamwBranchRefIdeal.Read.val_main_v0, AdamwBranchRefIdeal.Read.val_main_cst, AdamwBranchRefIdeal.Read.val_main_v4, AdamwBranchRefIdeal.Read.val_main_v3, AdamwBranchRefIdeal.Read.val_main_v2, AdamwBranchRefIdeal.Read.val_main_cst_0, AdamwBranchRefIdeal.Read.val_main_v13, AdamwBranchRefIdeal.Read.val_main_cst_3, AdamwBranchRefIdeal.Read.val_main_v19, AdamwBranchRefIdeal.Read.val_main_v17, AdamwBranchRefIdeal.Read.val_main_v16, AdamwBranchRefIdeal.Read.val_main_v12, AdamwBranchRefIdeal.Read.val_main_v7, AdamwBranchRefIdeal.Read.val_main_v6, AdamwBranchRefIdeal.Read.val_main_cst_1, AdamwBranchRefIdeal.Read.val_main_v11, AdamwBranchRefIdeal.Read.val_main_v10, AdamwBranchRefIdeal.Read.val_main_v9, AdamwBranchRefIdeal.Read.val_main_cst_2, AdamwBranchRefIdeal.Read.val_main_v8, AdamwBranchRefIdeal.Read.val_main_v15, AdamwBranchRefIdeal.Read.val_main_cst_4, AdamwBranchRefIdeal.Read.val_main_v18, AdamwBranchRefIdeal.Read.val_main_cst_5, AdamwBranchRefIdeal.Read.val_main_v22, AdamwBranchRefIdeal.Read.val_main_v21, AdamwBranchRefIdeal.Read.val_main_cst_6]

theorem eq6 (g : FVec Ideal S512x256 .f32) (u : FVec Ideal S1x512x256 .f32) : mom g u = Cert.AdamwBranchRefIdeal.Read.val_main_v5 (F := Ideal) g u := by
  funext i
  pointwise [mom, AdamwStep.mom, AdamwBranchRefIdeal.Read.val_main_v5, AdamwBranchRefIdeal.Read.val_main_v1, AdamwBranchRefIdeal.Read.val_main_v0, AdamwBranchRefIdeal.Read.val_main_cst, AdamwBranchRefIdeal.Read.val_main_v4, AdamwBranchRefIdeal.Read.val_main_v3, AdamwBranchRefIdeal.Read.val_main_v2, AdamwBranchRefIdeal.Read.val_main_cst_0]

theorem eq7 (g : FVec Ideal S512x256 .f32) (v : FVec Ideal S1x512x256 .f32) : sqm g v = Cert.AdamwBranchRefIdeal.Read.val_main_v12 (F := Ideal) g v := by
  funext i
  pointwise [sqm, AdamwStep.sqm, AdamwBranchRefIdeal.Read.val_main_v12, AdamwBranchRefIdeal.Read.val_main_v7, AdamwBranchRefIdeal.Read.val_main_v6, AdamwBranchRefIdeal.Read.val_main_cst_1, AdamwBranchRefIdeal.Read.val_main_v11, AdamwBranchRefIdeal.Read.val_main_v10, AdamwBranchRefIdeal.Read.val_main_v9, AdamwBranchRefIdeal.Read.val_main_cst_2, AdamwBranchRefIdeal.Read.val_main_v8]

end Cert.AdamwBranchFinal

end
-- ==== Proof.AdamwBranchClaim.lean ====
module

public import proofs.«01_k».proof.Defs
public import proofs.«01_k».proof.Proof.AdamwBranchValue
public import proofs.«01_k».proof.Proof.Gen.AdamwBranchRefIdeal.Run

/-! The claims about the AdamW update of a shard of a branch's projection. -/

@[expose] public section

set_option maxRecDepth 16384

noncomputable section

namespace Cert.AdamwBranchFinal

open Idealize.ShloMosaic Idealize.ShloMosaic.TcCoe Idealize.SL.Sem

/-- The reference leaves its arguments, and it has no counters. -/
theorem quiescent_ref : Cert.quiescent_AdamwBranchRefIdeal := fun m g _ =>
  (θ_run Cert.AdamwBranchRefIdeal.defs _ _).mono
    (fun r h => ⟨fun c => (h c).2.2.2.2, sem_eq_zero_of_no_sems (by decide) r.2⟩)
    (Cert.AdamwBranchRefIdeal.Value.run m g)

/-- Both programs leave the same results. -/
theorem algebraic : Cert.algebraic_AdamwBranchIdeal_AdamwBranchRefIdeal := by
  pair_intro
  · run_from Cert.AdamwBranchIdeal.Value.run_blocks m g
  · run_from Cert.AdamwBranchRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwBranchFinal

end
-- ==== Proof.AdamwOutValue.lean ====
module

public import proofs.«01_k».proof.Proof.Gen.AdamwOutIdeal.Value
public import proofs.«01_k».proof.Proof.Gen.AdamwOutRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of a shard of the output projection. -/

@[expose] public section

set_option maxRecDepth 16384

noncomputable section

namespace Cert.AdamwOutFinal

open Idealize.ShloMosaic Idealize.ShloMosaic.TcCoe Idealize.SL.Sem
open Idealize.ShloMosaic.Pipeline (Dat)
open Cert.AdamwOutIdeal Cert.AdamwOutIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S256x1024 .f32) : FVec Ideal S1x256x1024 .f32 := fun i => g (ix2 (i 1) (i 2))
def mom (g : FVec Ideal S256x1024 .f32) (u : FVec Ideal S1x256x1024 .f32) : FVec Ideal S1x256x1024 .f32 := fun i => AdamwStep.mom (g (ix2 (i 1) (i 2))) (u i)
def sqm (g : FVec Ideal S256x1024 .f32) (v : FVec Ideal S1x256x1024 .f32) : FVec Ideal S1x256x1024 .f32 := fun i => AdamwStep.sqm (g (ix2 (i 1) (i 2))) (v i)
def delta (w : FVec Ideal S1x256x1024 .f32) (g : FVec Ideal S256x1024 .f32) (u v : FVec Ideal S1x256x1024 .f32) : FVec Ideal S1x256x1024 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S256x1024 .f32) : grad g = Cert.AdamwOutRefIdeal.Read.val_main_v26 (F := Ideal) g := by
  funext i
  pointwise [grad, AdamwOutRefIdeal.Read.val_main_v26]

theorem eq5 (w : FVec Ideal S1x256x1024 .f32) (g : FVec Ideal S256x1024 .f32) (u v : FVec Ideal S1x256x1024 .f32) : delta w g u v = Cert.AdamwOutRefIdeal.Read.val_main_v25 (F := Ideal) w g u v := by
  funext i
  pointwise [delta, mom, sqm, AdamwStep.mom, AdamwStep.sqm, AdamwStep.delta, AdamwOutRefIdeal.Read.val_main_v25, AdamwOutRefIdeal.Read.val_main_v24, AdamwOutRefIdeal.Read.val_main_cst_7, AdamwOutRefIdeal.Read.val_main_v23, AdamwOutRefIdeal.Read.val_main_v20, AdamwOutRefIdeal.Read.val_main_v14, AdamwOutRefIdeal.Read.val_main_v5, AdamwOutRefIdeal.Read.val_main_v1, AdamwOutRefIdeal.Read.val_main_v0, AdamwOutRefIdeal.Read.val_main_cst, AdamwOutRefIdeal.Read.val_main_v4, AdamwOutRefIdeal.Read.val_main_v3, AdamwOutRefIdeal.Read.val_main_v2, AdamwOutRefIdeal.Read.val_main_cst_0, AdamwOutRefIdeal.Read.val_main_v13, AdamwOutRefIdeal.Read.val_main_cst_3, AdamwOutRefIdeal.Read.val_main_v19, AdamwOutRefIdeal.Read.val_main_v17, AdamwOutRefIdeal.Read.val_main_v16, AdamwOutRefIdeal.Read.val_main_v12, AdamwOutRefIdeal.Read.val_main_v7, AdamwOutRefIdeal.Read.val_main_v6, AdamwOutRefIdeal.Read.val_main_cst_1, AdamwOutRefIdeal.Read.val_main_v11, AdamwOutRefIdeal.Read.val_main_v10, AdamwOutRefIdeal.Read.val_main_v9, AdamwOutRefIdeal.Read.val_main_cst_2, AdamwOutRefIdeal.Read.val_main_v8, AdamwOutRefIdeal.Read.val_main_v15, AdamwOutRefIdeal.Read.val_main_cst_4, AdamwOutRefIdeal.Read.val_main_v18, AdamwOutRefIdeal.Read.val_main_cst_5, AdamwOutRefIdeal.Read.val_main_v22, AdamwOutRefIdeal.Read.val_main_v21, AdamwOutRefIdeal.Read.val_main_cst_6]

theorem eq6 (g : FVec Ideal S256x1024 .f32) (u : FVec Ideal S1x256x1024 .f32) : mom g u = Cert.AdamwOutRefIdeal.Read.val_main_v5 (F := Ideal) g u := by
  funext i
  pointwise [mom, AdamwStep.mom, AdamwOutRefIdeal.Read.val_main_v5, AdamwOutRefIdeal.Read.val_main_v1, AdamwOutRefIdeal.Read.val_main_v0, AdamwOutRefIdeal.Read.val_main_cst, AdamwOutRefIdeal.Read.val_main_v4, AdamwOutRefIdeal.Read.val_main_v3, AdamwOutRefIdeal.Read.val_main_v2, AdamwOutRefIdeal.Read.val_main_cst_0]

theorem eq7 (g : FVec Ideal S256x1024 .f32) (v : FVec Ideal S1x256x1024 .f32) : sqm g v = Cert.AdamwOutRefIdeal.Read.val_main_v12 (F := Ideal) g v := by
  funext i
  pointwise [sqm, AdamwStep.sqm, AdamwOutRefIdeal.Read.val_main_v12, AdamwOutRefIdeal.Read.val_main_v7, AdamwOutRefIdeal.Read.val_main_v6, AdamwOutRefIdeal.Read.val_main_cst_1, AdamwOutRefIdeal.Read.val_main_v11, AdamwOutRefIdeal.Read.val_main_v10, AdamwOutRefIdeal.Read.val_main_v9, AdamwOutRefIdeal.Read.val_main_cst_2, AdamwOutRefIdeal.Read.val_main_v8]

end Cert.AdamwOutFinal

end
-- ==== Proof.AdamwOutClaim.lean ====
module

public import proofs.«01_k».proof.Defs
public import proofs.«01_k».proof.Proof.AdamwOutValue
public import proofs.«01_k».proof.Proof.Gen.AdamwOutRefIdeal.Run

/-! The claims about the AdamW update of a shard of the output projection. -/

@[expose] public section

set_option maxRecDepth 16384

noncomputable section

namespace Cert.AdamwOutFinal

open Idealize.ShloMosaic Idealize.ShloMosaic.TcCoe Idealize.SL.Sem

/-- The reference leaves its arguments, and it has no counters. -/
theorem quiescent_ref : Cert.quiescent_AdamwOutRefIdeal := fun m g _ =>
  (θ_run Cert.AdamwOutRefIdeal.defs _ _).mono
    (fun r h => ⟨fun c => (h c).2.2.2.2, sem_eq_zero_of_no_sems (by decide) r.2⟩)
    (Cert.AdamwOutRefIdeal.Value.run m g)

/-- Both programs leave the same results. -/
theorem algebraic : Cert.algebraic_AdamwOutIdeal_AdamwOutRefIdeal := by
  pair_intro
  · run_from Cert.AdamwOutIdeal.Value.run_blocks m g
  · run_from Cert.AdamwOutRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwOutFinal

end
-- ==== Proof.AdamwGainValue.lean ====
module

public import proofs.«01_k».proof.Proof.Gen.AdamwGainIdeal.Value
public import proofs.«01_k».proof.Proof.Gen.AdamwGainRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of a norm's gain. -/

@[expose] public section

set_option maxRecDepth 16384

noncomputable section

namespace Cert.AdamwGainFinal

open Idealize.ShloMosaic Idealize.ShloMosaic.TcCoe Idealize.SL.Sem
open Idealize.ShloMosaic.Pipeline (Dat)
open Cert.AdamwGainIdeal Cert.AdamwGainIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1x1024 .f32) : FVec Ideal S1x1x1024 .f32 := fun i => g (ix2 0 (i 2))
def mom (g : FVec Ideal S1x1024 .f32) (u : FVec Ideal S1x1x1024 .f32) : FVec Ideal S1x1x1024 .f32 := fun i => AdamwStep.mom (g (ix2 0 (i 2))) (u i)
def sqm (g : FVec Ideal S1x1024 .f32) (v : FVec Ideal S1x1x1024 .f32) : FVec Ideal S1x1x1024 .f32 := fun i => AdamwStep.sqm (g (ix2 0 (i 2))) (v i)
def delta (w : FVec Ideal S1x1x1024 .f32) (g : FVec Ideal S1x1024 .f32) (u v : FVec Ideal S1x1x1024 .f32) : FVec Ideal S1x1x1024 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1x1024 .f32) : grad g = Cert.AdamwGainRefIdeal.Read.val_main_v26 (F := Ideal) g := by
  funext i
  pointwise [grad, AdamwGainRefIdeal.Read.val_main_v26]

theorem eq5 (w : FVec Ideal S1x1x1024 .f32) (g : FVec Ideal S1x1024 .f32) (u v : FVec Ideal S1x1x1024 .f32) : delta w g u v = Cert.AdamwGainRefIdeal.Read.val_main_v25 (F := Ideal) w g u v := by
  funext i
  pointwise [delta, mom, sqm, AdamwStep.mom, AdamwStep.sqm, AdamwStep.delta, AdamwGainRefIdeal.Read.val_main_v25, AdamwGainRefIdeal.Read.val_main_v24, AdamwGainRefIdeal.Read.val_main_cst_7, AdamwGainRefIdeal.Read.val_main_v23, AdamwGainRefIdeal.Read.val_main_v20, AdamwGainRefIdeal.Read.val_main_v14, AdamwGainRefIdeal.Read.val_main_v5, AdamwGainRefIdeal.Read.val_main_v1, AdamwGainRefIdeal.Read.val_main_v0, AdamwGainRefIdeal.Read.val_main_cst, AdamwGainRefIdeal.Read.val_main_v4, AdamwGainRefIdeal.Read.val_main_v3, AdamwGainRefIdeal.Read.val_main_v2, AdamwGainRefIdeal.Read.val_main_cst_0, AdamwGainRefIdeal.Read.val_main_v13, AdamwGainRefIdeal.Read.val_main_cst_3, AdamwGainRefIdeal.Read.val_main_v19, AdamwGainRefIdeal.Read.val_main_v17, AdamwGainRefIdeal.Read.val_main_v16, AdamwGainRefIdeal.Read.val_main_v12, AdamwGainRefIdeal.Read.val_main_v7, AdamwGainRefIdeal.Read.val_main_v6, AdamwGainRefIdeal.Read.val_main_cst_1, AdamwGainRefIdeal.Read.val_main_v11, AdamwGainRefIdeal.Read.val_main_v10, AdamwGainRefIdeal.Read.val_main_v9, AdamwGainRefIdeal.Read.val_main_cst_2, AdamwGainRefIdeal.Read.val_main_v8, AdamwGainRefIdeal.Read.val_main_v15, AdamwGainRefIdeal.Read.val_main_cst_4, AdamwGainRefIdeal.Read.val_main_v18, AdamwGainRefIdeal.Read.val_main_cst_5, AdamwGainRefIdeal.Read.val_main_v22, AdamwGainRefIdeal.Read.val_main_v21, AdamwGainRefIdeal.Read.val_main_cst_6]

theorem eq6 (g : FVec Ideal S1x1024 .f32) (u : FVec Ideal S1x1x1024 .f32) : mom g u = Cert.AdamwGainRefIdeal.Read.val_main_v5 (F := Ideal) g u := by
  funext i
  pointwise [mom, AdamwStep.mom, AdamwGainRefIdeal.Read.val_main_v5, AdamwGainRefIdeal.Read.val_main_v1, AdamwGainRefIdeal.Read.val_main_v0, AdamwGainRefIdeal.Read.val_main_cst, AdamwGainRefIdeal.Read.val_main_v4, AdamwGainRefIdeal.Read.val_main_v3, AdamwGainRefIdeal.Read.val_main_v2, AdamwGainRefIdeal.Read.val_main_cst_0]

theorem eq7 (g : FVec Ideal S1x1024 .f32) (v : FVec Ideal S1x1x1024 .f32) : sqm g v = Cert.AdamwGainRefIdeal.Read.val_main_v12 (F := Ideal) g v := by
  funext i
  pointwise [sqm, AdamwStep.sqm, AdamwGainRefIdeal.Read.val_main_v12, AdamwGainRefIdeal.Read.val_main_v7, AdamwGainRefIdeal.Read.val_main_v6, AdamwGainRefIdeal.Read.val_main_cst_1, AdamwGainRefIdeal.Read.val_main_v11, AdamwGainRefIdeal.Read.val_main_v10, AdamwGainRefIdeal.Read.val_main_v9, AdamwGainRefIdeal.Read.val_main_cst_2, AdamwGainRefIdeal.Read.val_main_v8]

end Cert.AdamwGainFinal

end
-- ==== Proof.AdamwGainClaim.lean ====
module

public import proofs.«01_k».proof.Defs
public import proofs.«01_k».proof.Proof.AdamwGainValue
public import proofs.«01_k».proof.Proof.Gen.AdamwGainRefIdeal.Run

/-! The claims about the AdamW update of a norm's gain. -/

@[expose] public section

set_option maxRecDepth 16384

noncomputable section

namespace Cert.AdamwGainFinal

open Idealize.ShloMosaic Idealize.ShloMosaic.TcCoe Idealize.SL.Sem

/-- The reference leaves its arguments, and it has no counters. -/
theorem quiescent_ref : Cert.quiescent_AdamwGainRefIdeal := fun m g _ =>
  (θ_run Cert.AdamwGainRefIdeal.defs _ _).mono
    (fun r h => ⟨fun c => (h c).2.2.2.2, sem_eq_zero_of_no_sems (by decide) r.2⟩)
    (Cert.AdamwGainRefIdeal.Value.run m g)

/-- Both programs leave the same results. -/
theorem algebraic : Cert.algebraic_AdamwGainIdeal_AdamwGainRefIdeal := by
  pair_intro
  · run_from Cert.AdamwGainIdeal.Value.run_blocks m g
  · run_from Cert.AdamwGainRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwGainFinal

end
-- ==== Proof.AdamwForgetValue.lean ====
module

public import proofs.«01_k».proof.Proof.Gen.AdamwForgetIdeal.Value
public import proofs.«01_k».proof.Proof.Gen.AdamwForgetRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of the forget gates' bias. -/

@[expose] public section

set_option maxRecDepth 16384

noncomputable section

namespace Cert.AdamwForgetFinal

open Idealize.ShloMosaic Idealize.ShloMosaic.TcCoe Idealize.SL.Sem
open Idealize.ShloMosaic.Pipeline (Dat)
open Cert.AdamwForgetIdeal Cert.AdamwForgetIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1x8 .f32) : FVec Ideal S1x1x8 .f32 := fun i => g (ix2 0 (i 2))
def mom (g : FVec Ideal S1x8 .f32) (u : FVec Ideal S1x1x8 .f32) : FVec Ideal S1x1x8 .f32 := fun i => AdamwStep.mom (g (ix2 0 (i 2))) (u i)
def sqm (g : FVec Ideal S1x8 .f32) (v : FVec Ideal S1x1x8 .f32) : FVec Ideal S1x1x8 .f32 := fun i => AdamwStep.sqm (g (ix2 0 (i 2))) (v i)
def delta (w : FVec Ideal S1x1x8 .f32) (g : FVec Ideal S1x8 .f32) (u v : FVec Ideal S1x1x8 .f32) : FVec Ideal S1x1x8 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1x8 .f32) : grad g = Cert.AdamwForgetRefIdeal.Read.val_main_v26 (F := Ideal) g := by
  funext i
  pointwise [grad, AdamwForgetRefIdeal.Read.val_main_v26]

theorem eq5 (w : FVec Ideal S1x1x8 .f32) (g : FVec Ideal S1x8 .f32) (u v : FVec Ideal S1x1x8 .f32) : delta w g u v = Cert.AdamwForgetRefIdeal.Read.val_main_v25 (F := Ideal) w g u v := by
  funext i
  pointwise [delta, mom, sqm, AdamwStep.mom, AdamwStep.sqm, AdamwStep.delta, AdamwForgetRefIdeal.Read.val_main_v25, AdamwForgetRefIdeal.Read.val_main_v24, AdamwForgetRefIdeal.Read.val_main_cst_7, AdamwForgetRefIdeal.Read.val_main_v23, AdamwForgetRefIdeal.Read.val_main_v20, AdamwForgetRefIdeal.Read.val_main_v14, AdamwForgetRefIdeal.Read.val_main_v5, AdamwForgetRefIdeal.Read.val_main_v1, AdamwForgetRefIdeal.Read.val_main_v0, AdamwForgetRefIdeal.Read.val_main_cst, AdamwForgetRefIdeal.Read.val_main_v4, AdamwForgetRefIdeal.Read.val_main_v3, AdamwForgetRefIdeal.Read.val_main_v2, AdamwForgetRefIdeal.Read.val_main_cst_0, AdamwForgetRefIdeal.Read.val_main_v13, AdamwForgetRefIdeal.Read.val_main_cst_3, AdamwForgetRefIdeal.Read.val_main_v19, AdamwForgetRefIdeal.Read.val_main_v17, AdamwForgetRefIdeal.Read.val_main_v16, AdamwForgetRefIdeal.Read.val_main_v12, AdamwForgetRefIdeal.Read.val_main_v7, AdamwForgetRefIdeal.Read.val_main_v6, AdamwForgetRefIdeal.Read.val_main_cst_1, AdamwForgetRefIdeal.Read.val_main_v11, AdamwForgetRefIdeal.Read.val_main_v10, AdamwForgetRefIdeal.Read.val_main_v9, AdamwForgetRefIdeal.Read.val_main_cst_2, AdamwForgetRefIdeal.Read.val_main_v8, AdamwForgetRefIdeal.Read.val_main_v15, AdamwForgetRefIdeal.Read.val_main_cst_4, AdamwForgetRefIdeal.Read.val_main_v18, AdamwForgetRefIdeal.Read.val_main_cst_5, AdamwForgetRefIdeal.Read.val_main_v22, AdamwForgetRefIdeal.Read.val_main_v21, AdamwForgetRefIdeal.Read.val_main_cst_6]

theorem eq6 (g : FVec Ideal S1x8 .f32) (u : FVec Ideal S1x1x8 .f32) : mom g u = Cert.AdamwForgetRefIdeal.Read.val_main_v5 (F := Ideal) g u := by
  funext i
  pointwise [mom, AdamwStep.mom, AdamwForgetRefIdeal.Read.val_main_v5, AdamwForgetRefIdeal.Read.val_main_v1, AdamwForgetRefIdeal.Read.val_main_v0, AdamwForgetRefIdeal.Read.val_main_cst, AdamwForgetRefIdeal.Read.val_main_v4, AdamwForgetRefIdeal.Read.val_main_v3, AdamwForgetRefIdeal.Read.val_main_v2, AdamwForgetRefIdeal.Read.val_main_cst_0]

theorem eq7 (g : FVec Ideal S1x8 .f32) (v : FVec Ideal S1x1x8 .f32) : sqm g v = Cert.AdamwForgetRefIdeal.Read.val_main_v12 (F := Ideal) g v := by
  funext i
  pointwise [sqm, AdamwStep.sqm, AdamwForgetRefIdeal.Read.val_main_v12, AdamwForgetRefIdeal.Read.val_main_v7, AdamwForgetRefIdeal.Read.val_main_v6, AdamwForgetRefIdeal.Read.val_main_cst_1, AdamwForgetRefIdeal.Read.val_main_v11, AdamwForgetRefIdeal.Read.val_main_v10, AdamwForgetRefIdeal.Read.val_main_v9, AdamwForgetRefIdeal.Read.val_main_cst_2, AdamwForgetRefIdeal.Read.val_main_v8]

end Cert.AdamwForgetFinal

end
-- ==== Proof.AdamwForgetClaim.lean ====
module

public import proofs.«01_k».proof.Defs
public import proofs.«01_k».proof.Proof.AdamwForgetValue
public import proofs.«01_k».proof.Proof.Gen.AdamwForgetRefIdeal.Run

/-! The claims about the AdamW update of the forget gates' bias. -/

@[expose] public section

set_option maxRecDepth 16384

noncomputable section

namespace Cert.AdamwForgetFinal

open Idealize.ShloMosaic Idealize.ShloMosaic.TcCoe Idealize.SL.Sem

/-- The reference leaves its arguments, and it has no counters. -/
theorem quiescent_ref : Cert.quiescent_AdamwForgetRefIdeal := fun m g _ =>
  (θ_run Cert.AdamwForgetRefIdeal.defs _ _).mono
    (fun r h => ⟨fun c => (h c).2.2.2.2, sem_eq_zero_of_no_sems (by decide) r.2⟩)
    (Cert.AdamwForgetRefIdeal.Value.run m g)

/-- Both programs leave the same results. -/
theorem algebraic : Cert.algebraic_AdamwForgetIdeal_AdamwForgetRefIdeal := by
  pair_intro
  · run_from Cert.AdamwForgetIdeal.Value.run_blocks m g
  · run_from Cert.AdamwForgetRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwForgetFinal

end
-- ==== Proof.AdamwSguValue.lean ====
module

public import proofs.«01_k».proof.Proof.Gen.AdamwSguIdeal.Value
public import proofs.«01_k».proof.Proof.Gen.AdamwSguRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of the spatial gate's gain or bias. -/

@[expose] public section

set_option maxRecDepth 16384

noncomputable section

namespace Cert.AdamwSguFinal

open Idealize.ShloMosaic Idealize.ShloMosaic.TcCoe Idealize.SL.Sem
open Idealize.ShloMosaic.Pipeline (Dat)
open Cert.AdamwSguIdeal Cert.AdamwSguIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1x512 .f32) : FVec Ideal S1x1x512 .f32 := fun i => g (ix2 0 (i 2))
def mom (g : FVec Ideal S1x512 .f32) (u : FVec Ideal S1x1x512 .f32) : FVec Ideal S1x1x512 .f32 := fun i => AdamwStep.mom (g (ix2 0 (i 2))) (u i)
def sqm (g : FVec Ideal S1x512 .f32) (v : FVec Ideal S1x1x512 .f32) : FVec Ideal S1x1x512 .f32 := fun i => AdamwStep.sqm (g (ix2 0 (i 2))) (v i)
def delta (w : FVec Ideal S1x1x512 .f32) (g : FVec Ideal S1x512 .f32) (u v : FVec Ideal S1x1x512 .f32) : FVec Ideal S1x1x512 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1x512 .f32) : grad g = Cert.AdamwSguRefIdeal.Read.val_main_v26 (F := Ideal) g := by
  funext i
  pointwise [grad, AdamwSguRefIdeal.Read.val_main_v26]

theorem eq5 (w : FVec Ideal S1x1x512 .f32) (g : FVec Ideal S1x512 .f32) (u v : FVec Ideal S1x1x512 .f32) : delta w g u v = Cert.AdamwSguRefIdeal.Read.val_main_v25 (F := Ideal) w g u v := by
  funext i
  pointwise [delta, mom, sqm, AdamwStep.mom, AdamwStep.sqm, AdamwStep.delta, AdamwSguRefIdeal.Read.val_main_v25, AdamwSguRefIdeal.Read.val_main_v24, AdamwSguRefIdeal.Read.val_main_cst_7, AdamwSguRefIdeal.Read.val_main_v23, AdamwSguRefIdeal.Read.val_main_v20, AdamwSguRefIdeal.Read.val_main_v14, AdamwSguRefIdeal.Read.val_main_v5, AdamwSguRefIdeal.Read.val_main_v1, AdamwSguRefIdeal.Read.val_main_v0, AdamwSguRefIdeal.Read.val_main_cst, AdamwSguRefIdeal.Read.val_main_v4, AdamwSguRefIdeal.Read.val_main_v3, AdamwSguRefIdeal.Read.val_main_v2, AdamwSguRefIdeal.Read.val_main_cst_0, AdamwSguRefIdeal.Read.val_main_v13, AdamwSguRefIdeal.Read.val_main_cst_3, AdamwSguRefIdeal.Read.val_main_v19, AdamwSguRefIdeal.Read.val_main_v17, AdamwSguRefIdeal.Read.val_main_v16, AdamwSguRefIdeal.Read.val_main_v12, AdamwSguRefIdeal.Read.val_main_v7, AdamwSguRefIdeal.Read.val_main_v6, AdamwSguRefIdeal.Read.val_main_cst_1, AdamwSguRefIdeal.Read.val_main_v11, AdamwSguRefIdeal.Read.val_main_v10, AdamwSguRefIdeal.Read.val_main_v9, AdamwSguRefIdeal.Read.val_main_cst_2, AdamwSguRefIdeal.Read.val_main_v8, AdamwSguRefIdeal.Read.val_main_v15, AdamwSguRefIdeal.Read.val_main_cst_4, AdamwSguRefIdeal.Read.val_main_v18, AdamwSguRefIdeal.Read.val_main_cst_5, AdamwSguRefIdeal.Read.val_main_v22, AdamwSguRefIdeal.Read.val_main_v21, AdamwSguRefIdeal.Read.val_main_cst_6]

theorem eq6 (g : FVec Ideal S1x512 .f32) (u : FVec Ideal S1x1x512 .f32) : mom g u = Cert.AdamwSguRefIdeal.Read.val_main_v5 (F := Ideal) g u := by
  funext i
  pointwise [mom, AdamwStep.mom, AdamwSguRefIdeal.Read.val_main_v5, AdamwSguRefIdeal.Read.val_main_v1, AdamwSguRefIdeal.Read.val_main_v0, AdamwSguRefIdeal.Read.val_main_cst, AdamwSguRefIdeal.Read.val_main_v4, AdamwSguRefIdeal.Read.val_main_v3, AdamwSguRefIdeal.Read.val_main_v2, AdamwSguRefIdeal.Read.val_main_cst_0]

theorem eq7 (g : FVec Ideal S1x512 .f32) (v : FVec Ideal S1x1x512 .f32) : sqm g v = Cert.AdamwSguRefIdeal.Read.val_main_v12 (F := Ideal) g v := by
  funext i
  pointwise [sqm, AdamwStep.sqm, AdamwSguRefIdeal.Read.val_main_v12, AdamwSguRefIdeal.Read.val_main_v7, AdamwSguRefIdeal.Read.val_main_v6, AdamwSguRefIdeal.Read.val_main_cst_1, AdamwSguRefIdeal.Read.val_main_v11, AdamwSguRefIdeal.Read.val_main_v10, AdamwSguRefIdeal.Read.val_main_v9, AdamwSguRefIdeal.Read.val_main_cst_2, AdamwSguRefIdeal.Read.val_main_v8]

end Cert.AdamwSguFinal

end
-- ==== Proof.AdamwSguClaim.lean ====
module

public import proofs.«01_k».proof.Defs
public import proofs.«01_k».proof.Proof.AdamwSguValue
public import proofs.«01_k».proof.Proof.Gen.AdamwSguRefIdeal.Run

/-! The claims about the AdamW update of the spatial gate's gain or bias. -/

@[expose] public section

set_option maxRecDepth 16384

noncomputable section

namespace Cert.AdamwSguFinal

open Idealize.ShloMosaic Idealize.ShloMosaic.TcCoe Idealize.SL.Sem

/-- The reference leaves its arguments, and it has no counters. -/
theorem quiescent_ref : Cert.quiescent_AdamwSguRefIdeal := fun m g _ =>
  (θ_run Cert.AdamwSguRefIdeal.defs _ _).mono
    (fun r h => ⟨fun c => (h c).2.2.2.2, sem_eq_zero_of_no_sems (by decide) r.2⟩)
    (Cert.AdamwSguRefIdeal.Value.run m g)

/-- Both programs leave the same results. -/
theorem algebraic : Cert.algebraic_AdamwSguIdeal_AdamwSguRefIdeal := by
  pair_intro
  · run_from Cert.AdamwSguIdeal.Value.run_blocks m g
  · run_from Cert.AdamwSguRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwSguFinal

end
-- ==== Proof.AdamwSpatialValue.lean ====
module

public import proofs.«01_k».proof.Proof.Gen.AdamwSpatialIdeal.Value
public import proofs.«01_k».proof.Proof.Gen.AdamwSpatialRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of the spatial weights. -/

@[expose] public section

set_option maxRecDepth 16384

noncomputable section

namespace Cert.AdamwSpatialFinal

open Idealize.ShloMosaic Idealize.ShloMosaic.TcCoe Idealize.SL.Sem
open Idealize.ShloMosaic.Pipeline (Dat)
open Cert.AdamwSpatialIdeal Cert.AdamwSpatialIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S1024x128 .f32) : FVec Ideal S1x1024x128 .f32 := fun i => g (ix2 (i 1) (i 2))
def mom (g : FVec Ideal S1024x128 .f32) (u : FVec Ideal S1x1024x128 .f32) : FVec Ideal S1x1024x128 .f32 := fun i => AdamwStep.mom (g (ix2 (i 1) (i 2))) (u i)
def sqm (g : FVec Ideal S1024x128 .f32) (v : FVec Ideal S1x1024x128 .f32) : FVec Ideal S1x1024x128 .f32 := fun i => AdamwStep.sqm (g (ix2 (i 1) (i 2))) (v i)
def delta (w : FVec Ideal S1x1024x128 .f32) (g : FVec Ideal S1024x128 .f32) (u v : FVec Ideal S1x1024x128 .f32) : FVec Ideal S1x1024x128 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S1024x128 .f32) : grad g = Cert.AdamwSpatialRefIdeal.Read.val_main_v26 (F := Ideal) g := by
  funext i
  pointwise [grad, AdamwSpatialRefIdeal.Read.val_main_v26]

theorem eq5 (w : FVec Ideal S1x1024x128 .f32) (g : FVec Ideal S1024x128 .f32) (u v : FVec Ideal S1x1024x128 .f32) : delta w g u v = Cert.AdamwSpatialRefIdeal.Read.val_main_v25 (F := Ideal) w g u v := by
  funext i
  pointwise [delta, mom, sqm, AdamwStep.mom, AdamwStep.sqm, AdamwStep.delta, AdamwSpatialRefIdeal.Read.val_main_v25, AdamwSpatialRefIdeal.Read.val_main_v24, AdamwSpatialRefIdeal.Read.val_main_cst_7, AdamwSpatialRefIdeal.Read.val_main_v23, AdamwSpatialRefIdeal.Read.val_main_v20, AdamwSpatialRefIdeal.Read.val_main_v14, AdamwSpatialRefIdeal.Read.val_main_v5, AdamwSpatialRefIdeal.Read.val_main_v1, AdamwSpatialRefIdeal.Read.val_main_v0, AdamwSpatialRefIdeal.Read.val_main_cst, AdamwSpatialRefIdeal.Read.val_main_v4, AdamwSpatialRefIdeal.Read.val_main_v3, AdamwSpatialRefIdeal.Read.val_main_v2, AdamwSpatialRefIdeal.Read.val_main_cst_0, AdamwSpatialRefIdeal.Read.val_main_v13, AdamwSpatialRefIdeal.Read.val_main_cst_3, AdamwSpatialRefIdeal.Read.val_main_v19, AdamwSpatialRefIdeal.Read.val_main_v17, AdamwSpatialRefIdeal.Read.val_main_v16, AdamwSpatialRefIdeal.Read.val_main_v12, AdamwSpatialRefIdeal.Read.val_main_v7, AdamwSpatialRefIdeal.Read.val_main_v6, AdamwSpatialRefIdeal.Read.val_main_cst_1, AdamwSpatialRefIdeal.Read.val_main_v11, AdamwSpatialRefIdeal.Read.val_main_v10, AdamwSpatialRefIdeal.Read.val_main_v9, AdamwSpatialRefIdeal.Read.val_main_cst_2, AdamwSpatialRefIdeal.Read.val_main_v8, AdamwSpatialRefIdeal.Read.val_main_v15, AdamwSpatialRefIdeal.Read.val_main_cst_4, AdamwSpatialRefIdeal.Read.val_main_v18, AdamwSpatialRefIdeal.Read.val_main_cst_5, AdamwSpatialRefIdeal.Read.val_main_v22, AdamwSpatialRefIdeal.Read.val_main_v21, AdamwSpatialRefIdeal.Read.val_main_cst_6]

theorem eq6 (g : FVec Ideal S1024x128 .f32) (u : FVec Ideal S1x1024x128 .f32) : mom g u = Cert.AdamwSpatialRefIdeal.Read.val_main_v5 (F := Ideal) g u := by
  funext i
  pointwise [mom, AdamwStep.mom, AdamwSpatialRefIdeal.Read.val_main_v5, AdamwSpatialRefIdeal.Read.val_main_v1, AdamwSpatialRefIdeal.Read.val_main_v0, AdamwSpatialRefIdeal.Read.val_main_cst, AdamwSpatialRefIdeal.Read.val_main_v4, AdamwSpatialRefIdeal.Read.val_main_v3, AdamwSpatialRefIdeal.Read.val_main_v2, AdamwSpatialRefIdeal.Read.val_main_cst_0]

theorem eq7 (g : FVec Ideal S1024x128 .f32) (v : FVec Ideal S1x1024x128 .f32) : sqm g v = Cert.AdamwSpatialRefIdeal.Read.val_main_v12 (F := Ideal) g v := by
  funext i
  pointwise [sqm, AdamwStep.sqm, AdamwSpatialRefIdeal.Read.val_main_v12, AdamwSpatialRefIdeal.Read.val_main_v7, AdamwSpatialRefIdeal.Read.val_main_v6, AdamwSpatialRefIdeal.Read.val_main_cst_1, AdamwSpatialRefIdeal.Read.val_main_v11, AdamwSpatialRefIdeal.Read.val_main_v10, AdamwSpatialRefIdeal.Read.val_main_v9, AdamwSpatialRefIdeal.Read.val_main_cst_2, AdamwSpatialRefIdeal.Read.val_main_v8]

end Cert.AdamwSpatialFinal

end
-- ==== Proof.AdamwSpatialClaim.lean ====
module

public import proofs.«01_k».proof.Defs
public import proofs.«01_k».proof.Proof.AdamwSpatialValue
public import proofs.«01_k».proof.Proof.Gen.AdamwSpatialRefIdeal.Run

/-! The claims about the AdamW update of the spatial weights. -/

@[expose] public section

set_option maxRecDepth 16384

noncomputable section

namespace Cert.AdamwSpatialFinal

open Idealize.ShloMosaic Idealize.ShloMosaic.TcCoe Idealize.SL.Sem

/-- The reference leaves its arguments, and it has no counters. -/
theorem quiescent_ref : Cert.quiescent_AdamwSpatialRefIdeal := fun m g _ =>
  (θ_run Cert.AdamwSpatialRefIdeal.defs _ _).mono
    (fun r h => ⟨fun c => (h c).2.2.2.2, sem_eq_zero_of_no_sems (by decide) r.2⟩)
    (Cert.AdamwSpatialRefIdeal.Value.run m g)

/-- Both programs leave the same results. -/
theorem algebraic : Cert.algebraic_AdamwSpatialIdeal_AdamwSpatialRefIdeal := by
  pair_intro
  · run_from Cert.AdamwSpatialIdeal.Value.run_blocks m g
  · run_from Cert.AdamwSpatialRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwSpatialFinal

end
-- ==== Proof.AdamwBiasValue.lean ====
module

public import proofs.«01_k».proof.Proof.Gen.AdamwBiasIdeal.Value
public import proofs.«01_k».proof.Proof.Gen.AdamwBiasRefIdeal.Read
public import proofs.«01_k».proof.Proof.AdamwStep
public import Idealize.ShloMosaic.Lib.Pipeline.ValueKit
public import Idealize.ShloMosaic.Lib.Claim
public import Idealize.ShloMosaic.Lib.StableHlo.RunRead

/-! The AdamW update of the spatial bias. -/

@[expose] public section

set_option maxRecDepth 16384

noncomputable section

namespace Cert.AdamwBiasFinal

open Idealize.ShloMosaic Idealize.ShloMosaic.TcCoe Idealize.SL.Sem
open Idealize.ShloMosaic.Pipeline (Dat)
open Cert.AdamwBiasIdeal Cert.AdamwBiasIdeal.Gen

variable (m : (ℓ : Loc nD τ sig) → Buf (Elt Ideal) ℓ)

theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- The gradient, the two moments, and the step. -/
def grad (g : FVec Ideal S8x128 .f32) : FVec Ideal S1x8x128 .f32 := fun i => g (ix2 (i 1) (i 2))
def mom (g : FVec Ideal S8x128 .f32) (u : FVec Ideal S1x8x128 .f32) : FVec Ideal S1x8x128 .f32 := fun i => AdamwStep.mom (g (ix2 (i 1) (i 2))) (u i)
def sqm (g : FVec Ideal S8x128 .f32) (v : FVec Ideal S1x8x128 .f32) : FVec Ideal S1x8x128 .f32 := fun i => AdamwStep.sqm (g (ix2 (i 1) (i 2))) (v i)
def delta (w : FVec Ideal S1x8x128 .f32) (g : FVec Ideal S8x128 .f32) (u v : FVec Ideal S1x8x128 .f32) : FVec Ideal S1x8x128 .f32 := fun i => AdamwStep.delta (w i) (mom g u i) (sqm g v i)

theorem point4 (c : Dev nD) (t : Fin cfg0.N) (y) : k0_pay4 (iblk m c 1 t) y
    = grad (m ((c : Thread nD τ).loc main_arg1)) (((cfg0.win 4).blk t).view.emb y) := by
  pointwise [k0_pay4, grad]
  blk_point [iblk, idx t]

theorem final4 (c : Dev nD) : (dats m 0 c).arrAt 4 cfg0.N = grad (m ((c : Thread nD τ).loc main_arg1)) := by
  refine (dats m 0 c).arrAt_eq_of_covers 4 _ (by decide +kernel) fun t _ y => ?_
  blk_simp
  rw [after0_4]; frame_out
  exact point4 m c t y

theorem point5 (c : Dev nD) (t : Fin cfg0.N) (y) : k0_pay1 (k0_pay7 (iblk m c 1 t) (iblk m c 2 t) (iblk m c 3 t) (iblk m c 0 t)) y
    = delta (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay7, k0_pay5, k0_pay6, delta, mom, sqm, AdamwStep.mom, AdamwStep.sqm, AdamwStep.delta]
  blk_point [iblk, idx t]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (k0_pay5 (iblk m c 1 t) (iblk m c 2 t)) y
    = mom (m ((c : Thread nD τ).loc main_arg1)) (m ((c : Thread nD τ).loc main_arg2)) (((cfg0.win 6).blk t).view.emb y) := by
  pointwise [k0_pay2, k0_pay5, mom, AdamwStep.mom]
  blk_point [iblk, idx t]

theorem final6 (c : Dev nD) : (dats m 0 c).arrAt 6 cfg0.N = mom (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (k0_pay6 (iblk m c 1 t) (iblk m c 3 t)) y
    = sqm (m ((c : Thread nD τ).loc main_arg1)) (m ((c : Thread nD τ).loc main_arg3)) (((cfg0.win 7).blk t).view.emb y) := by
  pointwise [k0_pay3, k0_pay6, sqm, AdamwStep.sqm]
  blk_point [iblk, idx t]

theorem final7 (c : Dev nD) : (dats m 0 c).arrAt 7 cfg0.N = sqm (m ((c : Thread nD τ).loc main_arg1)) (m ((c : Thread nD τ).loc main_arg3)) := by
  refine (dats m 0 c).arrAt_eq_of_covers 7 _ (by decide +kernel) fun t _ y => ?_
  blk_simp
  rw [after0_7]; frame_out
  exact point7 m c t y

theorem eq4 (g : FVec Ideal S8x128 .f32) : grad g = Cert.AdamwBiasRefIdeal.Read.val_main_v26 (F := Ideal) g := by
  funext i
  pointwise [grad, AdamwBiasRefIdeal.Read.val_main_v26]

theorem eq5 (w : FVec Ideal S1x8x128 .f32) (g : FVec Ideal S8x128 .f32) (u v : FVec Ideal S1x8x128 .f32) : delta w g u v = Cert.AdamwBiasRefIdeal.Read.val_main_v25 (F := Ideal) w g u v := by
  funext i
  pointwise [delta, mom, sqm, AdamwStep.mom, AdamwStep.sqm, AdamwStep.delta, AdamwBiasRefIdeal.Read.val_main_v25, AdamwBiasRefIdeal.Read.val_main_v24, AdamwBiasRefIdeal.Read.val_main_cst_7, AdamwBiasRefIdeal.Read.val_main_v23, AdamwBiasRefIdeal.Read.val_main_v20, AdamwBiasRefIdeal.Read.val_main_v14, AdamwBiasRefIdeal.Read.val_main_v5, AdamwBiasRefIdeal.Read.val_main_v1, AdamwBiasRefIdeal.Read.val_main_v0, AdamwBiasRefIdeal.Read.val_main_cst, AdamwBiasRefIdeal.Read.val_main_v4, AdamwBiasRefIdeal.Read.val_main_v3, AdamwBiasRefIdeal.Read.val_main_v2, AdamwBiasRefIdeal.Read.val_main_cst_0, AdamwBiasRefIdeal.Read.val_main_v13, AdamwBiasRefIdeal.Read.val_main_cst_3, AdamwBiasRefIdeal.Read.val_main_v19, AdamwBiasRefIdeal.Read.val_main_v17, AdamwBiasRefIdeal.Read.val_main_v16, AdamwBiasRefIdeal.Read.val_main_v12, AdamwBiasRefIdeal.Read.val_main_v7, AdamwBiasRefIdeal.Read.val_main_v6, AdamwBiasRefIdeal.Read.val_main_cst_1, AdamwBiasRefIdeal.Read.val_main_v11, AdamwBiasRefIdeal.Read.val_main_v10, AdamwBiasRefIdeal.Read.val_main_v9, AdamwBiasRefIdeal.Read.val_main_cst_2, AdamwBiasRefIdeal.Read.val_main_v8, AdamwBiasRefIdeal.Read.val_main_v15, AdamwBiasRefIdeal.Read.val_main_cst_4, AdamwBiasRefIdeal.Read.val_main_v18, AdamwBiasRefIdeal.Read.val_main_cst_5, AdamwBiasRefIdeal.Read.val_main_v22, AdamwBiasRefIdeal.Read.val_main_v21, AdamwBiasRefIdeal.Read.val_main_cst_6]

theorem eq6 (g : FVec Ideal S8x128 .f32) (u : FVec Ideal S1x8x128 .f32) : mom g u = Cert.AdamwBiasRefIdeal.Read.val_main_v5 (F := Ideal) g u := by
  funext i
  pointwise [mom, AdamwStep.mom, AdamwBiasRefIdeal.Read.val_main_v5, AdamwBiasRefIdeal.Read.val_main_v1, AdamwBiasRefIdeal.Read.val_main_v0, AdamwBiasRefIdeal.Read.val_main_cst, AdamwBiasRefIdeal.Read.val_main_v4, AdamwBiasRefIdeal.Read.val_main_v3, AdamwBiasRefIdeal.Read.val_main_v2, AdamwBiasRefIdeal.Read.val_main_cst_0]

theorem eq7 (g : FVec Ideal S8x128 .f32) (v : FVec Ideal S1x8x128 .f32) : sqm g v = Cert.AdamwBiasRefIdeal.Read.val_main_v12 (F := Ideal) g v := by
  funext i
  pointwise [sqm, AdamwStep.sqm, AdamwBiasRefIdeal.Read.val_main_v12, AdamwBiasRefIdeal.Read.val_main_v7, AdamwBiasRefIdeal.Read.val_main_v6, AdamwBiasRefIdeal.Read.val_main_cst_1, AdamwBiasRefIdeal.Read.val_main_v11, AdamwBiasRefIdeal.Read.val_main_v10, AdamwBiasRefIdeal.Read.val_main_v9, AdamwBiasRefIdeal.Read.val_main_cst_2, AdamwBiasRefIdeal.Read.val_main_v8]

end Cert.AdamwBiasFinal

end
-- ==== Proof.AdamwBiasClaim.lean ====
module

public import proofs.«01_k».proof.Defs
public import proofs.«01_k».proof.Proof.AdamwBiasValue
public import proofs.«01_k».proof.Proof.Gen.AdamwBiasRefIdeal.Run

/-! The claims about the AdamW update of the spatial bias. -/

@[expose] public section

set_option maxRecDepth 16384

noncomputable section

namespace Cert.AdamwBiasFinal

open Idealize.ShloMosaic Idealize.ShloMosaic.TcCoe Idealize.SL.Sem

/-- The reference leaves its arguments, and it has no counters. -/
theorem quiescent_ref : Cert.quiescent_AdamwBiasRefIdeal := fun m g _ =>
  (θ_run Cert.AdamwBiasRefIdeal.defs _ _).mono
    (fun r h => ⟨fun c => (h c).2.2.2.2, sem_eq_zero_of_no_sems (by decide) r.2⟩)
    (Cert.AdamwBiasRefIdeal.Value.run m g)

/-- Both programs leave the same results. -/
theorem algebraic : Cert.algebraic_AdamwBiasIdeal_AdamwBiasRefIdeal := by
  pair_intro
  · run_from Cert.AdamwBiasIdeal.Value.run_blocks m g
  · run_from Cert.AdamwBiasRefIdeal.Value.run m' g'
    · exact ((final4 m c).trans (eq4 _)).symm
    · exact ((final5 m c).trans (eq5 _ _ _ _)).symm
    · exact ((final6 m c).trans (eq6 _ _)).symm
    · exact ((final7 m c).trans (eq7 _ _)).symm

end Cert.AdamwBiasFinal

end
-- ==== Proof.lean ====
/- The claim: each program's frame is the generated one; each equality of values is proved in the module of its program. -/
module

public import proofs.«01_k».proof.Defs
public import proofs.«01_k».proof.Proof.Gen.Forget.Frame
public import proofs.«01_k».proof.Proof.Gen.ForgetIdeal.Frame
public import proofs.«01_k».proof.Proof.ForgetClaim
public import proofs.«01_k».proof.Proof.Gen.Gate.Frame
public import proofs.«01_k».proof.Proof.Gen.GateIdeal.Frame
public import proofs.«01_k».proof.Proof.GateClaim
public import proofs.«01_k».proof.Proof.Gen.Relu2.Frame
public import proofs.«01_k».proof.Proof.Gen.Relu2Ideal.Frame
public import proofs.«01_k».proof.Proof.Relu2Claim
public import proofs.«01_k».proof.Proof.Gen.Norms.Frame
public import proofs.«01_k».proof.Proof.Gen.NormsIdeal.Frame
public import proofs.«01_k».proof.Proof.NormsClaim
public import proofs.«01_k».proof.Proof.Gen.Loss.Frame
public import proofs.«01_k».proof.Proof.Gen.LossIdeal.Frame
public import proofs.«01_k».proof.Proof.LossClaim
public import proofs.«01_k».proof.Proof.Gen.DInput.Frame
public import proofs.«01_k».proof.Proof.Gen.DInputIdeal.Frame
public import proofs.«01_k».proof.Proof.DInputClaim
public import proofs.«01_k».proof.Proof.Gen.DwDown.Frame
public import proofs.«01_k».proof.Proof.Gen.DwDownIdeal.Frame
public import proofs.«01_k».proof.Proof.DwDownClaim
public import proofs.«01_k».proof.Proof.Gen.DwUp.Frame
public import proofs.«01_k».proof.Proof.Gen.DwUpIdeal.Frame
public import proofs.«01_k».proof.Proof.DwUpClaim
public import proofs.«01_k».proof.Proof.Gen.DwOut.Frame
public import proofs.«01_k».proof.Proof.Gen.DwOutIdeal.Frame
public import proofs.«01_k».proof.Proof.DwOutClaim
public import proofs.«01_k».proof.Proof.Gen.DwBranch.Frame
public import proofs.«01_k».proof.Proof.Gen.DwBranchIdeal.Frame
public import proofs.«01_k».proof.Proof.DwBranchClaim
public import proofs.«01_k».proof.Proof.Gen.DwMix.Frame
public import proofs.«01_k».proof.Proof.Gen.DwMixIdeal.Frame
public import proofs.«01_k».proof.Proof.DwMixClaim
public import proofs.«01_k».proof.Proof.Gen.DwGates.Frame
public import proofs.«01_k».proof.Proof.Gen.DwGatesIdeal.Frame
public import proofs.«01_k».proof.Proof.DwGatesClaim
public import proofs.«01_k».proof.Proof.Gen.DBranch.Frame
public import proofs.«01_k».proof.Proof.Gen.DBranchIdeal.Frame
public import proofs.«01_k».proof.Proof.DBranchClaim
public import proofs.«01_k».proof.Proof.Gen.Up.Frame
public import proofs.«01_k».proof.Proof.Gen.UpIdeal.Frame
public import proofs.«01_k».proof.Proof.UpClaim
public import proofs.«01_k».proof.Proof.Gen.Proj.Frame
public import proofs.«01_k».proof.Proof.Gen.ProjIdeal.Frame
public import proofs.«01_k».proof.Proof.ProjClaim
public import proofs.«01_k».proof.Proof.Gen.Merge.Frame
public import proofs.«01_k».proof.Proof.Gen.MergeIdeal.Frame
public import proofs.«01_k».proof.Proof.MergeClaim
public import proofs.«01_k».proof.Proof.Gen.Out.Frame
public import proofs.«01_k».proof.Proof.Gen.OutIdeal.Frame
public import proofs.«01_k».proof.Proof.OutClaim
public import proofs.«01_k».proof.Proof.Gen.Sgu.Frame
public import proofs.«01_k».proof.Proof.Gen.SguIdeal.Frame
public import proofs.«01_k».proof.Proof.SguClaim
public import proofs.«01_k».proof.Proof.Gen.Adamw.Frame
public import proofs.«01_k».proof.Proof.Gen.AdamwIdeal.Frame
public import proofs.«01_k».proof.Proof.AdamwClaim
public import proofs.«01_k».proof.Proof.Gen.AdamwIn.Frame
public import proofs.«01_k».proof.Proof.Gen.AdamwInIdeal.Frame
public import proofs.«01_k».proof.Proof.AdamwInClaim
public import proofs.«01_k».proof.Proof.Gen.AdamwBranch.Frame
public import proofs.«01_k».proof.Proof.Gen.AdamwBranchIdeal.Frame
public import proofs.«01_k».proof.Proof.AdamwBranchClaim
public import proofs.«01_k».proof.Proof.Gen.AdamwOut.Frame
public import proofs.«01_k».proof.Proof.Gen.AdamwOutIdeal.Frame
public import proofs.«01_k».proof.Proof.AdamwOutClaim
public import proofs.«01_k».proof.Proof.Gen.AdamwGain.Frame
public import proofs.«01_k».proof.Proof.Gen.AdamwGainIdeal.Frame
public import proofs.«01_k».proof.Proof.AdamwGainClaim
public import proofs.«01_k».proof.Proof.Gen.AdamwForget.Frame
public import proofs.«01_k».proof.Proof.Gen.AdamwForgetIdeal.Frame
public import proofs.«01_k».proof.Proof.AdamwForgetClaim
public import proofs.«01_k».proof.Proof.Gen.AdamwSgu.Frame
public import proofs.«01_k».proof.Proof.Gen.AdamwSguIdeal.Frame
public import proofs.«01_k».proof.Proof.AdamwSguClaim
public import proofs.«01_k».proof.Proof.Gen.AdamwSpatial.Frame
public import proofs.«01_k».proof.Proof.Gen.AdamwSpatialIdeal.Frame
public import proofs.«01_k».proof.Proof.AdamwSpatialClaim
public import proofs.«01_k».proof.Proof.Gen.AdamwBias.Frame
public import proofs.«01_k».proof.Proof.Gen.AdamwBiasIdeal.Frame
public import proofs.«01_k».proof.Proof.AdamwBiasClaim
public import Idealize.ShloMosaic.Adequacy
public import Idealize.ShloMosaic.Init

@[expose] public section

noncomputable section

namespace Cert.Proof

open Idealize.ShloMosaic Idealize.SL.Sem

theorem claim : Cert.Claim := ⟨Cert.Forget.Gen.facts, Cert.ForgetIdeal.Gen.facts, Cert.ForgetRefIdeal.Gen.facts, Cert.Gate.Gen.facts, Cert.GateIdeal.Gen.facts, Cert.GateRefIdeal.Gen.facts, Cert.Relu2.Gen.facts, Cert.Relu2Ideal.Gen.facts, Cert.Relu2RefIdeal.Gen.facts, Cert.Norms.Gen.facts, Cert.NormsIdeal.Gen.facts, Cert.NormsRefIdeal.Gen.facts, Cert.Loss.Gen.facts, Cert.LossIdeal.Gen.facts, Cert.LossRefIdeal.Gen.facts, Cert.DInput.Gen.facts, Cert.DInputIdeal.Gen.facts, Cert.DInputRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DwOut.Gen.facts, Cert.DwOutIdeal.Gen.facts, Cert.DwOutRefIdeal.Gen.facts, Cert.DwBranch.Gen.facts, Cert.DwBranchIdeal.Gen.facts, Cert.DwBranchRefIdeal.Gen.facts, Cert.DwMix.Gen.facts, Cert.DwMixIdeal.Gen.facts, Cert.DwMixRefIdeal.Gen.facts, Cert.DwGates.Gen.facts, Cert.DwGatesIdeal.Gen.facts, Cert.DwGatesRefIdeal.Gen.facts, Cert.DBranch.Gen.facts, Cert.DBranchIdeal.Gen.facts, Cert.DBranchRefIdeal.Gen.facts, Cert.Up.Gen.facts, Cert.UpIdeal.Gen.facts, Cert.UpRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Sgu.Gen.facts, Cert.SguIdeal.Gen.facts, Cert.SguRefIdeal.Gen.facts, Cert.Adamw.Gen.facts, Cert.AdamwIdeal.Gen.facts, Cert.AdamwRefIdeal.Gen.facts, Cert.AdamwIn.Gen.facts, Cert.AdamwInIdeal.Gen.facts, Cert.AdamwInRefIdeal.Gen.facts, Cert.AdamwBranch.Gen.facts, Cert.AdamwBranchIdeal.Gen.facts, Cert.AdamwBranchRefIdeal.Gen.facts, Cert.AdamwOut.Gen.facts, Cert.AdamwOutIdeal.Gen.facts, Cert.AdamwOutRefIdeal.Gen.facts, Cert.AdamwGain.Gen.facts, Cert.AdamwGainIdeal.Gen.facts, Cert.AdamwGainRefIdeal.Gen.facts, Cert.AdamwForget.Gen.facts, Cert.AdamwForgetIdeal.Gen.facts, Cert.AdamwForgetRefIdeal.Gen.facts, Cert.AdamwSgu.Gen.facts, Cert.AdamwSguIdeal.Gen.facts, Cert.AdamwSguRefIdeal.Gen.facts, Cert.AdamwSpatial.Gen.facts, Cert.AdamwSpatialIdeal.Gen.facts, Cert.AdamwSpatialRefIdeal.Gen.facts, Cert.AdamwBias.Gen.facts, Cert.AdamwBiasIdeal.Gen.facts, Cert.AdamwBiasRefIdeal.Gen.facts, ForgetFinal.factsPre,
  fun m ρ _ => Cert.Forget.Gen.frame m ρ,
  fun m ρ _ => Cert.ForgetIdeal.Gen.frame m ρ,
  fun m ρ _ => Cert.ForgetIdeal.Gen.frame m ρ,
  ForgetFinal.quiescent_ref,
  fun m ρ _ => ForgetFinal.quiescent_ref m ρ trivial,
  fun m ρ _ => Cert.Gate.Gen.frame m ρ,
  fun m ρ _ => Cert.GateIdeal.Gen.frame m ρ,
  GateFinal.quiescent_ref,
  fun m ρ _ => Cert.Relu2.Gen.frame m ρ,
  fun m ρ _ => Cert.Relu2Ideal.Gen.frame m ρ,
  Relu2Final.quiescent_ref,
  fun m ρ _ => Cert.Norms.Gen.frame m ρ,
  fun m ρ _ => Cert.NormsIdeal.Gen.frame m ρ,
  NormsFinal.quiescent_ref,
  fun m ρ _ => Cert.Loss.Gen.frame m ρ,
  fun m ρ _ => Cert.LossIdeal.Gen.frame m ρ,
  LossFinal.quiescent_ref,
  fun m ρ _ => Cert.DInput.Gen.frame m ρ,
  fun m ρ _ => Cert.DInputIdeal.Gen.frame m ρ,
  DInputFinal.quiescent_ref,
  fun m ρ _ => Cert.DwDown.Gen.frame m ρ,
  fun m ρ _ => Cert.DwDownIdeal.Gen.frame m ρ,
  DwDownFinal.quiescent_ref,
  fun m ρ _ => Cert.DwUp.Gen.frame m ρ,
  fun m ρ _ => Cert.DwUpIdeal.Gen.frame m ρ,
  DwUpFinal.quiescent_ref,
  fun m ρ _ => Cert.DwOut.Gen.frame m ρ,
  fun m ρ _ => Cert.DwOutIdeal.Gen.frame m ρ,
  DwOutFinal.quiescent_ref,
  fun m ρ _ => Cert.DwBranch.Gen.frame m ρ,
  fun m ρ _ => Cert.DwBranchIdeal.Gen.frame m ρ,
  DwBranchFinal.quiescent_ref,
  fun m ρ _ => Cert.DwMix.Gen.frame m ρ,
  fun m ρ _ => Cert.DwMixIdeal.Gen.frame m ρ,
  DwMixFinal.quiescent_ref,
  fun m ρ _ => Cert.DwGates.Gen.frame m ρ,
  fun m ρ _ => Cert.DwGatesIdeal.Gen.frame m ρ,
  DwGatesFinal.quiescent_ref,
  fun m ρ _ => Cert.DBranch.Gen.frame m ρ,
  fun m ρ _ => Cert.DBranchIdeal.Gen.frame m ρ,
  DBranchFinal.quiescent_ref,
  fun m ρ _ => Cert.Up.Gen.frame m ρ,
  fun m ρ _ => Cert.UpIdeal.Gen.frame m ρ,
  UpFinal.quiescent_ref,
  fun m ρ _ => Cert.Proj.Gen.frame m ρ,
  fun m ρ _ => Cert.ProjIdeal.Gen.frame m ρ,
  ProjFinal.quiescent_ref,
  fun m ρ _ => Cert.Merge.Gen.frame m ρ,
  fun m ρ _ => Cert.MergeIdeal.Gen.frame m ρ,
  MergeFinal.quiescent_ref,
  fun m ρ _ => Cert.Out.Gen.frame m ρ,
  fun m ρ _ => Cert.OutIdeal.Gen.frame m ρ,
  OutFinal.quiescent_ref,
  fun m ρ _ => Cert.Sgu.Gen.frame m ρ,
  fun m ρ _ => Cert.SguIdeal.Gen.frame m ρ,
  SguFinal.quiescent_ref,
  fun m ρ _ => Cert.Adamw.Gen.frame m ρ,
  fun m ρ _ => Cert.AdamwIdeal.Gen.frame m ρ,
  AdamwFinal.quiescent_ref,
  fun m ρ _ => Cert.AdamwIn.Gen.frame m ρ,
  fun m ρ _ => Cert.AdamwInIdeal.Gen.frame m ρ,
  AdamwInFinal.quiescent_ref,
  fun m ρ _ => Cert.AdamwBranch.Gen.frame m ρ,
  fun m ρ _ => Cert.AdamwBranchIdeal.Gen.frame m ρ,
  AdamwBranchFinal.quiescent_ref,
  fun m ρ _ => Cert.AdamwOut.Gen.frame m ρ,
  fun m ρ _ => Cert.AdamwOutIdeal.Gen.frame m ρ,
  AdamwOutFinal.quiescent_ref,
  fun m ρ _ => Cert.AdamwGain.Gen.frame m ρ,
  fun m ρ _ => Cert.AdamwGainIdeal.Gen.frame m ρ,
  AdamwGainFinal.quiescent_ref,
  fun m ρ _ => Cert.AdamwForget.Gen.frame m ρ,
  fun m ρ _ => Cert.AdamwForgetIdeal.Gen.frame m ρ,
  AdamwForgetFinal.quiescent_ref,
  fun m ρ _ => Cert.AdamwSgu.Gen.frame m ρ,
  fun m ρ _ => Cert.AdamwSguIdeal.Gen.frame m ρ,
  AdamwSguFinal.quiescent_ref,
  fun m ρ _ => Cert.AdamwSpatial.Gen.frame m ρ,
  fun m ρ _ => Cert.AdamwSpatialIdeal.Gen.frame m ρ,
  AdamwSpatialFinal.quiescent_ref,
  fun m ρ _ => Cert.AdamwBias.Gen.frame m ρ,
  fun m ρ _ => Cert.AdamwBiasIdeal.Gen.frame m ρ,
  AdamwBiasFinal.quiescent_ref,
  trivial,
  ForgetFinal.algebraic,
  trivial,
  GateFinal.algebraic,
  trivial,
  Relu2Final.algebraic,
  trivial,
  NormsFinal.algebraic,
  trivial,
  LossFinal.algebraic,
  trivial,
  DInputFinal.algebraic,
  trivial,
  DwDownFinal.algebraic,
  trivial,
  DwUpFinal.algebraic,
  trivial,
  DwOutFinal.algebraic,
  trivial,
  DwBranchFinal.algebraic,
  trivial,
  DwMixFinal.algebraic,
  trivial,
  DwGatesFinal.algebraic,
  trivial,
  DBranchFinal.algebraic,
  trivial,
  UpFinal.algebraic,
  trivial,
  ProjFinal.algebraic,
  trivial,
  MergeFinal.algebraic,
  trivial,
  OutFinal.algebraic,
  trivial,
  SguFinal.algebraic,
  trivial,
  AdamwFinal.algebraic,
  trivial,
  AdamwInFinal.algebraic,
  trivial,
  AdamwBranchFinal.algebraic,
  trivial,
  AdamwOutFinal.algebraic,
  trivial,
  AdamwGainFinal.algebraic,
  trivial,
  AdamwForgetFinal.algebraic,
  trivial,
  AdamwSguFinal.algebraic,
  trivial,
  AdamwSpatialFinal.algebraic,
  trivial,
  AdamwBiasFinal.algebraic⟩

end Cert.Proof

end
